-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v69)) (v1 : (c : Dev Cert.Kernel3Ideal.nD) → Buf (Elt Ideal) ((c.tc : Thread Cert.Kernel3Ideal.nD Cert.Kernel3Ideal.τ).loc Cert.Kernel3Ideal.main_v72)) (v2 : (c : Dev Cert.Kernel3Ideal.nD) → Buf (Elt Ideal) ((c.tc : Thread Cert.Kernel3Ideal.nD Cert.Kernel3Ideal.τ).loc Cert.Kernel3Ideal.main_v74)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v69) = v0 c
          ∧ r.2.mem ((c.tc : Thread Cert.Kernel3Ideal.nD Cert.Kernel3Ideal.τ).loc Cert.Kernel3Ideal.main_v72) = v1 c
          ∧ r.2.mem ((c.tc : Thread Cert.Kernel3Ideal.nD Cert.Kernel3Ideal.τ).loc Cert.Kernel3Ideal.main_v74) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v89) = v0 c
          ∧ r.2.mem ((c.tc : Thread Cert.Reference3Ideal.nD Cert.Reference3Ideal.τ).loc Cert.Reference3Ideal.main_v91) = v1 c
          ∧ r.2.mem ((c.tc : Thread Cert.Reference3Ideal.nD Cert.Reference3Ideal.τ).loc Cert.Reference3Ideal.main_v93) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v73)) (v1 : (c : Dev Cert.Kernel4Ideal.nD) → Buf (Elt Ideal) ((c.tc : Thread Cert.Kernel4Ideal.nD Cert.Kernel4Ideal.τ).loc Cert.Kernel4Ideal.main_v76)) (v2 : (c : Dev Cert.Kernel4Ideal.nD) → Buf (Elt Ideal) ((c.tc : Thread Cert.Kernel4Ideal.nD Cert.Kernel4Ideal.τ).loc Cert.Kernel4Ideal.main_v78)) (v3 : (c : Dev Cert.Kernel4Ideal.nD) → Buf (Elt Ideal) ((c.tc : Thread Cert.Kernel4Ideal.nD Cert.Kernel4Ideal.τ).loc Cert.Kernel4Ideal.main_v79)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v73) = v0 c
          ∧ r.2.mem ((c.tc : Thread Cert.Kernel4Ideal.nD Cert.Kernel4Ideal.τ).loc Cert.Kernel4Ideal.main_v76) = v1 c
          ∧ r.2.mem ((c.tc : Thread Cert.Kernel4Ideal.nD Cert.Kernel4Ideal.τ).loc Cert.Kernel4Ideal.main_v78) = v2 c
          ∧ r.2.mem ((c.tc : Thread Cert.Kernel4Ideal.nD Cert.Kernel4Ideal.τ).loc Cert.Kernel4Ideal.main_v79) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v163) = v0 c
          ∧ r.2.mem ((c.tc : Thread Cert.Reference4Ideal.nD Cert.Reference4Ideal.τ).loc Cert.Reference4Ideal.main_v164) = v1 c
          ∧ r.2.mem ((c.tc : Thread Cert.Reference4Ideal.nD Cert.Reference4Ideal.τ).loc Cert.Reference4Ideal.main_v166) = v2 c
          ∧ r.2.mem ((c.tc : Thread Cert.Reference4Ideal.nD Cert.Reference4Ideal.τ).loc Cert.Reference4Ideal.main_v168) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4x2176x6144 : Shape := ⟨3, ![4, 2176, 6144]⟩
abbrev S4x128 : Shape := ⟨2, ![4, 128]⟩
abbrev S256 : Shape := ⟨1, ![256]⟩
abbrev S4x2176x48x128 : Shape := ⟨4, ![4, 2176, 48, 128]⟩
abbrev S_ : Shape := ⟨0, ![]⟩
abbrev S4x1x1x128 : Shape := ⟨4, ![4, 1, 1, 128]⟩

class Facts : Prop where
  shapeCasts_S4x2176x6144_S4x2176x48x128 : S4x2176x6144.ShapeCasts S4x2176x48x128
  bcast_S_S4x2176x48x128 : S_.BroadcastsInDim S4x2176x48x128 (![] : Fin 0 → Fin S4x2176x48x128.rank)
  bcast_S4x128_S4x1x1x128_0_3 : S4x128.BroadcastsInDim S4x1x1x128 (![0, 3] : Fin 2 → Fin S4x1x1x128.rank)
  bcast_S_S4x1x1x128 : S_.BroadcastsInDim S4x1x1x128 (![] : Fin 0 → Fin S4x1x1x128.rank)
  bcast_S4x1x1x128_S4x2176x48x128_0_1_2_3 : S4x1x1x128.BroadcastsInDim S4x2176x48x128 (![0, 1, 2, 3] : Fin 4 → Fin S4x2176x48x128.rank)

variable [Facts]

def fn {F : FTy → Type} [FloatOps F] (main_arg0 : FVec F S4x2176x6144 .f32) (main_arg1 : FVec F S4x128 .f32) (main_arg2 : FVec F S256 .f32) : IVec S4x2176x48x128 1 :=
  let main_v0 : FVec F S4x2176x48x128 .f32 := shapeCast S4x2176x48x128 main_arg0 shapeCasts_S4x2176x6144_S4x2176x48x128
  let main_v1 : FVec F S4x2176x48x128 .f32 := Host.absf main_v0
  let main_cst : FVec F S_ .f32 := constant S_ .f32 0x7F800000#32
  let main_v2 : FVec F S4x2176x48x128 .f32 := broadcastInDim S4x2176x48x128 ![] bcast_S_S4x2176x48x128 main_cst
  let main_v3 : IVec S4x2176x48x128 1 := cmpf .olt main_v1 main_v2
  let main_v4 : FVec F S4x128 .f32 := Host.absf main_arg1
  let main_v5 : FVec F S4x1x1x128 .f32 := broadcastInDim S4x1x1x128 ![0, 3] bcast_S4x128_S4x1x1x128_0_3 main_v4
  let main_cst_0 : FVec F S_ .f32 := constant S_ .f32 0x7F800000#32
  let main_v6 : FVec F S4x1x1x128 .f32 := broadcastInDim S4x1x1x128 ![] bcast_S_S4x1x1x128 main_cst_0
  let main_v7 : IVec S4x1x1x128 1 := cmpf .olt main_v5 main_v6
  let main_v8 : IVec S4x2176x48x128 1 := broadcastInDim S4x2176x48x128 ![0, 1, 2, 3] bcast_S4x1x1x128_S4x2176x48x128_0_1_2_3 main_v7
  let main_v9 : IVec S4x2176x48x128 1 := andi main_v3 main_v8
  main_v9
-- ==== Kernel.lean ====
abbrev S4x2176x6144 : Shape := ⟨3, ![4, 2176, 6144]⟩
abbrev S4x128 : Shape := ⟨2, ![4, 128]⟩
abbrev S256 : Shape := ⟨1, ![256]⟩
abbrev S1x256 : Shape := ⟨2, ![1, 256]⟩
abbrev S4x2176x2048 : Shape := ⟨3, ![4, 2176, 2048]⟩
abbrev S1x128x2048 : Shape := ⟨3, ![1, 128, 2048]⟩
abbrev S1x2176x1024 : Shape := ⟨3, ![1, 2176, 1024]⟩
abbrev S8x2304x128 : Shape := ⟨3, ![8, 2304, 128]⟩
abbrev S4x2304x256 : Shape := ⟨3, ![4, 2304, 256]⟩
abbrev S1x2176x128 : Shape := ⟨3, ![1, 2176, 128]⟩
abbrev S2176x128 : Shape := ⟨2, ![2176, 128]⟩
abbrev S1x2304x128 : Shape := ⟨3, ![1, 2304, 128]⟩
abbrev S2304x128 : Shape := ⟨2, ![2304, 128]⟩
abbrev S128x128 : Shape := ⟨2, ![128, 128]⟩
abbrev S1x128x128 : Shape := ⟨3, ![1, 128, 128]⟩
abbrev S1x2176x256 : Shape := ⟨3, ![1, 2176, 256]⟩
abbrev S2176x256 : Shape := ⟨2, ![2176, 256]⟩
abbrev S1x2304x256 : Shape := ⟨3, ![1, 2304, 256]⟩
abbrev S2304x256 : Shape := ⟨2, ![2304, 256]⟩
abbrev S128x256 : Shape := ⟨2, ![128, 256]⟩
abbrev S1x128x256 : Shape := ⟨3, ![1, 128, 256]⟩
abbrev S1x128 : Shape := ⟨2, ![1, 128]⟩
abbrev S1 : Shape := ⟨1, ![1]⟩
abbrev S1x1 : Shape := ⟨2, ![1, 1]⟩
abbrev S256x128 : Shape := ⟨2, ![256, 128]⟩
abbrev S512x1 : Shape := ⟨2, ![512, 1]⟩
abbrev S512x256 : Shape := ⟨2, ![512, 256]⟩
abbrev S256x256 : Shape := ⟨2, ![256, 256]⟩
abbrev S512 : Shape := ⟨1, ![512]⟩
abbrev S128 : Shape := ⟨1, ![128]⟩
abbrev S128x1 : Shape := ⟨2, ![128, 1]⟩

abbrev nBuf : Space → Nat
  | .hbm => 5
  | .vmem => 10
  | .smem => 0
  | _ => 0

abbrev bufTy : (tb : Table) → Fin (tcTables nBuf tb) → BufTy
  | .hbm, ⟨0, _⟩ => ⟨S4x2176x6144, .f32⟩
  | .hbm, ⟨1, _⟩ => ⟨S4x128, .f32⟩
  | .hbm, ⟨2, _⟩ => ⟨S256, .f32⟩
  | .hbm, ⟨3, _⟩ => ⟨S1x256, .f32⟩
  | .hbm, ⟨4, _⟩ => ⟨S4x2176x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x2176x1024, .f32⟩
  | .local _ .vmem, ⟨3, _⟩ => ⟨S1x2176x1024, .f32⟩
  | .local _ .vmem, ⟨4, _⟩ => ⟨S4x128, .f32⟩
  | .local _ .vmem, ⟨5, _⟩ => ⟨S1x256, .f32⟩
  | .local _ .vmem, ⟨6, _⟩ => ⟨S1x128x2048, .f32⟩
  | .local _ .vmem, ⟨7, _⟩ => ⟨S1x128x2048, .f32⟩
  | .local _ .vmem, ⟨8, _⟩ => ⟨S8x2304x128, .bf16⟩
  | .local _ .vmem, ⟨9, _⟩ => ⟨S4x2304x256, .bf16⟩
  | _, _ => ⟨S4x2176x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 17], ![false, false]⟩

@[reducible] def k0_t1_loop (i : grid0.Coords) : Scf.Loop 32 :=
  let c0_i32_20 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_16 : BitVec 32 := 1#32
  let v37 : BitVec 32 := Scalar.subi v20 c1_i32_16
  let v38 : BitVec 32 := Scalar.subi v37 c0_i32_20
  let c1_i32_21 : BitVec 32 := 1#32
  let v40 : BitVec 32 := Scalar.divsi v38 c1_i32_21
  let v41 : BitVec 32 := Scalar.muli v40 c1_i32_21
  let v42 : BitVec 32 := Scalar.addi c0_i32_20 v41
  let c1_i32_22 : BitVec 32 := 1#32
  ⟨c0_i32_20, v42, c1_i32_22⟩
def k0_mult1 (i : grid0.Coords) (k0_t1 : Fin (k0_t1_loop i).trips) : BitVec 32 :=
  let c0_i32_20 : BitVec 32 := 0#32
  let c1_i32_22 : BitVec 32 := 1#32
  let arg10 : BitVec 32 := Scf.iv c0_i32_20 c1_i32_22 k0_t1
  let c256_i32_234 : BitVec 32 := 256#32
  let v493 : BitVec 32 := Scalar.muli arg10 c256_i32_234
  v493
def k0_off1 (i : grid0.Coords) (k0_t1 : Fin (k0_t1_loop i).trips) : Fin 2 → Nat :=
  let c0_i32_20 : BitVec 32 := 0#32
  let c1_i32_22 : BitVec 32 := 1#32
  let arg10 : BitVec 32 := Scf.iv c0_i32_20 c1_i32_22 k0_t1
  let c256_i32_234 : BitVec 32 := 256#32
  let v493 : BitVec 32 := Scalar.muli arg10 c256_i32_234
  let v494 : BitVec 32 := v493
  let v497 : Index := Scalar.indexCast v494
  let c0_237 : Index := 0#32
  ![v497.toNat, 0]
def k0_off2 (i : grid0.Coords) (k0_t1 : Fin (k0_t1_loop i).trips) : Fin 2 → Nat :=
  let c0_i32_20 : BitVec 32 := 0#32
  let c1_i32_22 : BitVec 32 := 1#32
  let arg10 : BitVec 32 := Scf.iv c0_i32_20 c1_i32_22 k0_t1
  let c256_i32_234 : BitVec 32 := 256#32
  let v493 : BitVec 32 := Scalar.muli arg10 c256_i32_234
  let v494 : BitVec 32 := v493
  let v525 : Index := Scalar.indexCast v494
  let c0_248 : Index := 0#32
  ![v525.toNat, 0]
@[reducible] def k0_t2_loop (i : grid0.Coords) : Scf.Loop 32 :=
  let c0_i32_20 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_16 : BitVec 32 := 1#32
  let v37 : BitVec 32 := Scalar.subi v20 c1_i32_16
  let v38 : BitVec 32 := Scalar.subi v37 c0_i32_20
  let c1_i32_21 : BitVec 32 := 1#32
  let v40 : BitVec 32 := Scalar.divsi v38 c1_i32_21
  let v41 : BitVec 32 := Scalar.muli v40 c1_i32_21
  let v42 : BitVec 32 := Scalar.addi c0_i32_20 v41
  let v39 : BitVec 32 := Scalar.addi c0_i32_20 v38
  let c1_i32_23 : BitVec 32 := 1#32
  ⟨v42, v39, c1_i32_23⟩
def k0_mult2 (i : grid0.Coords) (k0_t2 : Fin (k0_t2_loop i).trips) : BitVec 32 :=
  let c0_i32_20 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_16 : BitVec 32 := 1#32
  let v37 : BitVec 32 := Scalar.subi v20 c1_i32_16
  let v38 : BitVec 32 := Scalar.subi v37 c0_i32_20
  let c1_i32_21 : BitVec 32 := 1#32
  let v40 : BitVec 32 := Scalar.divsi v38 c1_i32_21
  let v41 : BitVec 32 := Scalar.muli v40 c1_i32_21
  let v42 : BitVec 32 := Scalar.addi c0_i32_20 v41
  let c1_i32_23 : BitVec 32 := 1#32
  let arg10 : BitVec 32 := Scf.iv v42 c1_i32_23 k0_t2
  let c256_i32_234 : BitVec 32 := 256#32
  let v493 : BitVec 32 := Scalar.muli arg10 c256_i32_234
  v493
def k0_off3 (i : grid0.Coords) (k0_t2 : Fin (k0_t2_loop i).trips) : Fin 2 → Nat :=
  let c0_i32_20 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_16 : BitVec 32 := 1#32
  let v37 : BitVec 32 := Scalar.subi v20 c1_i32_16
  let v38 : BitVec 32 := Scalar.subi v37 c0_i32_20
  let c1_i32_21 : BitVec 32 := 1#32
  let v40 : BitVec 32 := Scalar.divsi v38 c1_i32_21
  let v41 : BitVec 32 := Scalar.muli v40 c1_i32_21
  let v42 : BitVec 32 := Scalar.addi c0_i32_20 v41
  let c1_i32_23 : BitVec 32 := 1#32
  let arg10 : BitVec 32 := Scf.iv v42 c1_i32_23 k0_t2
  let c256_i32_234 : BitVec 32 := 256#32
  let v493 : BitVec 32 := Scalar.muli arg10 c256_i32_234
  let v494 : BitVec 32 := v493
  let v497 : Index := Scalar.indexCast v494
  let c0_237 : Index := 0#32
  ![v497.toNat, 0]
def k0_off4 (i : grid0.Coords) (k0_t2 : Fin (k0_t2_loop i).trips) : Fin 2 → Nat :=
  let c0_i32_20 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_16 : BitVec 32 := 1#32
  let v37 : BitVec 32 := Scalar.subi v20 c1_i32_16
  let v38 : BitVec 32 := Scalar.subi v37 c0_i32_20
  let c1_i32_21 : BitVec 32 := 1#32
  let v40 : BitVec 32 := Scalar.divsi v38 c1_i32_21
  let v41 : BitVec 32 := Scalar.muli v40 c1_i32_21
  let v42 : BitVec 32 := Scalar.addi c0_i32_20 v41
  let c1_i32_23 : BitVec 32 := 1#32
  let arg10 : BitVec 32 := Scf.iv v42 c1_i32_23 k0_t2
  let c256_i32_234 : BitVec 32 := 256#32
  let v493 : BitVec 32 := Scalar.muli arg10 c256_i32_234
  let v494 : BitVec 32 := v493
  let v525 : Index := Scalar.indexCast v494
  let c0_248 : Index := 0#32
  ![v525.toNat, 0]
def k0_mult3 (i : grid0.Coords) : BitVec 32 :=
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_24 : BitVec 32 := 1#32
  let v45 : BitVec 32 := Scalar.subi v20 c1_i32_24
  let c256_i32 : BitVec 32 := 256#32
  let v46 : BitVec 32 := Scalar.muli v45 c256_i32
  v46
def k0_off5 (i : grid0.Coords) : Fin 2 → Nat :=
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_24 : BitVec 32 := 1#32
  let v45 : BitVec 32 := Scalar.subi v20 c1_i32_24
  let c256_i32 : BitVec 32 := 256#32
  let v46 : BitVec 32 := Scalar.muli v45 c256_i32
  let v47 : BitVec 32 := v46
  let v50 : Index := Scalar.indexCast v47
  let c0_28 : Index := 0#32
  ![v50.toNat, 0]
def k0_off6 (i : grid0.Coords) : Fin 2 → Nat :=
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_24 : BitVec 32 := 1#32
  let v45 : BitVec 32 := Scalar.subi v20 c1_i32_24
  let c256_i32 : BitVec 32 := 256#32
  let v46 : BitVec 32 := Scalar.muli v45 c256_i32
  let v47 : BitVec 32 := v46
  let v88 : Index := Scalar.indexCast v47
  let c0_42 : Index := 0#32
  ![v88.toNat, 0]
@[reducible] def k0_t3_loop (i : grid0.Coords) : Scf.Loop 32 :=
  let c0_i32_77 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_74 : BitVec 32 := 1#32
  let v155 : BitVec 32 := Scalar.subi v20 c1_i32_74
  let v156 : BitVec 32 := Scalar.subi v155 c0_i32_77
  let c1_i32_78 : BitVec 32 := 1#32
  let v158 : BitVec 32 := Scalar.divsi v156 c1_i32_78
  let v159 : BitVec 32 := Scalar.muli v158 c1_i32_78
  let v160 : BitVec 32 := Scalar.addi c0_i32_77 v159
  let c1_i32_79 : BitVec 32 := 1#32
  ⟨c0_i32_77, v160, c1_i32_79⟩
def k0_mult4 (i : grid0.Coords) (k0_t3 : Fin (k0_t3_loop i).trips) : BitVec 32 :=
  let c0_i32_77 : BitVec 32 := 0#32
  let c1_i32_79 : BitVec 32 := 1#32
  let arg10 : BitVec 32 := Scf.iv c0_i32_77 c1_i32_79 k0_t3
  let c256_i32_234 : BitVec 32 := 256#32
  let v493 : BitVec 32 := Scalar.muli arg10 c256_i32_234
  v493
def k0_off7 (i : grid0.Coords) (k0_t3 : Fin (k0_t3_loop i).trips) : Fin 2 → Nat :=
  let c0_i32_77 : BitVec 32 := 0#32
  let c1_i32_79 : BitVec 32 := 1#32
  let arg10 : BitVec 32 := Scf.iv c0_i32_77 c1_i32_79 k0_t3
  let c256_i32_234 : BitVec 32 := 256#32
  let v493 : BitVec 32 := Scalar.muli arg10 c256_i32_234
  let v494 : BitVec 32 := v493
  let v497 : Index := Scalar.indexCast v494
  let c0_237 : Index := 0#32
  ![v497.toNat, 0]
def k0_off8 (i : grid0.Coords) (k0_t3 : Fin (k0_t3_loop i).trips) : Fin 2 → Nat :=
  let c0_i32_77 : BitVec 32 := 0#32
  let c1_i32_79 : BitVec 32 := 1#32
  let arg10 : BitVec 32 := Scf.iv c0_i32_77 c1_i32_79 k0_t3
  let c256_i32_234 : BitVec 32 := 256#32
  let v493 : BitVec 32 := Scalar.muli arg10 c256_i32_234
  let v494 : BitVec 32 := v493
  let v525 : Index := Scalar.indexCast v494
  let c0_248 : Index := 0#32
  ![v525.toNat, 0]
@[reducible] def k0_t4_loop (i : grid0.Coords) : Scf.Loop 32 :=
  let c0_i32_77 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_74 : BitVec 32 := 1#32
  let v155 : BitVec 32 := Scalar.subi v20 c1_i32_74
  let v156 : BitVec 32 := Scalar.subi v155 c0_i32_77
  let c1_i32_78 : BitVec 32 := 1#32
  let v158 : BitVec 32 := Scalar.divsi v156 c1_i32_78
  let v159 : BitVec 32 := Scalar.muli v158 c1_i32_78
  let v160 : BitVec 32 := Scalar.addi c0_i32_77 v159
  let v157 : BitVec 32 := Scalar.addi c0_i32_77 v156
  let c1_i32_80 : BitVec 32 := 1#32
  ⟨v160, v157, c1_i32_80⟩
def k0_mult5 (i : grid0.Coords) (k0_t4 : Fin (k0_t4_loop i).trips) : BitVec 32 :=
  let c0_i32_77 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_74 : BitVec 32 := 1#32
  let v155 : BitVec 32 := Scalar.subi v20 c1_i32_74
  let v156 : BitVec 32 := Scalar.subi v155 c0_i32_77
  let c1_i32_78 : BitVec 32 := 1#32
  let v158 : BitVec 32 := Scalar.divsi v156 c1_i32_78
  let v159 : BitVec 32 := Scalar.muli v158 c1_i32_78
  let v160 : BitVec 32 := Scalar.addi c0_i32_77 v159
  let c1_i32_80 : BitVec 32 := 1#32
  let arg10 : BitVec 32 := Scf.iv v160 c1_i32_80 k0_t4
  let c256_i32_234 : BitVec 32 := 256#32
  let v493 : BitVec 32 := Scalar.muli arg10 c256_i32_234
  v493
def k0_off9 (i : grid0.Coords) (k0_t4 : Fin (k0_t4_loop i).trips) : Fin 2 → Nat :=
  let c0_i32_77 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_74 : BitVec 32 := 1#32
  let v155 : BitVec 32 := Scalar.subi v20 c1_i32_74
  let v156 : BitVec 32 := Scalar.subi v155 c0_i32_77
  let c1_i32_78 : BitVec 32 := 1#32
  let v158 : BitVec 32 := Scalar.divsi v156 c1_i32_78
  let v159 : BitVec 32 := Scalar.muli v158 c1_i32_78
  let v160 : BitVec 32 := Scalar.addi c0_i32_77 v159
  let c1_i32_80 : BitVec 32 := 1#32
  let arg10 : BitVec 32 := Scf.iv v160 c1_i32_80 k0_t4
  let c256_i32_234 : BitVec 32 := 256#32
  let v493 : BitVec 32 := Scalar.muli arg10 c256_i32_234
  let v494 : BitVec 32 := v493
  let v497 : Index := Scalar.indexCast v494
  let c0_237 : Index := 0#32
  ![v497.toNat, 0]
def k0_off10 (i : grid0.Coords) (k0_t4 : Fin (k0_t4_loop i).trips) : Fin 2 → Nat :=
  let c0_i32_77 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_74 : BitVec 32 := 1#32
  let v155 : BitVec 32 := Scalar.subi v20 c1_i32_74
  let v156 : BitVec 32 := Scalar.subi v155 c0_i32_77
  let c1_i32_78 : BitVec 32 := 1#32
  let v158 : BitVec 32 := Scalar.divsi v156 c1_i32_78
  let v159 : BitVec 32 := Scalar.muli v158 c1_i32_78
  let v160 : BitVec 32 := Scalar.addi c0_i32_77 v159
  let c1_i32_80 : BitVec 32 := 1#32
  let arg10 : BitVec 32 := Scf.iv v160 c1_i32_80 k0_t4
  let c256_i32_234 : BitVec 32 := 256#32
  let v493 : BitVec 32 := Scalar.muli arg10 c256_i32_234
  let v494 : BitVec 32 := v493
  let v525 : Index := Scalar.indexCast v494
  let c0_248 : Index := 0#32
  ![v525.toNat, 0]
def k0_mult6 (i : grid0.Coords) : BitVec 32 :=
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_81 : BitVec 32 := 1#32
  let v163 : BitVec 32 := Scalar.subi v20 c1_i32_81
  let c256_i32_82 : BitVec 32 := 256#32
  let v164 : BitVec 32 := Scalar.muli v163 c256_i32_82
  v164
@[reducible] def k0_t5_loop (i : grid0.Coords) : Scf.Loop 32 :=
  let c0_i32_134 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_132 : BitVec 32 := 1#32
  let v273 : BitVec 32 := Scalar.subi v20 c1_i32_132
  let v274 : BitVec 32 := Scalar.subi v273 c0_i32_134
  let c1_i32_135 : BitVec 32 := 1#32
  let v276 : BitVec 32 := Scalar.divsi v274 c1_i32_135
  let v277 : BitVec 32 := Scalar.muli v276 c1_i32_135
  let v278 : BitVec 32 := Scalar.addi c0_i32_134 v277
  let c1_i32_136 : BitVec 32 := 1#32
  ⟨c0_i32_134, v278, c1_i32_136⟩
def k0_mult7 (i : grid0.Coords) (k0_t5 : Fin (k0_t5_loop i).trips) : BitVec 32 :=
  let c0_i32_134 : BitVec 32 := 0#32
  let c1_i32_136 : BitVec 32 := 1#32
  let arg10 : BitVec 32 := Scf.iv c0_i32_134 c1_i32_136 k0_t5
  let c256_i32_234 : BitVec 32 := 256#32
  let v493 : BitVec 32 := Scalar.muli arg10 c256_i32_234
  v493
def k0_off11 (i : grid0.Coords) (k0_t5 : Fin (k0_t5_loop i).trips) : Fin 2 → Nat :=
  let c0_i32_134 : BitVec 32 := 0#32
  let c1_i32_136 : BitVec 32 := 1#32
  let arg10 : BitVec 32 := Scf.iv c0_i32_134 c1_i32_136 k0_t5
  let c256_i32_234 : BitVec 32 := 256#32
  let v493 : BitVec 32 := Scalar.muli arg10 c256_i32_234
  let v494 : BitVec 32 := v493
  let v497 : Index := Scalar.indexCast v494
  let c0_237 : Index := 0#32
  ![v497.toNat, 0]
def k0_off12 (i : grid0.Coords) (k0_t5 : Fin (k0_t5_loop i).trips) : Fin 2 → Nat :=
  let c0_i32_134 : BitVec 32 := 0#32
  let c1_i32_136 : BitVec 32 := 1#32
  let arg10 : BitVec 32 := Scf.iv c0_i32_134 c1_i32_136 k0_t5
  let c256_i32_234 : BitVec 32 := 256#32
  let v493 : BitVec 32 := Scalar.muli arg10 c256_i32_234
  let v494 : BitVec 32 := v493
  let v525 : Index := Scalar.indexCast v494
  let c0_248 : Index := 0#32
  ![v525.toNat, 0]
@[reducible] def k0_t6_loop (i : grid0.Coords) : Scf.Loop 32 :=
  let c0_i32_134 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_132 : BitVec 32 := 1#32
  let v273 : BitVec 32 := Scalar.subi v20 c1_i32_132
  let v274 : BitVec 32 := Scalar.subi v273 c0_i32_134
  let c1_i32_135 : BitVec 32 := 1#32
  let v276 : BitVec 32 := Scalar.divsi v274 c1_i32_135
  let v277 : BitVec 32 := Scalar.muli v276 c1_i32_135
  let v278 : BitVec 32 := Scalar.addi c0_i32_134 v277
  let v275 : BitVec 32 := Scalar.addi c0_i32_134 v274
  let c1_i32_137 : BitVec 32 := 1#32
  ⟨v278, v275, c1_i32_137⟩
def k0_mult8 (i : grid0.Coords) (k0_t6 : Fin (k0_t6_loop i).trips) : BitVec 32 :=
  let c0_i32_134 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_132 : BitVec 32 := 1#32
  let v273 : BitVec 32 := Scalar.subi v20 c1_i32_132
  let v274 : BitVec 32 := Scalar.subi v273 c0_i32_134
  let c1_i32_135 : BitVec 32 := 1#32
  let v276 : BitVec 32 := Scalar.divsi v274 c1_i32_135
  let v277 : BitVec 32 := Scalar.muli v276 c1_i32_135
  let v278 : BitVec 32 := Scalar.addi c0_i32_134 v277
  let c1_i32_137 : BitVec 32 := 1#32
  let arg10 : BitVec 32 := Scf.iv v278 c1_i32_137 k0_t6
  let c256_i32_234 : BitVec 32 := 256#32
  let v493 : BitVec 32 := Scalar.muli arg10 c256_i32_234
  v493
def k0_off13 (i : grid0.Coords) (k0_t6 : Fin (k0_t6_loop i).trips) : Fin 2 → Nat :=
  let c0_i32_134 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_132 : BitVec 32 := 1#32
  let v273 : BitVec 32 := Scalar.subi v20 c1_i32_132
  let v274 : BitVec 32 := Scalar.subi v273 c0_i32_134
  let c1_i32_135 : BitVec 32 := 1#32
  let v276 : BitVec 32 := Scalar.divsi v274 c1_i32_135
  let v277 : BitVec 32 := Scalar.muli v276 c1_i32_135
  let v278 : BitVec 32 := Scalar.addi c0_i32_134 v277
  let c1_i32_137 : BitVec 32 := 1#32
  let arg10 : BitVec 32 := Scf.iv v278 c1_i32_137 k0_t6
  let c256_i32_234 : BitVec 32 := 256#32
  let v493 : BitVec 32 := Scalar.muli arg10 c256_i32_234
  let v494 : BitVec 32 := v493
  let v497 : Index := Scalar.indexCast v494
  let c0_237 : Index := 0#32
  ![v497.toNat, 0]
def k0_off14 (i : grid0.Coords) (k0_t6 : Fin (k0_t6_loop i).trips) : Fin 2 → Nat :=
  let c0_i32_134 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_132 : BitVec 32 := 1#32
  let v273 : BitVec 32 := Scalar.subi v20 c1_i32_132
  let v274 : BitVec 32 := Scalar.subi v273 c0_i32_134
  let c1_i32_135 : BitVec 32 := 1#32
  let v276 : BitVec 32 := Scalar.divsi v274 c1_i32_135
  let v277 : BitVec 32 := Scalar.muli v276 c1_i32_135
  let v278 : BitVec 32 := Scalar.addi c0_i32_134 v277
  let c1_i32_137 : BitVec 32 := 1#32
  let arg10 : BitVec 32 := Scf.iv v278 c1_i32_137 k0_t6
  let c256_i32_234 : BitVec 32 := 256#32
  let v493 : BitVec 32 := Scalar.muli arg10 c256_i32_234
  let v494 : BitVec 32 := v493
  let v525 : Index := Scalar.indexCast v494
  let c0_248 : Index := 0#32
  ![v525.toNat, 0]
def k0_mult9 (i : grid0.Coords) : BitVec 32 :=
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_138 : BitVec 32 := 1#32
  let v281 : BitVec 32 := Scalar.subi v20 c1_i32_138
  let c256_i32_139 : BitVec 32 := 256#32
  let v282 : BitVec 32 := Scalar.muli v281 c256_i32_139
  v282
@[reducible] def k0_t7_loop (i : grid0.Coords) : Scf.Loop 32 :=
  let c0_i32_191 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_189 : BitVec 32 := 1#32
  let v391 : BitVec 32 := Scalar.subi v20 c1_i32_189
  let v392 : BitVec 32 := Scalar.subi v391 c0_i32_191
  let c1_i32_192 : BitVec 32 := 1#32
  let v394 : BitVec 32 := Scalar.divsi v392 c1_i32_192
  let v395 : BitVec 32 := Scalar.muli v394 c1_i32_192
  let v396 : BitVec 32 := Scalar.addi c0_i32_191 v395
  let c1_i32_193 : BitVec 32 := 1#32
  ⟨c0_i32_191, v396, c1_i32_193⟩
def k0_mult10 (i : grid0.Coords) (k0_t7 : Fin (k0_t7_loop i).trips) : BitVec 32 :=
  let c0_i32_191 : BitVec 32 := 0#32
  let c1_i32_193 : BitVec 32 := 1#32
  let arg10 : BitVec 32 := Scf.iv c0_i32_191 c1_i32_193 k0_t7
  let c256_i32_234 : BitVec 32 := 256#32
  let v493 : BitVec 32 := Scalar.muli arg10 c256_i32_234
  v493
def k0_off15 (i : grid0.Coords) (k0_t7 : Fin (k0_t7_loop i).trips) : Fin 2 → Nat :=
  let c0_i32_191 : BitVec 32 := 0#32
  let c1_i32_193 : BitVec 32 := 1#32
  let arg10 : BitVec 32 := Scf.iv c0_i32_191 c1_i32_193 k0_t7
  let c256_i32_234 : BitVec 32 := 256#32
  let v493 : BitVec 32 := Scalar.muli arg10 c256_i32_234
  let v494 : BitVec 32 := v493
  let v497 : Index := Scalar.indexCast v494
  let c0_237 : Index := 0#32
  ![v497.toNat, 0]
def k0_off16 (i : grid0.Coords) (k0_t7 : Fin (k0_t7_loop i).trips) : Fin 2 → Nat :=
  let c0_i32_191 : BitVec 32 := 0#32
  let c1_i32_193 : BitVec 32 := 1#32
  let arg10 : BitVec 32 := Scf.iv c0_i32_191 c1_i32_193 k0_t7
  let c256_i32_234 : BitVec 32 := 256#32
  let v493 : BitVec 32 := Scalar.muli arg10 c256_i32_234
  let v494 : BitVec 32 := v493
  let v525 : Index := Scalar.indexCast v494
  let c0_248 : Index := 0#32
  ![v525.toNat, 0]
@[reducible] def k0_t8_loop (i : grid0.Coords) : Scf.Loop 32 :=
  let c0_i32_191 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_189 : BitVec 32 := 1#32
  let v391 : BitVec 32 := Scalar.subi v20 c1_i32_189
  let v392 : BitVec 32 := Scalar.subi v391 c0_i32_191
  let c1_i32_192 : BitVec 32 := 1#32
  let v394 : BitVec 32 := Scalar.divsi v392 c1_i32_192
  let v395 : BitVec 32 := Scalar.muli v394 c1_i32_192
  let v396 : BitVec 32 := Scalar.addi c0_i32_191 v395
  let v393 : BitVec 32 := Scalar.addi c0_i32_191 v392
  let c1_i32_194 : BitVec 32 := 1#32
  ⟨v396, v393, c1_i32_194⟩
def k0_mult11 (i : grid0.Coords) (k0_t8 : Fin (k0_t8_loop i).trips) : BitVec 32 :=
  let c0_i32_191 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_189 : BitVec 32 := 1#32
  let v391 : BitVec 32 := Scalar.subi v20 c1_i32_189
  let v392 : BitVec 32 := Scalar.subi v391 c0_i32_191
  let c1_i32_192 : BitVec 32 := 1#32
  let v394 : BitVec 32 := Scalar.divsi v392 c1_i32_192
  let v395 : BitVec 32 := Scalar.muli v394 c1_i32_192
  let v396 : BitVec 32 := Scalar.addi c0_i32_191 v395
  let c1_i32_194 : BitVec 32 := 1#32
  let arg10 : BitVec 32 := Scf.iv v396 c1_i32_194 k0_t8
  let c256_i32_234 : BitVec 32 := 256#32
  let v493 : BitVec 32 := Scalar.muli arg10 c256_i32_234
  v493
def k0_off17 (i : grid0.Coords) (k0_t8 : Fin (k0_t8_loop i).trips) : Fin 2 → Nat :=
  let c0_i32_191 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_189 : BitVec 32 := 1#32
  let v391 : BitVec 32 := Scalar.subi v20 c1_i32_189
  let v392 : BitVec 32 := Scalar.subi v391 c0_i32_191
  let c1_i32_192 : BitVec 32 := 1#32
  let v394 : BitVec 32 := Scalar.divsi v392 c1_i32_192
  let v395 : BitVec 32 := Scalar.muli v394 c1_i32_192
  let v396 : BitVec 32 := Scalar.addi c0_i32_191 v395
  let c1_i32_194 : BitVec 32 := 1#32
  let arg10 : BitVec 32 := Scf.iv v396 c1_i32_194 k0_t8
  let c256_i32_234 : BitVec 32 := 256#32
  let v493 : BitVec 32 := Scalar.muli arg10 c256_i32_234
  let v494 : BitVec 32 := v493
  let v497 : Index := Scalar.indexCast v494
  let c0_237 : Index := 0#32
  ![v497.toNat, 0]
def k0_off18 (i : grid0.Coords) (k0_t8 : Fin (k0_t8_loop i).trips) : Fin 2 → Nat :=
  let c0_i32_191 : BitVec 32 := 0#32
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_189 : BitVec 32 := 1#32
  let v391 : BitVec 32 := Scalar.subi v20 c1_i32_189
  let v392 : BitVec 32 := Scalar.subi v391 c0_i32_191
  let c1_i32_192 : BitVec 32 := 1#32
  let v394 : BitVec 32 := Scalar.divsi v392 c1_i32_192
  let v395 : BitVec 32 := Scalar.muli v394 c1_i32_192
  let v396 : BitVec 32 := Scalar.addi c0_i32_191 v395
  let c1_i32_194 : BitVec 32 := 1#32
  let arg10 : BitVec 32 := Scf.iv v396 c1_i32_194 k0_t8
  let c256_i32_234 : BitVec 32 := 256#32
  let v493 : BitVec 32 := Scalar.muli arg10 c256_i32_234
  let v494 : BitVec 32 := v493
  let v525 : Index := Scalar.indexCast v494
  let c0_248 : Index := 0#32
  ![v525.toNat, 0]
def k0_mult12 (i : grid0.Coords) : BitVec 32 :=
  let arg1 : BitVec 32 := BitVec.ofNat 32 (i 1).val
  let c2_i32 : BitVec 32 := 2#32
  let v19 : BitVec 32 := Scalar.addi arg1 c2_i32
  let c1_i32 : BitVec 32 := 1#32
  let v20 : BitVec 32 := Scalar.shrui v19 c1_i32
  let c1_i32_195 : BitVec 32 := 1#32
  let v399 : BitVec 32 := Scalar.subi v20 c1_i32_195
  let c256_i32_196 : BitVec 32 := 256#32
  let v400 : BitVec 32 := Scalar.muli v399 c256_i32_196
  v400
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2176x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2176x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x2176x6144 : Shape := ⟨3, ![4, 2176, 6144]⟩
abbrev S4x128 : Shape := ⟨2, ![4, 128]⟩
abbrev S256 : Shape := ⟨1, ![256]⟩
abbrev S4x2176x2048 : Shape := ⟨3, ![4, 2176, 2048]⟩
abbrev S4x2176x4x2x2x128 : Shape := ⟨6, ![4, 2176, 4, 2, 2, 128]⟩
abbrev S4x2176x1024 : Shape := ⟨3, ![4, 2176, 1024]⟩
abbrev S4x2176x4x2x128 : Shape := ⟨5, ![4, 2176, 4, 2, 128]⟩
abbrev S4x2176x4x256 : Shape := ⟨4, ![4, 2176, 4, 256]⟩
abbrev S1x128 : Shape := ⟨2, ![1, 128]⟩
abbrev S128 : Shape := ⟨1, ![128]⟩
abbrev S_ : Shape := ⟨0, ![]⟩
abbrev S4x4x2x2176x2176x2 : Shape := ⟨6, ![4, 4, 2, 2176, 2176, 2]⟩
abbrev S4x4x2x2x2176x2176 : Shape := ⟨6, ![4, 4, 2, 2, 2176, 2176]⟩
abbrev S2176 : Shape := ⟨1, ![2176]⟩
abbrev S1x2176 : Shape := ⟨2, ![1, 2176]⟩
abbrev S2176x1 : Shape := ⟨2, ![2176, 1]⟩
abbrev S2176x2176 : Shape := ⟨2, ![2176, 2176]⟩
abbrev S4x4x2x2x2176 : Shape := ⟨5, ![4, 4, 2, 2, 2176]⟩
abbrev S4x4x2x2x2176x1 : Shape := ⟨6, ![4, 4, 2, 2, 2176, 1]⟩
abbrev S4x4x2x1x2176x2176 : Shape := ⟨6, ![4, 4, 2, 1, 2176, 2176]⟩
abbrev S4x4x2x2176x2176 : Shape := ⟨5, ![4, 4, 2, 2176, 2176]⟩
abbrev S4x4x256x2x2176 : Shape := ⟨5, ![4, 4, 256, 2, 2176]⟩
abbrev S4x2176x4x2x256 : Shape := ⟨5, ![4, 2176, 4, 2, 256]⟩
abbrev S4x2176x4x2 : Shape := ⟨4, ![4, 2176, 4, 2]⟩
abbrev S4x2176x4x2x1 : Shape := ⟨5, ![4, 2176, 4, 2, 1]⟩
abbrev S1x1x1x1x256 : Shape := ⟨5, ![1, 1, 1, 1, 256]⟩

abbrev nBuf : Space → Nat
  | .hbm => 87
  | .vmem => 0
  | .smem => 0
  | _ => 0

abbrev bufTy : (tb : Table) → Fin (tcTables nBuf tb) → BufTy
  | .hbm, ⟨0, _⟩ => ⟨S4x2176x6144, .f32⟩
  | .hbm, ⟨1, _⟩ => ⟨S4x128, .f32⟩
  | .hbm, ⟨2, _⟩ => ⟨S256, .f32⟩
  | .hbm, ⟨3, _⟩ => ⟨S4x2176x2048, .f32⟩
  | .hbm, ⟨4, _⟩ => ⟨S4x2176x4x2x2x128, .f32⟩
  | .hbm, ⟨5, _⟩ => ⟨S4x2176x1024, .f32⟩
  | .hbm, ⟨6, _⟩ => ⟨S4x2176x4x2x128, .f32⟩
  | .hbm, ⟨7, _⟩ => ⟨S4x2176x1024, .f32⟩
  | .hbm, ⟨8, _⟩ => ⟨S4x2176x4x256, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x4x2x2176x2176x2, .f32⟩
  | .hbm, ⟨29, _⟩ => ⟨S4x4x2x2x2176x2176, .f32⟩
  | .hbm, ⟨30, _⟩ => ⟨S_, .f32⟩
  | .hbm, ⟨31, _⟩ => ⟨S4x4x2x2x2176x2176, .f32⟩
  | .hbm, ⟨32, _⟩ => ⟨S4x4x2x2x2176x2176, .f32⟩
  | .hbm, ⟨33, _⟩ => ⟨S2176, .i32⟩
  | .hbm, ⟨34, _⟩ => ⟨S1x2176, .i32⟩
  | .hbm, ⟨35, _⟩ => ⟨S2176x1, .i32⟩
  | .hbm, ⟨36, _⟩ => ⟨S2176x2176, .i32⟩
  | .hbm, ⟨37, _⟩ => ⟨S2176x2176, .i32⟩
  | .hbm, ⟨38, _⟩ => ⟨S2176x2176, .i1⟩
  | .hbm, ⟨39, _⟩ => ⟨S_, .f32⟩
  | .hbm, ⟨40, _⟩ => ⟨S_, .f32⟩
  | .hbm, ⟨41, _⟩ => ⟨S4x4x2x2x2176x2176, .i1⟩
  | .hbm, ⟨42, _⟩ => ⟨S4x4x2x2x2176x2176, .f32⟩
  | .hbm, ⟨43, _⟩ => ⟨S4x4x2x2x2176x2176, .f32⟩
  | .hbm, ⟨44, _⟩ => ⟨S_, .f32⟩
  | .hbm, ⟨45, _⟩ => ⟨S4x4x2x2x2176, .f32⟩
  | .hbm, ⟨46, _⟩ => ⟨S_, .f32⟩
  | .hbm, ⟨47, _⟩ => ⟨S4x4x2x2x2176, .f32⟩
  | .hbm, ⟨48, _⟩ => ⟨S4x4x2x2x2176, .f32⟩
  | .hbm, ⟨49, _⟩ => ⟨S4x4x2x2x2176x1, .f32⟩
  | .hbm, ⟨50, _⟩ => ⟨S4x4x2x2x2176x2176, .f32⟩
  | .hbm, ⟨51, _⟩ => ⟨S4x4x2x2x2176x2176, .f32⟩
  | .hbm, ⟨52, _⟩ => ⟨S4x4x2x2x2176x2176, .f32⟩
  | .hbm, ⟨53, _⟩ => ⟨S_, .f32⟩
  | .hbm, ⟨54, _⟩ => ⟨S4x4x2x2x2176, .f32⟩
  | .hbm, ⟨55, _⟩ => ⟨S4x4x2x2x2176x1, .f32⟩
  | .hbm, ⟨56, _⟩ => ⟨S4x4x2x2x2176x2176, .f32⟩
  | .hbm, ⟨57, _⟩ => ⟨S4x4x2x2x2176x2176, .f32⟩
  | .hbm, ⟨58, _⟩ => ⟨S4x4x2x1x2176x2176, .f32⟩
  | .hbm, ⟨59, _⟩ => ⟨S4x4x2x2176x2176, .f32⟩
  | .hbm, ⟨60, _⟩ => ⟨S4x4x2x1x2176x2176, .f32⟩
  | .hbm, ⟨61, _⟩ => ⟨S4x4x2x2176x2176, .f32⟩
  | .hbm, ⟨62, _⟩ => ⟨S4x4x2x2176x2176, .f32⟩
  | .hbm, ⟨63, _⟩ => ⟨S4x4x2x2176x2176, .f32⟩
  | .hbm, ⟨64, _⟩ => ⟨S4x4x2x2176x2176, .f32⟩
  | .hbm, ⟨65, _⟩ => ⟨S4x4x256x2x2176, .f32⟩
  | .hbm, ⟨66, _⟩ => ⟨S4x2176x4x2x256, .f32⟩
  | .hbm, ⟨67, _⟩ => ⟨S4x2176x4x2x256, .f32⟩
  | .hbm, ⟨68, _⟩ => ⟨S_, .f32⟩
  | .hbm, ⟨69, _⟩ => ⟨S4x2176x4x2, .f32⟩
  | .hbm, ⟨70, _⟩ => ⟨S4x2176x4x2x1, .f32⟩
  | .hbm, ⟨71, _⟩ => ⟨S_, .f32⟩
  | .hbm, ⟨72, _⟩ => ⟨S4x2176x4x2x1, .f32⟩
  | .hbm, ⟨73, _⟩ => ⟨S4x2176x4x2x1, .f32⟩
  | .hbm, ⟨74, _⟩ => ⟨S_, .f32⟩
  | .hbm, ⟨75, _⟩ => ⟨S4x2176x4x2x1, .f32⟩
  | .hbm, ⟨76, _⟩ => ⟨S4x2176x4x2x1, .f32⟩
  | .hbm, ⟨77, _⟩ => ⟨S4x2176x4x2x1, .f32⟩
  | .hbm, ⟨78, _⟩ => ⟨S4x2176x4x2x256, .f32⟩
  | .hbm, ⟨79, _⟩ => ⟨S4x2176x4x2x256, .f32⟩
  | .hbm, ⟨80, _⟩ => ⟨S1x1x1x1x256, .f32⟩
  | .hbm, ⟨81, _⟩ => ⟨S4x2176x4x2x256, .f32⟩
  | .hbm, ⟨82, _⟩ => ⟨S4x2176x4x2x256, .f32⟩
  | .hbm, ⟨83, _⟩ => ⟨S_, .f32⟩
  | .hbm, ⟨84, _⟩ => ⟨S4x2176x4x2x256, .f32⟩
  | .hbm, ⟨85, _⟩ => ⟨S4x2176x4x2x256, .f32⟩
  | .hbm, ⟨86, _⟩ => ⟨S4x2176x2048, .f32⟩
  | _, _ => ⟨S4x2176x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel2.lean ====
abbrev S8704x2048 : Shape := ⟨2, ![8704, 2048]⟩
abbrev S8704x6144 : Shape := ⟨2, ![8704, 6144]⟩
abbrev S2048x2048 : Shape := ⟨2, ![2048, 2048]⟩
abbrev S544x2048 : Shape := ⟨2, ![544, 2048]⟩
abbrev S2048x512 : Shape := ⟨2, ![2048, 512]⟩
abbrev S544x512 : Shape := ⟨2, ![544, 512]⟩

abbrev nBuf : Space → Nat
  | .hbm => 6
  | .vmem => 11
  | .smem => 0
  | _ => 0

abbrev bufTy : (tb : Table) → Fin (tcTables nBuf tb) → BufTy
  | .hbm, ⟨0, _⟩ => ⟨S8704x2048, .f32⟩
  | .hbm, ⟨1, _⟩ => ⟨S8704x6144, .f32⟩
  | .hbm, ⟨2, _⟩ => ⟨S2048x2048, .f32⟩
  | .hbm, ⟨3, _⟩ => ⟨S8704x2048, .f32⟩
  | .hbm, ⟨4, _⟩ => ⟨S2048x2048, .bf16⟩
  | .hbm, ⟨5, _⟩ => ⟨S8704x2048, .f32⟩
  | .local _ .vmem, ⟨0, _⟩ => ⟨S544x2048, .f32⟩
  | .local _ .vmem, ⟨1, _⟩ => ⟨S544x2048, .f32⟩
  | .local _ .vmem, ⟨2, _⟩ => ⟨S544x2048, .f32⟩
  | .local _ .vmem, ⟨3, _⟩ => ⟨S544x2048, .f32⟩
  | .local _ .vmem, ⟨4, _⟩ => ⟨S2048x512, .bf16⟩
  | .local _ .vmem, ⟨5, _⟩ => ⟨S2048x512, .bf16⟩
  | .local _ .vmem, ⟨6, _⟩ => ⟨S544x512, .f32⟩
  | .local _ .vmem, ⟨7, _⟩ => ⟨S544x512, .f32⟩
  | .local _ .vmem, ⟨8, _⟩ => ⟨S544x512, .f32⟩
  | .local _ .vmem, ⟨9, _⟩ => ⟨S544x512, .f32⟩
  | .local _ .vmem, ⟨10, _⟩ => ⟨S544x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S544x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8704x2048 : Shape := ⟨2, ![8704, 2048]⟩
abbrev S8704x6144 : Shape := ⟨2, ![8704, 6144]⟩
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x6144, .f32⟩
  | .hbm, ⟨2, _⟩ => ⟨S2048x2048, .f32⟩
  | .hbm, ⟨3, _⟩ => ⟨S8704x2048, .f32⟩
  | .hbm, ⟨4, _⟩ => ⟨S8704x2048, .f32⟩
  | .hbm, ⟨5, _⟩ => ⟨S8704x2048, .f32⟩
  | .hbm, ⟨6, _⟩ => ⟨S8704x2048, .f32⟩
  | .hbm, ⟨7, _⟩ => ⟨S_, .f32⟩
  | .hbm, ⟨8, _⟩ => ⟨S8704x2048, .f32⟩
  | .hbm, ⟨9, _⟩ => ⟨S8704x2048, .f32⟩
  | .hbm, ⟨10, _⟩ => ⟨S_, .f32⟩
  | .hbm, ⟨11, _⟩ => ⟨S8704x2048, .f32⟩
  | .hbm, ⟨12, _⟩ => ⟨S8704x2048, .f32⟩
  | .hbm, ⟨13, _⟩ => ⟨S8704x2048, .f32⟩
  | .hbm, ⟨14, _⟩ => ⟨S8704x2048, .f32⟩
  | .hbm, ⟨15, _⟩ => ⟨S8704x2048, .f32⟩
  | .hbm, ⟨16, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]
-- ==== Kernel3.lean ====
abbrev S8704x2048 : Shape := ⟨2, ![8704, 2048]⟩
abbrev S2048 : Shape := ⟨1, ![2048]⟩
abbrev S2048x6144 : Shape := ⟨2, ![2048, 6144]⟩
abbrev S2176 : Shape := ⟨1, ![2176]⟩
abbrev S2176x1 : Shape := ⟨2, ![2176, 1]⟩
abbrev S16 : Shape := ⟨1, ![16]⟩
abbrev S_ : Shape := ⟨0, ![]⟩
abbrev S1x16 : Shape := ⟨2, ![1, 16]⟩
abbrev S2176x16 : Shape := ⟨2, ![2176, 16]⟩
abbrev S2176x96 : Shape := ⟨2, ![2176, 96]⟩
abbrev S2176x128 : Shape := ⟨2, ![2176, 128]⟩
abbrev S2176x112 : Shape := ⟨2, ![2176, 112]⟩
abbrev S8 : Shape := ⟨1, ![8]⟩
abbrev S1x8 : Shape := ⟨2, ![1, 8]⟩
abbrev S2176x8 : Shape := ⟨2, ![2176, 8]⟩
abbrev S2176x48 : Shape := ⟨2, ![2176, 48]⟩
abbrev S2176x64 : Shape := ⟨2, ![2176, 64]⟩
abbrev S2176x56 : Shape := ⟨2, ![2176, 56]⟩
abbrev S1x2176x128 : Shape := ⟨3, ![1, 2176, 128]⟩
abbrev S9x2176x128 : Shape := ⟨3, ![9, 2176, 128]⟩
abbrev S2048x2048 : Shape := ⟨2, ![2048, 2048]⟩
abbrev S2048x1024 : Shape := ⟨2, ![2048, 1024]⟩
abbrev S1x2048 : Shape := ⟨2, ![1, 2048]⟩
abbrev S8704x6144 : Shape := ⟨2, ![8704, 6144]⟩
abbrev S1088x2048 : Shape := ⟨2, ![1088, 2048]⟩
abbrev S2048x256 : Shape := ⟨2, ![2048, 256]⟩
abbrev S1x1088x128 : Shape := ⟨3, ![1, 1088, 128]⟩
abbrev S1088x256 : Shape := ⟨2, ![1088, 256]⟩
abbrev S1088 : Shape := ⟨1, ![1088]⟩
abbrev S1088x1 : Shape := ⟨2, ![1088, 1]⟩
abbrev S1088x128 : Shape := ⟨2, ![1088, 128]⟩
abbrev S4x2176x6144 : Shape := ⟨3, ![4, 2176, 6144]⟩
abbrev S4x2064x1024 : Shape := ⟨3, ![4, 2064, 1024]⟩
abbrev S4x2064x4x2x128 : Shape := ⟨5, ![4, 2064, 4, 2, 128]⟩
abbrev S4x2064x4x256 : Shape := ⟨4, ![4, 2064, 4, 256]⟩

abbrev nBuf : Space → Nat
  | .hbm => 93
  | .vmem => 14
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x6144, .f32⟩
  | .hbm, ⟨3, _⟩ => ⟨S2176, .i32⟩
  | .hbm, ⟨4, _⟩ => ⟨S2176, .f32⟩
  | .hbm, ⟨5, _⟩ => ⟨S2176x1, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S1x16, .f32⟩
  | .hbm, ⟨15, _⟩ => ⟨S2176x16, .f32⟩
  | .hbm, ⟨16, _⟩ => ⟨S2176x16, .f32⟩
  | .hbm, ⟨17, _⟩ => ⟨S2176x16, .f32⟩
  | .hbm, ⟨18, _⟩ => ⟨S2176x16, .f32⟩
  | .hbm, ⟨19, _⟩ => ⟨S2176x16, .f32⟩
  | .hbm, ⟨20, _⟩ => ⟨S_, .f32⟩
  | .hbm, ⟨21, _⟩ => ⟨S2176x96, .f32⟩
  | .hbm, ⟨22, _⟩ => ⟨S2176x128, .f32⟩
  | .hbm, ⟨23, _⟩ => ⟨S_, .f32⟩
  | .hbm, ⟨24, _⟩ => ⟨S2176x16, .f32⟩
  | .hbm, ⟨25, _⟩ => ⟨S_, .f32⟩
  | .hbm, ⟨26, _⟩ => ⟨S2176x96, .f32⟩
  | .hbm, ⟨27, _⟩ => ⟨S2176x128, .f32⟩
  | .hbm, ⟨28, _⟩ => ⟨S2176x16, .f32⟩
  | .hbm, ⟨29, _⟩ => ⟨S_, .f32⟩
  | .hbm, ⟨30, _⟩ => ⟨S2176x112, .f32⟩
  | .hbm, ⟨31, _⟩ => ⟨S2176x128, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S1x8, .f32⟩
  | .hbm, ⟨41, _⟩ => ⟨S2176x8, .f32⟩
  | .hbm, ⟨42, _⟩ => ⟨S2176x8, .f32⟩
  | .hbm, ⟨43, _⟩ => ⟨S2176x8, .f32⟩
  | .hbm, ⟨44, _⟩ => ⟨S2176x8, .f32⟩
  | .hbm, ⟨45, _⟩ => ⟨S2176x8, .f32⟩
  | .hbm, ⟨46, _⟩ => ⟨S_, .f32⟩
  | .hbm, ⟨47, _⟩ => ⟨S2176x48, .f32⟩
  | .hbm, ⟨48, _⟩ => ⟨S2176x64, .f32⟩
  | .hbm, ⟨49, _⟩ => ⟨S_, .f32⟩
  | .hbm, ⟨50, _⟩ => ⟨S2176x8, .f32⟩
  | .hbm, ⟨51, _⟩ => ⟨S_, .f32⟩
  | .hbm, ⟨52, _⟩ => ⟨S2176x48, .f32⟩
  | .hbm, ⟨53, _⟩ => ⟨S2176x64, .f32⟩
  | .hbm, ⟨54, _⟩ => ⟨S2176x8, .f32⟩
  | .hbm, ⟨55, _⟩ => ⟨S_, .f32⟩
  | .hbm, ⟨56, _⟩ => ⟨S2176x56, .f32⟩
  | .hbm, ⟨57, _⟩ => ⟨S2176x64, .f32⟩
  | .hbm, ⟨58, _⟩ => ⟨S2176x128, .f32⟩
  | .hbm, ⟨59, _⟩ => ⟨S2176x128, .f32⟩
  | .hbm, ⟨60, _⟩ => ⟨S2176x128, .f32⟩
  | .hbm, ⟨61, _⟩ => ⟨S_, .f32⟩
  | .hbm, ⟨62, _⟩ => ⟨S2176x64, .f32⟩
  | .hbm, ⟨63, _⟩ => ⟨S_, .f32⟩
  | .hbm, ⟨64, _⟩ => ⟨S2176x64, .f32⟩
  | .hbm, ⟨65, _⟩ => ⟨S_, .f32⟩
  | .hbm, ⟨66, _⟩ => ⟨S2176x64, .f32⟩
  | .hbm, ⟨67, _⟩ => ⟨S2176x128, .f32⟩
  | .hbm, ⟨68, _⟩ => ⟨S2176x128, .f32⟩
  | .hbm, ⟨69, _⟩ => ⟨S2176x128, .f32⟩
  | .hbm, ⟨70, _⟩ => ⟨S1x2176x128, .f32⟩
  | .hbm, ⟨71, _⟩ => ⟨S1x2176x128, .f32⟩
  | .hbm, ⟨72, _⟩ => ⟨S1x2176x128, .f32⟩
  | .hbm, ⟨73, _⟩ => ⟨S1x2176x128, .f32⟩
  | .hbm, ⟨74, _⟩ => ⟨S1x2176x128, .f32⟩
  | .hbm, ⟨75, _⟩ => ⟨S1x2176x128, .f32⟩
  | .hbm, ⟨76, _⟩ => ⟨S1x2176x128, .f32⟩
  | .hbm, ⟨77, _⟩ => ⟨S1x2176x128, .f32⟩
  | .hbm, ⟨78, _⟩ => ⟨S1x2176x128, .f32⟩
  | .hbm, ⟨79, _⟩ => ⟨S9x2176x128, .f32⟩
  | .hbm, ⟨80, _⟩ => ⟨S2048x2048, .f32⟩
  | .hbm, ⟨81, _⟩ => ⟨S2048x1024, .f32⟩
  | .hbm, ⟨82, _⟩ => ⟨S2048x1024, .f32⟩
  | .hbm, ⟨83, _⟩ => ⟨S2048x2048, .f32⟩
  | .hbm, ⟨84, _⟩ => ⟨S2048x6144, .f32⟩
  | .hbm, ⟨85, _⟩ => ⟨S2048x6144, .bf16⟩
  | .hbm, ⟨86, _⟩ => ⟨S1x2048, .f32⟩
  | .hbm, ⟨87, _⟩ => ⟨S8704x6144, .f32⟩
  | .hbm, ⟨88, _⟩ => ⟨S4x2176x6144, .f32⟩
  | .hbm, ⟨89, _⟩ => ⟨S4x2064x1024, .f32⟩
  | .hbm, ⟨90, _⟩ => ⟨S4x2064x4x2x128, .f32⟩
  | .hbm, ⟨91, _⟩ => ⟨S4x2064x1024, .f32⟩
  | .hbm, ⟨92, _⟩ => ⟨S4x2064x4x256, .f32⟩
  | .local _ .vmem, ⟨0, _⟩ => ⟨S1088x2048, .f32⟩
  | .local _ .vmem, ⟨1, _⟩ => ⟨S1088x2048, .f32⟩
  | .local _ .vmem, ⟨2, _⟩ => ⟨S1x2048, .f32⟩
  | .local _ .vmem, ⟨3, _⟩ => ⟨S2048x256, .bf16⟩
  | .local _ .vmem, ⟨4, _⟩ => ⟨S2048x256, .bf16⟩
  | .local _ .vmem, ⟨5, _⟩ => ⟨S1x1088x128, .f32⟩
  | .local _ .vmem, ⟨6, _⟩ => ⟨S1x1088x128, .f32⟩
  | .local _ .vmem, ⟨7, _⟩ => ⟨S1x1088x128, .f32⟩
  | .local _ .vmem, ⟨8, _⟩ => ⟨S1x1088x128, .f32⟩
  | .local _ .vmem, ⟨9, _⟩ => ⟨S1x1088x128, .f32⟩
  | .local _ .vmem, ⟨10, _⟩ => ⟨S1x1088x128, .f32⟩
  | .local _ .vmem, ⟨11, _⟩ => ⟨S1088x256, .f32⟩
  | .local _ .vmem, ⟨12, _⟩ => ⟨S1088x256, .f32⟩
  | .local _ .vmem, ⟨13, _⟩ => ⟨S1088x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_11 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_cst_13 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 24], ![false, false]⟩

def k0_cond2 (i : grid0.Coords) : BitVec 1 :=
  let arg1 : BitVec 32 := BitVec.ofNat 32 (i 1).val
  let c0_i32_4 : BitVec 32 := 0#32
  let v7 : BitVec 1 := Scalar.cmpi .sge arg1 c0_i32_4
  let c8_i32 : BitVec 32 := 8#32
  let v8 : BitVec 1 := Scalar.cmpi .slt arg1 c8_i32
  let v9 : BitVec 1 := Scalar.andi v7 v8
  let c16_i32 : BitVec 32 := 16#32
  let v10 : BitVec 1 := Scalar.cmpi .sge arg1 c16_i32
  let c20_i32 : BitVec 32 := 20#32
  let v11 : BitVec 1 := Scalar.cmpi .slt arg1 c20_i32
  let v12 : BitVec 1 := Scalar.andi v10 v11
  let v13 : BitVec 1 := Scalar.ori v9 v12
  let v14 : BitVec 32 := Scalar.extui v13
  let c0_i32_5 : BitVec 32 := 0#32
  let v15 : BitVec 1 := Scalar.cmpi .ne v14 c0_i32_5
  v15

def k0_cond3 (i : grid0.Coords) : BitVec 1 :=
  let arg1 : BitVec 32 := BitVec.ofNat 32 (i 1).val
  let c8_i32_6 : BitVec 32 := 8#32
  let v16 : BitVec 1 := Scalar.cmpi .sge arg1 c8_i32_6
  let c16_i32_7 : BitVec 32 := 16#32
  let v17 : BitVec 1 := Scalar.cmpi .slt arg1 c16_i32_7
  let v18 : BitVec 1 := Scalar.andi v16 v17
  let c20_i32_8 : BitVec 32 := 20#32
  let v19 : BitVec 1 := Scalar.cmpi .sge arg1 c20_i32_8
  let c24_i32 : BitVec 32 := 24#32
  let v20 : BitVec 1 := Scalar.cmpi .slt arg1 c24_i32
  let v21 : BitVec 1 := Scalar.andi v19 v20
  let v22 : BitVec 1 := Scalar.ori v18 v21
  let v23 : BitVec 32 := Scalar.extui v22
  let c0_i32_9 : BitVec 32 := 0#32
  let v24 : BitVec 1 := Scalar.cmpi .ne v23 c0_i32_9
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 1 := Scalar.cmpi .sge arg1 c24_i32
  let v1 : BitVec 32 := Scalar.extui v0
  let c24_i32_0 : BitVec 32 := 24#32
  let v2 : BitVec 1 := Scalar.cmpi .sge arg1 c24_i32_0
  let v3 : BitVec 32 := Scalar.extui v2
  let v4 : BitVec 32 := Scalar.addi v1 v3
  let c3_i32 : BitVec 32 := 3#32
  let v5 : BitVec 32 := Scalar.muli v4 c3_i32
  let c0_i32 : BitVec 32 := 0#32
  let v6 : BitVec 32 := Scalar.addi v5 c0_i32
  let c2_i32 : BitVec 32 := 2#32
  let c0_i32_1 : BitVec 32 := 0#32
  let v7 : BitVec 1 := Scalar.cmpi .eq c2_i32 c0_i32_1
  let c1_i32 : BitVec 32 := 1#32
  let v8 : BitVec 32 := Scalar.select v7 c1_i32 c2_i32
  let v9 : BitVec 32 := Scalar.remsi arg0 v8
  let c0_i32_2 : BitVec 32 := 0#32
  let v10 : BitVec 1 := Scalar.cmpi .ne v9 c0_i32_2
  let c0_i32_3 : BitVec 32 := 0#32
  let v11 : BitVec 1 := Scalar.cmpi .slt v9 c0_i32_3
  let c0_i32_4 : BitVec 32 := 0#32
  let v12 : BitVec 1 := Scalar.cmpi .slt v8 c0_i32_4
  let v13 : BitVec 1 := Scalar.xori v11 v12
  let v14 : BitVec 1 := Scalar.andi v13 v10
  let v15 : BitVec 32 := Scalar.addi v9 v8
  let v16 : BitVec 32 := Scalar.select v14 v15 v9
  let c0_i32_5 : BitVec 32 := 0#32
  let c0_i32_6 : BitVec 32 := 0#32
  ![v6.toNat, v16.toNat, c0_i32_5.toNat]

def cc0_transform_4 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 1 := Scalar.cmpi .sge arg1 c24_i32
  let v1 : BitVec 32 := Scalar.extui v0
  let c24_i32_0 : BitVec 32 := 24#32
  let v2 : BitVec 1 := Scalar.cmpi .sge arg1 c24_i32_0
  let v3 : BitVec 32 := Scalar.extui v2
  let v4 : BitVec 32 := Scalar.addi v1 v3
  let c3_i32 : BitVec 32 := 3#32
  let v5 : BitVec 32 := Scalar.muli v4 c3_i32
  let c1_i32 : BitVec 32 := 1#32
  let v6 : BitVec 32 := Scalar.addi v5 c1_i32
  let c2_i32 : BitVec 32 := 2#32
  let c0_i32 : BitVec 32 := 0#32
  let v7 : BitVec 1 := Scalar.cmpi .eq c2_i32 c0_i32
  let c1_i32_1 : BitVec 32 := 1#32
  let v8 : BitVec 32 := Scalar.select v7 c1_i32_1 c2_i32
  let v9 : BitVec 32 := Scalar.remsi arg0 v8
  let c0_i32_2 : BitVec 32 := 0#32
  let v10 : BitVec 1 := Scalar.cmpi .ne v9 c0_i32_2
  let c0_i32_3 : BitVec 32 := 0#32
  let v11 : BitVec 1 := Scalar.cmpi .slt v9 c0_i32_3
  let c0_i32_4 : BitVec 32 := 0#32
  let v12 : BitVec 1 := Scalar.cmpi .slt v8 c0_i32_4
  let v13 : BitVec 1 := Scalar.xori v11 v12
  let v14 : BitVec 1 := Scalar.andi v13 v10
  let v15 : BitVec 32 := Scalar.addi v9 v8
  let v16 : BitVec 32 := Scalar.select v14 v15 v9
  let c0_i32_5 : BitVec 32 := 0#32
  let c0_i32_6 : BitVec 32 := 0#32
  ![v6.toNat, v16.toNat, c0_i32_5.toNat]

def cc0_transform_5 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 1 := Scalar.cmpi .sge arg1 c24_i32
  let v1 : BitVec 32 := Scalar.extui v0
  let c24_i32_0 : BitVec 32 := 24#32
  let v2 : BitVec 1 := Scalar.cmpi .sge arg1 c24_i32_0
  let v3 : BitVec 32 := Scalar.extui v2
  let v4 : BitVec 32 := Scalar.addi v1 v3
  let c3_i32 : BitVec 32 := 3#32
  let v5 : BitVec 32 := Scalar.muli v4 c3_i32
  let c2_i32 : BitVec 32 := 2#32
  let v6 : BitVec 32 := Scalar.addi v5 c2_i32
  let c2_i32_1 : BitVec 32 := 2#32
  let c0_i32 : BitVec 32 := 0#32
  let v7 : BitVec 1 := Scalar.cmpi .eq c2_i32_1 c0_i32
  let c1_i32 : BitVec 32 := 1#32
  let v8 : BitVec 32 := Scalar.select v7 c1_i32 c2_i32_1
  let v9 : BitVec 32 := Scalar.remsi arg0 v8
  let c0_i32_2 : BitVec 32 := 0#32
  let v10 : BitVec 1 := Scalar.cmpi .ne v9 c0_i32_2
  let c0_i32_3 : BitVec 32 := 0#32
  let v11 : BitVec 1 := Scalar.cmpi .slt v9 c0_i32_3
  let c0_i32_4 : BitVec 32 := 0#32
  let v12 : BitVec 1 := Scalar.cmpi .slt v8 c0_i32_4
  let v13 : BitVec 1 := Scalar.xori v11 v12
  let v14 : BitVec 1 := Scalar.andi v13 v10
  let v15 : BitVec 32 := Scalar.addi v9 v8
  let v16 : BitVec 32 := Scalar.select v14 v15 v9
  let c0_i32_5 : BitVec 32 := 0#32
  let c0_i32_6 : BitVec 32 := 0#32
  ![v6.toNat, v16.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1088x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1088x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1088x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8704x2048 : Shape := ⟨2, ![8704, 2048]⟩
abbrev S2048 : Shape := ⟨1, ![2048]⟩
abbrev S2048x6144 : Shape := ⟨2, ![2048, 6144]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S8704x6144 : Shape := ⟨2, ![8704, 6144]⟩
abbrev S8704x1024 : Shape := ⟨2, ![8704, 1024]⟩
abbrev S2176 : Shape := ⟨1, ![2176]⟩
abbrev S4x2176x16x128 : Shape := ⟨4, ![4, 2176, 16, 128]⟩
abbrev S16 : Shape := ⟨1, ![16]⟩
abbrev S2176x1 : Shape := ⟨2, ![2176, 1]⟩
abbrev S1x16 : Shape := ⟨2, ![1, 16]⟩
abbrev S2176x16 : Shape := ⟨2, ![2176, 16]⟩
abbrev S2176x1x16 : Shape := ⟨3, ![2176, 1, 16]⟩
abbrev S4x2176x16x16 : Shape := ⟨4, ![4, 2176, 16, 16]⟩
abbrev S4x2176x16x96 : Shape := ⟨4, ![4, 2176, 16, 96]⟩
abbrev S1x2176x1x16 : Shape := ⟨4, ![1, 2176, 1, 16]⟩
abbrev S4x2176x8x128 : Shape := ⟨4, ![4, 2176, 8, 128]⟩
abbrev S4x2176x8x16 : Shape := ⟨4, ![4, 2176, 8, 16]⟩
abbrev S4x2176x8x96 : Shape := ⟨4, ![4, 2176, 8, 96]⟩
abbrev S4x2176x4x2x128 : Shape := ⟨5, ![4, 2176, 4, 2, 128]⟩
abbrev S4x2064x4x2x128 : Shape := ⟨5, ![4, 2064, 4, 2, 128]⟩
abbrev S4x2176x4x256 : Shape := ⟨4, ![4, 2176, 4, 256]⟩
abbrev S4x2064x4x256 : Shape := ⟨4, ![4, 2064, 4, 256]⟩

abbrev nBuf : Space → Nat
  | .hbm => 104
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x6144, .f32⟩
  | .hbm, ⟨3, _⟩ => ⟨S8704x2048, .f32⟩
  | .hbm, ⟨4, _⟩ => ⟨S_, .f32⟩
  | .hbm, ⟨5, _⟩ => ⟨S8704, .f32⟩
  | .hbm, ⟨6, _⟩ => ⟨S8704x1, .f32⟩
  | .hbm, ⟨7, _⟩ => ⟨S_, .f32⟩
  | .hbm, ⟨8, _⟩ => ⟨S8704x1, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S8704x1, .f32⟩
  | .hbm, ⟨14, _⟩ => ⟨S8704x2048, .f32⟩
  | .hbm, ⟨15, _⟩ => ⟨S8704x2048, .f32⟩
  | .hbm, ⟨16, _⟩ => ⟨S1x2048, .f32⟩
  | .hbm, ⟨17, _⟩ => ⟨S8704x2048, .f32⟩
  | .hbm, ⟨18, _⟩ => ⟨S8704x2048, .f32⟩
  | .hbm, ⟨19, _⟩ => ⟨S8704x6144, .f32⟩
  | .hbm, ⟨20, _⟩ => ⟨S8704x2048, .f32⟩
  | .hbm, ⟨21, _⟩ => ⟨S8704x1024, .f32⟩
  | .hbm, ⟨22, _⟩ => ⟨S8704x1024, .f32⟩
  | .hbm, ⟨23, _⟩ => ⟨S8704x2048, .f32⟩
  | .hbm, ⟨24, _⟩ => ⟨S2176, .i32⟩
  | .hbm, ⟨25, _⟩ => ⟨S4x2176x16x128, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S2176, .f32⟩
  | .hbm, ⟨35, _⟩ => ⟨S2176x1, .f32⟩
  | .hbm, ⟨36, _⟩ => ⟨S1x16, .f32⟩
  | .hbm, ⟨37, _⟩ => ⟨S2176x16, .f32⟩
  | .hbm, ⟨38, _⟩ => ⟨S2176x16, .f32⟩
  | .hbm, ⟨39, _⟩ => ⟨S2176x16, .f32⟩
  | .hbm, ⟨40, _⟩ => ⟨S2176x1x16, .f32⟩
  | .hbm, ⟨41, _⟩ => ⟨S2176x1x16, .f32⟩
  | .hbm, ⟨42, _⟩ => ⟨S2176x1x16, .f32⟩
  | .hbm, ⟨43, _⟩ => ⟨S4x2176x16x16, .f32⟩
  | .hbm, ⟨44, _⟩ => ⟨S4x2176x16x16, .f32⟩
  | .hbm, ⟨45, _⟩ => ⟨S4x2176x16x96, .f32⟩
  | .hbm, ⟨46, _⟩ => ⟨S1x2176x1x16, .f32⟩
  | .hbm, ⟨47, _⟩ => ⟨S4x2176x16x16, .f32⟩
  | .hbm, ⟨48, _⟩ => ⟨S4x2176x16x16, .f32⟩
  | .hbm, ⟨49, _⟩ => ⟨S1x2176x1x16, .f32⟩
  | .hbm, ⟨50, _⟩ => ⟨S4x2176x16x16, .f32⟩
  | .hbm, ⟨51, _⟩ => ⟨S4x2176x16x16, .f32⟩
  | .hbm, ⟨52, _⟩ => ⟨S4x2176x16x16, .f32⟩
  | .hbm, ⟨53, _⟩ => ⟨S1x2176x1x16, .f32⟩
  | .hbm, ⟨54, _⟩ => ⟨S4x2176x16x16, .f32⟩
  | .hbm, ⟨55, _⟩ => ⟨S4x2176x16x16, .f32⟩
  | .hbm, ⟨56, _⟩ => ⟨S1x2176x1x16, .f32⟩
  | .hbm, ⟨57, _⟩ => ⟨S4x2176x16x16, .f32⟩
  | .hbm, ⟨58, _⟩ => ⟨S4x2176x16x16, .f32⟩
  | .hbm, ⟨59, _⟩ => ⟨S4x2176x16x16, .f32⟩
  | .hbm, ⟨60, _⟩ => ⟨S4x2176x16x128, .f32⟩
  | .hbm, ⟨61, _⟩ => ⟨S8704x2048, .f32⟩
  | .hbm, ⟨62, _⟩ => ⟨S4x2176x8x128, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S2176, .f32⟩
  | .hbm, ⟨72, _⟩ => ⟨S2176x1, .f32⟩
  | .hbm, ⟨73, _⟩ => ⟨S1x16, .f32⟩
  | .hbm, ⟨74, _⟩ => ⟨S2176x16, .f32⟩
  | .hbm, ⟨75, _⟩ => ⟨S2176x16, .f32⟩
  | .hbm, ⟨76, _⟩ => ⟨S2176x16, .f32⟩
  | .hbm, ⟨77, _⟩ => ⟨S2176x1x16, .f32⟩
  | .hbm, ⟨78, _⟩ => ⟨S2176x1x16, .f32⟩
  | .hbm, ⟨79, _⟩ => ⟨S2176x1x16, .f32⟩
  | .hbm, ⟨80, _⟩ => ⟨S4x2176x8x16, .f32⟩
  | .hbm, ⟨81, _⟩ => ⟨S4x2176x8x16, .f32⟩
  | .hbm, ⟨82, _⟩ => ⟨S4x2176x8x96, .f32⟩
  | .hbm, ⟨83, _⟩ => ⟨S1x2176x1x16, .f32⟩
  | .hbm, ⟨84, _⟩ => ⟨S4x2176x8x16, .f32⟩
  | .hbm, ⟨85, _⟩ => ⟨S4x2176x8x16, .f32⟩
  | .hbm, ⟨86, _⟩ => ⟨S1x2176x1x16, .f32⟩
  | .hbm, ⟨87, _⟩ => ⟨S4x2176x8x16, .f32⟩
  | .hbm, ⟨88, _⟩ => ⟨S4x2176x8x16, .f32⟩
  | .hbm, ⟨89, _⟩ => ⟨S4x2176x8x16, .f32⟩
  | .hbm, ⟨90, _⟩ => ⟨S1x2176x1x16, .f32⟩
  | .hbm, ⟨91, _⟩ => ⟨S4x2176x8x16, .f32⟩
  | .hbm, ⟨92, _⟩ => ⟨S4x2176x8x16, .f32⟩
  | .hbm, ⟨93, _⟩ => ⟨S1x2176x1x16, .f32⟩
  | .hbm, ⟨94, _⟩ => ⟨S4x2176x8x16, .f32⟩
  | .hbm, ⟨95, _⟩ => ⟨S4x2176x8x16, .f32⟩
  | .hbm, ⟨96, _⟩ => ⟨S4x2176x8x16, .f32⟩
  | .hbm, ⟨97, _⟩ => ⟨S4x2176x8x128, .f32⟩
  | .hbm, ⟨98, _⟩ => ⟨S8704x1024, .f32⟩
  | .hbm, ⟨99, _⟩ => ⟨S8704x6144, .f32⟩
  | .hbm, ⟨100, _⟩ => ⟨S4x2176x4x2x128, .f32⟩
  | .hbm, ⟨101, _⟩ => ⟨S4x2064x4x2x128, .f32⟩
  | .hbm, ⟨102, _⟩ => ⟨S4x2176x4x256, .f32⟩
  | .hbm, ⟨103, _⟩ => ⟨S4x2064x4x256, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_4 : Ref sig .tc := ⟨.hbm, 65, rfl⟩
abbrev main_v57 : Ref sig .tc := ⟨.hbm, 66, rfl⟩
abbrev main_v58 : Ref sig .tc := ⟨.hbm, 67, rfl⟩
abbrev main_cst_5 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩

abbrev nD : Nat := 1
abbrev τ : Topo := Topo.v7x

variable {F : FTy → Type} [FloatOps F]
-- ==== Kernel4.lean ====
abbrev S8704x2048 : Shape := ⟨2, ![8704, 2048]⟩
abbrev S2048 : Shape := ⟨1, ![2048]⟩
abbrev S2048x6224 : Shape := ⟨2, ![2048, 6224]⟩
abbrev S2176 : Shape := ⟨1, ![2176]⟩
abbrev S2176x1 : Shape := ⟨2, ![2176, 1]⟩
abbrev S16 : Shape := ⟨1, ![16]⟩
abbrev S_ : Shape := ⟨0, ![]⟩
abbrev S1x16 : Shape := ⟨2, ![1, 16]⟩
abbrev S2176x16 : Shape := ⟨2, ![2176, 16]⟩
abbrev S2176x96 : Shape := ⟨2, ![2176, 96]⟩
abbrev S2176x128 : Shape := ⟨2, ![2176, 128]⟩
abbrev S2176x112 : Shape := ⟨2, ![2176, 112]⟩
abbrev S8 : Shape := ⟨1, ![8]⟩
abbrev S1x8 : Shape := ⟨2, ![1, 8]⟩
abbrev S2176x8 : Shape := ⟨2, ![2176, 8]⟩
abbrev S2176x48 : Shape := ⟨2, ![2176, 48]⟩
abbrev S2176x64 : Shape := ⟨2, ![2176, 64]⟩
abbrev S2176x56 : Shape := ⟨2, ![2176, 56]⟩
abbrev S1x2176x128 : Shape := ⟨3, ![1, 2176, 128]⟩
abbrev S9x2176x128 : Shape := ⟨3, ![9, 2176, 128]⟩
abbrev S2048x2048 : Shape := ⟨2, ![2048, 2048]⟩
abbrev S2048x512 : Shape := ⟨2, ![2048, 512]⟩
abbrev S2048x1024 : Shape := ⟨2, ![2048, 1024]⟩
abbrev S2048x64 : Shape := ⟨2, ![2048, 64]⟩
abbrev S2048x16 : Shape := ⟨2, ![2048, 16]⟩
abbrev S2048x176 : Shape := ⟨2, ![2048, 176]⟩
abbrev S2048x6400 : Shape := ⟨2, ![2048, 6400]⟩
abbrev S1x2048 : Shape := ⟨2, ![1, 2048]⟩
abbrev S8704x6400 : Shape := ⟨2, ![8704, 6400]⟩
abbrev S1088x2048 : Shape := ⟨2, ![1088, 2048]⟩
abbrev S2048x256 : Shape := ⟨2, ![2048, 256]⟩
abbrev S1x1088x128 : Shape := ⟨3, ![1, 1088, 128]⟩
abbrev S1088x256 : Shape := ⟨2, ![1088, 256]⟩
abbrev S1088 : Shape := ⟨1, ![1088]⟩
abbrev S1088x1 : Shape := ⟨2, ![1088, 1]⟩
abbrev S1088x128 : Shape := ⟨2, ![1088, 128]⟩
abbrev S4x2176x6400 : Shape := ⟨3, ![4, 2176, 6400]⟩
abbrev S4x2064x512 : Shape := ⟨3, ![4, 2064, 512]⟩
abbrev S4x2064x4x128 : Shape := ⟨4, ![4, 2064, 4, 128]⟩
abbrev S4x2064x64 : Shape := ⟨3, ![4, 2064, 64]⟩

abbrev nBuf : Space → Nat
  | .hbm => 99
  | .vmem => 14
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x6224, .f32⟩
  | .hbm, ⟨3, _⟩ => ⟨S2176, .i32⟩
  | .hbm, ⟨4, _⟩ => ⟨S2176, .f32⟩
  | .hbm, ⟨5, _⟩ => ⟨S2176x1, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S1x16, .f32⟩
  | .hbm, ⟨15, _⟩ => ⟨S2176x16, .f32⟩
  | .hbm, ⟨16, _⟩ => ⟨S2176x16, .f32⟩
  | .hbm, ⟨17, _⟩ => ⟨S2176x16, .f32⟩
  | .hbm, ⟨18, _⟩ => ⟨S2176x16, .f32⟩
  | .hbm, ⟨19, _⟩ => ⟨S2176x16, .f32⟩
  | .hbm, ⟨20, _⟩ => ⟨S_, .f32⟩
  | .hbm, ⟨21, _⟩ => ⟨S2176x96, .f32⟩
  | .hbm, ⟨22, _⟩ => ⟨S2176x128, .f32⟩
  | .hbm, ⟨23, _⟩ => ⟨S_, .f32⟩
  | .hbm, ⟨24, _⟩ => ⟨S2176x16, .f32⟩
  | .hbm, ⟨25, _⟩ => ⟨S_, .f32⟩
  | .hbm, ⟨26, _⟩ => ⟨S2176x96, .f32⟩
  | .hbm, ⟨27, _⟩ => ⟨S2176x128, .f32⟩
  | .hbm, ⟨28, _⟩ => ⟨S2176x16, .f32⟩
  | .hbm, ⟨29, _⟩ => ⟨S_, .f32⟩
  | .hbm, ⟨30, _⟩ => ⟨S2176x112, .f32⟩
  | .hbm, ⟨31, _⟩ => ⟨S2176x128, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S1x8, .f32⟩
  | .hbm, ⟨41, _⟩ => ⟨S2176x8, .f32⟩
  | .hbm, ⟨42, _⟩ => ⟨S2176x8, .f32⟩
  | .hbm, ⟨43, _⟩ => ⟨S2176x8, .f32⟩
  | .hbm, ⟨44, _⟩ => ⟨S2176x8, .f32⟩
  | .hbm, ⟨45, _⟩ => ⟨S2176x8, .f32⟩
  | .hbm, ⟨46, _⟩ => ⟨S_, .f32⟩
  | .hbm, ⟨47, _⟩ => ⟨S2176x48, .f32⟩
  | .hbm, ⟨48, _⟩ => ⟨S2176x64, .f32⟩
  | .hbm, ⟨49, _⟩ => ⟨S_, .f32⟩
  | .hbm, ⟨50, _⟩ => ⟨S2176x8, .f32⟩
  | .hbm, ⟨51, _⟩ => ⟨S_, .f32⟩
  | .hbm, ⟨52, _⟩ => ⟨S2176x48, .f32⟩
  | .hbm, ⟨53, _⟩ => ⟨S2176x64, .f32⟩
  | .hbm, ⟨54, _⟩ => ⟨S2176x8, .f32⟩
  | .hbm, ⟨55, _⟩ => ⟨S_, .f32⟩
  | .hbm, ⟨56, _⟩ => ⟨S2176x56, .f32⟩
  | .hbm, ⟨57, _⟩ => ⟨S2176x64, .f32⟩
  | .hbm, ⟨58, _⟩ => ⟨S2176x128, .f32⟩
  | .hbm, ⟨59, _⟩ => ⟨S2176x128, .f32⟩
  | .hbm, ⟨60, _⟩ => ⟨S2176x128, .f32⟩
  | .hbm, ⟨61, _⟩ => ⟨S_, .f32⟩
  | .hbm, ⟨62, _⟩ => ⟨S2176x64, .f32⟩
  | .hbm, ⟨63, _⟩ => ⟨S_, .f32⟩
  | .hbm, ⟨64, _⟩ => ⟨S2176x64, .f32⟩
  | .hbm, ⟨65, _⟩ => ⟨S_, .f32⟩
  | .hbm, ⟨66, _⟩ => ⟨S2176x64, .f32⟩
  | .hbm, ⟨67, _⟩ => ⟨S2176x128, .f32⟩
  | .hbm, ⟨68, _⟩ => ⟨S2176x128, .f32⟩
  | .hbm, ⟨69, _⟩ => ⟨S2176x128, .f32⟩
  | .hbm, ⟨70, _⟩ => ⟨S1x2176x128, .f32⟩
  | .hbm, ⟨71, _⟩ => ⟨S1x2176x128, .f32⟩
  | .hbm, ⟨72, _⟩ => ⟨S1x2176x128, .f32⟩
  | .hbm, ⟨73, _⟩ => ⟨S1x2176x128, .f32⟩
  | .hbm, ⟨74, _⟩ => ⟨S1x2176x128, .f32⟩
  | .hbm, ⟨75, _⟩ => ⟨S1x2176x128, .f32⟩
  | .hbm, ⟨76, _⟩ => ⟨S1x2176x128, .f32⟩
  | .hbm, ⟨77, _⟩ => ⟨S1x2176x128, .f32⟩
  | .hbm, ⟨78, _⟩ => ⟨S1x2176x128, .f32⟩
  | .hbm, ⟨79, _⟩ => ⟨S9x2176x128, .f32⟩
  | .hbm, ⟨80, _⟩ => ⟨S2048x2048, .f32⟩
  | .hbm, ⟨81, _⟩ => ⟨S2048x512, .f32⟩
  | .hbm, ⟨82, _⟩ => ⟨S2048x512, .f32⟩
  | .hbm, ⟨83, _⟩ => ⟨S2048x1024, .f32⟩
  | .hbm, ⟨84, _⟩ => ⟨S2048x64, .f32⟩
  | .hbm, ⟨85, _⟩ => ⟨S2048x16, .f32⟩
  | .hbm, ⟨86, _⟩ => ⟨S2048x2048, .f32⟩
  | .hbm, ⟨87, _⟩ => ⟨S_, .f32⟩
  | .hbm, ⟨88, _⟩ => ⟨S2048x176, .f32⟩
  | .hbm, ⟨89, _⟩ => ⟨S2048x6400, .f32⟩
  | .hbm, ⟨90, _⟩ => ⟨S2048x6400, .bf16⟩
  | .hbm, ⟨91, _⟩ => ⟨S1x2048, .f32⟩
  | .hbm, ⟨92, _⟩ => ⟨S8704x6400, .f32⟩
  | .hbm, ⟨93, _⟩ => ⟨S4x2176x6400, .f32⟩
  | .hbm, ⟨94, _⟩ => ⟨S4x2064x512, .f32⟩
  | .hbm, ⟨95, _⟩ => ⟨S4x2064x4x128, .f32⟩
  | .hbm, ⟨96, _⟩ => ⟨S4x2064x512, .f32⟩
  | .hbm, ⟨97, _⟩ => ⟨S4x2064x4x128, .f32⟩
  | .hbm, ⟨98, _⟩ => ⟨S4x2064x64, .f32⟩
  | .local _ .vmem, ⟨0, _⟩ => ⟨S1088x2048, .f32⟩
  | .local _ .vmem, ⟨1, _⟩ => ⟨S1088x2048, .f32⟩
  | .local _ .vmem, ⟨2, _⟩ => ⟨S1x2048, .f32⟩
  | .local _ .vmem, ⟨3, _⟩ => ⟨S2048x256, .bf16⟩
  | .local _ .vmem, ⟨4, _⟩ => ⟨S2048x256, .bf16⟩
  | .local _ .vmem, ⟨5, _⟩ => ⟨S1x1088x128, .f32⟩
  | .local _ .vmem, ⟨6, _⟩ => ⟨S1x1088x128, .f32⟩
  | .local _ .vmem, ⟨7, _⟩ => ⟨S1x1088x128, .f32⟩
  | .local _ .vmem, ⟨8, _⟩ => ⟨S1x1088x128, .f32⟩
  | .local _ .vmem, ⟨9, _⟩ => ⟨S1x1088x128, .f32⟩
  | .local _ .vmem, ⟨10, _⟩ => ⟨S1x1088x128, .f32⟩
  | .local _ .vmem, ⟨11, _⟩ => ⟨S1088x256, .f32⟩
  | .local _ .vmem, ⟨12, _⟩ => ⟨S1088x256, .f32⟩
  | .local _ .vmem, ⟨13, _⟩ => ⟨S1088x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_11 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_cst_13 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c0_i32_4 : BitVec 32 := 0#32
  let v7 : BitVec 1 := Scalar.cmpi .sge arg1 c0_i32_4
  let c8_i32 : BitVec 32 := 8#32
  let v8 : BitVec 1 := Scalar.cmpi .slt arg1 c8_i32
  let v9 : BitVec 1 := Scalar.andi v7 v8
  let c16_i32 : BitVec 32 := 16#32
  let v10 : BitVec 1 := Scalar.cmpi .sge arg1 c16_i32
  let c18_i32 : BitVec 32 := 18#32
  let v11 : BitVec 1 := Scalar.cmpi .slt arg1 c18_i32
  let v12 : BitVec 1 := Scalar.andi v10 v11
  let v13 : BitVec 1 := Scalar.ori v9 v12
  let v14 : BitVec 32 := Scalar.extui v13
  let c0_i32_5 : BitVec 32 := 0#32
  let v15 : BitVec 1 := Scalar.cmpi .ne v14 c0_i32_5
  v15

def k0_cond3 (i : grid0.Coords) : BitVec 1 :=
  let arg1 : BitVec 32 := BitVec.ofNat 32 (i 1).val
  let c20_i32 : BitVec 32 := 20#32
  let v16 : BitVec 1 := Scalar.cmpi .sge arg1 c20_i32
  let c25_i32 : BitVec 32 := 25#32
  let v17 : BitVec 1 := Scalar.cmpi .slt arg1 c25_i32
  let v18 : BitVec 1 := Scalar.andi v16 v17
  let v19 : BitVec 32 := Scalar.extui v18
  let c0_i32_6 : BitVec 32 := 0#32
  let v20 : BitVec 1 := Scalar.cmpi .ne v19 c0_i32_6
  v20

def k0_cond4 (i : grid0.Coords) : BitVec 1 :=
  let arg1 : BitVec 32 := BitVec.ofNat 32 (i 1).val
  let c8_i32_7 : BitVec 32 := 8#32
  let v21 : BitVec 1 := Scalar.cmpi .sge arg1 c8_i32_7
  let c16_i32_8 : BitVec 32 := 16#32
  let v22 : BitVec 1 := Scalar.cmpi .slt arg1 c16_i32_8
  let v23 : BitVec 1 := Scalar.andi v21 v22
  let c18_i32_9 : BitVec 32 := 18#32
  let v24 : BitVec 1 := Scalar.cmpi .sge arg1 c18_i32_9
  let c20_i32_10 : BitVec 32 := 20#32
  let v25 : BitVec 1 := Scalar.cmpi .slt arg1 c20_i32_10
  let v26 : BitVec 1 := Scalar.andi v24 v25
  let v27 : BitVec 1 := Scalar.ori v23 v26
  let v28 : BitVec 32 := Scalar.extui v27
  let c0_i32_11 : BitVec 32 := 0#32
  let v29 : BitVec 1 := Scalar.cmpi .ne v28 c0_i32_11
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 1 := Scalar.cmpi .sge arg1 c20_i32
  let v1 : BitVec 32 := Scalar.extui v0
  let c24_i32 : BitVec 32 := 24#32
  let v2 : BitVec 1 := Scalar.cmpi .sge arg1 c24_i32
  let v3 : BitVec 32 := Scalar.extui v2
  let v4 : BitVec 32 := Scalar.addi v1 v3
  let c3_i32 : BitVec 32 := 3#32
  let v5 : BitVec 32 := Scalar.muli v4 c3_i32
  let c0_i32 : BitVec 32 := 0#32
  let v6 : BitVec 32 := Scalar.addi v5 c0_i32
  let c2_i32 : BitVec 32 := 2#32
  let c0_i32_0 : BitVec 32 := 0#32
  let v7 : BitVec 1 := Scalar.cmpi .eq c2_i32 c0_i32_0
  let c1_i32 : BitVec 32 := 1#32
  let v8 : BitVec 32 := Scalar.select v7 c1_i32 c2_i32
  let v9 : BitVec 32 := Scalar.remsi arg0 v8
  let c0_i32_1 : BitVec 32 := 0#32
  let v10 : BitVec 1 := Scalar.cmpi .ne v9 c0_i32_1
  let c0_i32_2 : BitVec 32 := 0#32
  let v11 : BitVec 1 := Scalar.cmpi .slt v9 c0_i32_2
  let c0_i32_3 : BitVec 32 := 0#32
  let v12 : BitVec 1 := Scalar.cmpi .slt v8 c0_i32_3
  let v13 : BitVec 1 := Scalar.xori v11 v12
  let v14 : BitVec 1 := Scalar.andi v13 v10
  let v15 : BitVec 32 := Scalar.addi v9 v8
  let v16 : BitVec 32 := Scalar.select v14 v15 v9
  let c0_i32_4 : BitVec 32 := 0#32
  let c0_i32_5 : BitVec 32 := 0#32
  ![v6.toNat, v16.toNat, c0_i32_4.toNat]

def cc0_transform_4 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 1 := Scalar.cmpi .sge arg1 c20_i32
  let v1 : BitVec 32 := Scalar.extui v0
  let c24_i32 : BitVec 32 := 24#32
  let v2 : BitVec 1 := Scalar.cmpi .sge arg1 c24_i32
  let v3 : BitVec 32 := Scalar.extui v2
  let v4 : BitVec 32 := Scalar.addi v1 v3
  let c3_i32 : BitVec 32 := 3#32
  let v5 : BitVec 32 := Scalar.muli v4 c3_i32
  let c1_i32 : BitVec 32 := 1#32
  let v6 : BitVec 32 := Scalar.addi v5 c1_i32
  let c2_i32 : BitVec 32 := 2#32
  let c0_i32 : BitVec 32 := 0#32
  let v7 : BitVec 1 := Scalar.cmpi .eq c2_i32 c0_i32
  let c1_i32_0 : BitVec 32 := 1#32
  let v8 : BitVec 32 := Scalar.select v7 c1_i32_0 c2_i32
  let v9 : BitVec 32 := Scalar.remsi arg0 v8
  let c0_i32_1 : BitVec 32 := 0#32
  let v10 : BitVec 1 := Scalar.cmpi .ne v9 c0_i32_1
  let c0_i32_2 : BitVec 32 := 0#32
  let v11 : BitVec 1 := Scalar.cmpi .slt v9 c0_i32_2
  let c0_i32_3 : BitVec 32 := 0#32
  let v12 : BitVec 1 := Scalar.cmpi .slt v8 c0_i32_3
  let v13 : BitVec 1 := Scalar.xori v11 v12
  let v14 : BitVec 1 := Scalar.andi v13 v10
  let v15 : BitVec 32 := Scalar.addi v9 v8
  let v16 : BitVec 32 := Scalar.select v14 v15 v9
  let c0_i32_4 : BitVec 32 := 0#32
  let c0_i32_5 : BitVec 32 := 0#32
  ![v6.toNat, v16.toNat, c0_i32_4.toNat]

def cc0_transform_5 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 1 := Scalar.cmpi .sge arg1 c20_i32
  let v1 : BitVec 32 := Scalar.extui v0
  let c24_i32 : BitVec 32 := 24#32
  let v2 : BitVec 1 := Scalar.cmpi .sge arg1 c24_i32
  let v3 : BitVec 32 := Scalar.extui v2
  let v4 : BitVec 32 := Scalar.addi v1 v3
  let c3_i32 : BitVec 32 := 3#32
  let v5 : BitVec 32 := Scalar.muli v4 c3_i32
  let c2_i32 : BitVec 32 := 2#32
  let v6 : BitVec 32 := Scalar.addi v5 c2_i32
  let c2_i32_0 : BitVec 32 := 2#32
  let c0_i32 : BitVec 32 := 0#32
  let v7 : BitVec 1 := Scalar.cmpi .eq c2_i32_0 c0_i32
  let c1_i32 : BitVec 32 := 1#32
  let v8 : BitVec 32 := Scalar.select v7 c1_i32 c2_i32_0
  let v9 : BitVec 32 := Scalar.remsi arg0 v8
  let c0_i32_1 : BitVec 32 := 0#32
  let v10 : BitVec 1 := Scalar.cmpi .ne v9 c0_i32_1
  let c0_i32_2 : BitVec 32 := 0#32
  let v11 : BitVec 1 := Scalar.cmpi .slt v9 c0_i32_2
  let c0_i32_3 : BitVec 32 := 0#32
  let v12 : BitVec 1 := Scalar.cmpi .slt v8 c0_i32_3
  let v13 : BitVec 1 := Scalar.xori v11 v12
  let v14 : BitVec 1 := Scalar.andi v13 v10
  let v15 : BitVec 32 := Scalar.addi v9 v8
  let v16 : BitVec 32 := Scalar.select v14 v15 v9
  let c0_i32_4 : BitVec 32 := 0#32
  let c0_i32_5 : BitVec 32 := 0#32
  ![v6.toNat, v16.toNat, c0_i32_4.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1088x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1088x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1088x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8704x2048 : Shape := ⟨2, ![8704, 2048]⟩
abbrev S2048 : Shape := ⟨1, ![2048]⟩
abbrev S2048x6224 : Shape := ⟨2, ![2048, 6224]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S8704x6224 : Shape := ⟨2, ![8704, 6224]⟩
abbrev S8704x512 : Shape := ⟨2, ![8704, 512]⟩
abbrev S8704x1024 : Shape := ⟨2, ![8704, 1024]⟩
abbrev S8704x64 : Shape := ⟨2, ![8704, 64]⟩
abbrev S8704x16 : Shape := ⟨2, ![8704, 16]⟩
abbrev S2176 : Shape := ⟨1, ![2176]⟩
abbrev S4x2176x16x128 : Shape := ⟨4, ![4, 2176, 16, 128]⟩
abbrev S16 : Shape := ⟨1, ![16]⟩
abbrev S2176x1 : Shape := ⟨2, ![2176, 1]⟩
abbrev S1x16 : Shape := ⟨2, ![1, 16]⟩
abbrev S2176x16 : Shape := ⟨2, ![2176, 16]⟩
abbrev S2176x1x16 : Shape := ⟨3, ![2176, 1, 16]⟩
abbrev S4x2176x16x16 : Shape := ⟨4, ![4, 2176, 16, 16]⟩
abbrev S4x2176x16x96 : Shape := ⟨4, ![4, 2176, 16, 96]⟩
abbrev S1x2176x1x16 : Shape := ⟨4, ![1, 2176, 1, 16]⟩
abbrev S4x2176x4x128 : Shape := ⟨4, ![4, 2176, 4, 128]⟩
abbrev S4x2176x4x16 : Shape := ⟨4, ![4, 2176, 4, 16]⟩
abbrev S4x2176x4x96 : Shape := ⟨4, ![4, 2176, 4, 96]⟩
abbrev S4x2176x16x64 : Shape := ⟨4, ![4, 2176, 16, 64]⟩
abbrev S8 : Shape := ⟨1, ![8]⟩
abbrev S1x8 : Shape := ⟨2, ![1, 8]⟩
abbrev S2176x8 : Shape := ⟨2, ![2176, 8]⟩
abbrev S2176x1x8 : Shape := ⟨3, ![2176, 1, 8]⟩
abbrev S4x2176x16x8 : Shape := ⟨4, ![4, 2176, 16, 8]⟩
abbrev S4x2176x16x48 : Shape := ⟨4, ![4, 2176, 16, 48]⟩
abbrev S1x2176x1x8 : Shape := ⟨4, ![1, 2176, 1, 8]⟩
abbrev S4x2176x1x64 : Shape := ⟨4, ![4, 2176, 1, 64]⟩
abbrev S4x2176x1x8 : Shape := ⟨4, ![4, 2176, 1, 8]⟩
abbrev S4x2176x1x48 : Shape := ⟨4, ![4, 2176, 1, 48]⟩
abbrev S8704x176 : Shape := ⟨2, ![8704, 176]⟩
abbrev S8704x6400 : Shape := ⟨2, ![8704, 6400]⟩
abbrev S4x2064x4x128 : Shape := ⟨4, ![4, 2064, 4, 128]⟩
abbrev S4x2176x64 : Shape := ⟨3, ![4, 2176, 64]⟩
abbrev S4x2064x64 : Shape := ⟨3, ![4, 2064, 64]⟩

abbrev nBuf : Space → Nat
  | .hbm => 184
  | .vmem => 0
  | .smem => 0
  | _ => 0

abbrev hbmTy0_0 (i : Nat) : BufTy := match i % 128 with
  | 0 => ⟨S8704x2048, .f32⟩
  | 1 => ⟨S2048, .f32⟩
  | 2 => ⟨S2048x6224, .f32⟩
  | 3 => ⟨S8704x2048, .f32⟩
  | 4 => ⟨S_, .f32⟩
  | 5 => ⟨S8704, .f32⟩
  | 6 => ⟨S8704x1, .f32⟩
  | 7 => ⟨S_, .f32⟩
  | 8 => ⟨S8704x1, .f32⟩
  | 9 => ⟨S8704x1, .f32⟩
  | 10 => ⟨S_, .f32⟩
  | 11 => ⟨S8704x1, .f32⟩
  | 12 => ⟨S8704x1, .f32⟩
  | 13 => ⟨S8704x1, .f32⟩
  | 14 => ⟨S8704x2048, .f32⟩
  | 15 => ⟨S8704x2048, .f32⟩
  | 16 => ⟨S1x2048, .f32⟩
  | 17 => ⟨S8704x2048, .f32⟩
  | 18 => ⟨S8704x2048, .f32⟩
  | 19 => ⟨S8704x6224, .f32⟩
  | 20 => ⟨S8704x2048, .f32⟩
  | 21 => ⟨S8704x512, .f32⟩
  | 22 => ⟨S8704x512, .f32⟩
  | 23 => ⟨S8704x1024, .f32⟩
  | 24 => ⟨S8704x64, .f32⟩
  | 25 => ⟨S8704x16, .f32⟩
  | 26 => ⟨S8704x2048, .f32⟩
  | 27 => ⟨S2176, .i32⟩
  | 28 => ⟨S4x2176x16x128, .f32⟩
  | 29 => ⟨S16, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S2176, .f32⟩
  | 38 => ⟨S2176x1, .f32⟩
  | 39 => ⟨S1x16, .f32⟩
  | 40 => ⟨S2176x16, .f32⟩
  | 41 => ⟨S2176x16, .f32⟩
  | 42 => ⟨S2176x16, .f32⟩
  | 43 => ⟨S2176x1x16, .f32⟩
  | 44 => ⟨S2176x1x16, .f32⟩
  | 45 => ⟨S2176x1x16, .f32⟩
  | 46 => ⟨S4x2176x16x16, .f32⟩
  | 47 => ⟨S4x2176x16x16, .f32⟩
  | 48 => ⟨S4x2176x16x96, .f32⟩
  | 49 => ⟨S1x2176x1x16, .f32⟩
  | 50 => ⟨S4x2176x16x16, .f32⟩
  | 51 => ⟨S4x2176x16x16, .f32⟩
  | 52 => ⟨S1x2176x1x16, .f32⟩
  | 53 => ⟨S4x2176x16x16, .f32⟩
  | 54 => ⟨S4x2176x16x16, .f32⟩
  | 55 => ⟨S4x2176x16x16, .f32⟩
  | 56 => ⟨S1x2176x1x16, .f32⟩
  | 57 => ⟨S4x2176x16x16, .f32⟩
  | 58 => ⟨S4x2176x16x16, .f32⟩
  | 59 => ⟨S1x2176x1x16, .f32⟩
  | 60 => ⟨S4x2176x16x16, .f32⟩
  | 61 => ⟨S4x2176x16x16, .f32⟩
  | 62 => ⟨S4x2176x16x16, .f32⟩
  | 63 => ⟨S4x2176x16x128, .f32⟩
  | 64 => ⟨S8704x2048, .f32⟩
  | 65 => ⟨S4x2176x4x128, .f32⟩
  | 66 => ⟨S16, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S2176, .f32⟩
  | 75 => ⟨S2176x1, .f32⟩
  | 76 => ⟨S1x16, .f32⟩
  | 77 => ⟨S2176x16, .f32⟩
  | 78 => ⟨S2176x16, .f32⟩
  | 79 => ⟨S2176x16, .f32⟩
  | 80 => ⟨S2176x1x16, .f32⟩
  | 81 => ⟨S2176x1x16, .f32⟩
  | 82 => ⟨S2176x1x16, .f32⟩
  | 83 => ⟨S4x2176x4x16, .f32⟩
  | 84 => ⟨S4x2176x4x16, .f32⟩
  | 85 => ⟨S4x2176x4x96, .f32⟩
  | 86 => ⟨S1x2176x1x16, .f32⟩
  | 87 => ⟨S4x2176x4x16, .f32⟩
  | 88 => ⟨S4x2176x4x16, .f32⟩
  | 89 => ⟨S1x2176x1x16, .f32⟩
  | 90 => ⟨S4x2176x4x16, .f32⟩
  | 91 => ⟨S4x2176x4x16, .f32⟩
  | 92 => ⟨S4x2176x4x16, .f32⟩
  | 93 => ⟨S1x2176x1x16, .f32⟩
  | 94 => ⟨S4x2176x4x16, .f32⟩
  | 95 => ⟨S4x2176x4x16, .f32⟩
  | 96 => ⟨S1x2176x1x16, .f32⟩
  | 97 => ⟨S4x2176x4x16, .f32⟩
  | 98 => ⟨S4x2176x4x16, .f32⟩
  | 99 => ⟨S4x2176x4x16, .f32⟩
  | 100 => ⟨S4x2176x4x128, .f32⟩
  | 101 => ⟨S4x2176x16x64, .f32⟩
  | 102 => ⟨S8, .f32⟩
  | 103 => ⟨S8, .f32⟩
  | 104 => ⟨S_, .f32⟩
  | 105 => ⟨S8, .f32⟩
  | 106 => ⟨S8, .f32⟩
  | 107 => ⟨S_, .f32⟩
  | 108 => ⟨S8, .f32⟩
  | 109 => ⟨S8, .f32⟩
  | 110 => ⟨S2176, .f32⟩
  | 111 => ⟨S2176x1, .f32⟩
  | 112 => ⟨S1x8, .f32⟩
  | 113 => ⟨S2176x8, .f32⟩
  | 114 => ⟨S2176x8, .f32⟩
  | 115 => ⟨S2176x8, .f32⟩
  | 116 => ⟨S2176x1x8, .f32⟩
  | 117 => ⟨S2176x1x8, .f32⟩
  | 118 => ⟨S2176x1x8, .f32⟩
  | 119 => ⟨S4x2176x16x8, .f32⟩
  | 120 => ⟨S4x2176x16x8, .f32⟩
  | 121 => ⟨S4x2176x16x48, .f32⟩
  | 122 => ⟨S1x2176x1x8, .f32⟩
  | 123 => ⟨S4x2176x16x8, .f32⟩
  | 124 => ⟨S4x2176x16x8, .f32⟩
  | 125 => ⟨S1x2176x1x8, .f32⟩
  | 126 => ⟨S4x2176x16x8, .f32⟩
  | 127 => ⟨S4x2176x16x8, .f32⟩
  | _ => ⟨S8704x2048, .f32⟩

abbrev hbmTy0_1 (i : Nat) : BufTy := match i % 128 with
  | 0 => ⟨S4x2176x16x8, .f32⟩
  | 1 => ⟨S1x2176x1x8, .f32⟩
  | 2 => ⟨S4x2176x16x8, .f32⟩
  | 3 => ⟨S4x2176x16x8, .f32⟩
  | 4 => ⟨S1x2176x1x8, .f32⟩
  | 5 => ⟨S4x2176x16x8, .f32⟩
  | 6 => ⟨S4x2176x16x8, .f32⟩
  | 7 => ⟨S4x2176x16x8, .f32⟩
  | 8 => ⟨S4x2176x16x64, .f32⟩
  | 9 => ⟨S8704x1024, .f32⟩
  | 10 => ⟨S4x2176x1x64, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S2176, .f32⟩
  | 20 => ⟨S2176x1, .f32⟩
  | 21 => ⟨S1x8, .f32⟩
  | 22 => ⟨S2176x8, .f32⟩
  | 23 => ⟨S2176x8, .f32⟩
  | 24 => ⟨S2176x8, .f32⟩
  | 25 => ⟨S2176x1x8, .f32⟩
  | 26 => ⟨S2176x1x8, .f32⟩
  | 27 => ⟨S2176x1x8, .f32⟩
  | 28 => ⟨S4x2176x1x8, .f32⟩
  | 29 => ⟨S4x2176x1x8, .f32⟩
  | 30 => ⟨S4x2176x1x48, .f32⟩
  | 31 => ⟨S1x2176x1x8, .f32⟩
  | 32 => ⟨S4x2176x1x8, .f32⟩
  | 33 => ⟨S4x2176x1x8, .f32⟩
  | 34 => ⟨S1x2176x1x8, .f32⟩
  | 35 => ⟨S4x2176x1x8, .f32⟩
  | 36 => ⟨S4x2176x1x8, .f32⟩
  | 37 => ⟨S4x2176x1x8, .f32⟩
  | 38 => ⟨S1x2176x1x8, .f32⟩
  | 39 => ⟨S4x2176x1x8, .f32⟩
  | 40 => ⟨S4x2176x1x8, .f32⟩
  | 41 => ⟨S1x2176x1x8, .f32⟩
  | 42 => ⟨S4x2176x1x8, .f32⟩
  | 43 => ⟨S4x2176x1x8, .f32⟩
  | 44 => ⟨S4x2176x1x8, .f32⟩
  | 45 => ⟨S4x2176x1x64, .f32⟩
  | 46 => ⟨S8704x512, .f32⟩
  | 47 => ⟨S8704x64, .f32⟩
  | 48 => ⟨S_, .f32⟩
  | 49 => ⟨S8704x176, .f32⟩
  | 50 => ⟨S8704x6400, .f32⟩
  | 51 => ⟨S4x2064x4x128, .f32⟩
  | 52 => ⟨S4x2176x4x128, .f32⟩
  | 53 => ⟨S4x2064x4x128, .f32⟩
  | 54 => ⟨S4x2176x64, .f32⟩
  | 55 => ⟨S4x2064x64, .f32⟩
  | _ => ⟨S8704x2048, .f32⟩

abbrev hbmTy (i : Nat) : BufTy := match i / 128 with
  | 0 => hbmTy0_0 i
  | 1 => hbmTy0_1 i
  | _ => ⟨S8704x2048, .f32⟩

abbrev bufTy : (tb : Table) → Fin (tcTables nBuf tb) → BufTy
  | .hbm, ⟨i, _⟩ => hbmTy i
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_4 : Ref sig .tc := ⟨.hbm, 68, rfl⟩
abbrev main_v60 : Ref sig .tc := ⟨.hbm, 69, rfl⟩
abbrev main_v61 : Ref sig .tc := ⟨.hbm, 70, rfl⟩
abbrev main_cst_5 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_cst_6 : Ref sig .tc := ⟨.hbm, 104, rfl⟩
abbrev main_v94 : Ref sig .tc := ⟨.hbm, 105, rfl⟩
abbrev main_v95 : Ref sig .tc := ⟨.hbm, 106, rfl⟩
abbrev main_cst_7 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_cst_8 : Ref sig .tc := ⟨.hbm, 141, rfl⟩
abbrev main_v129 : Ref sig .tc := ⟨.hbm, 142, rfl⟩
abbrev main_v130 : Ref sig .tc := ⟨.hbm, 143, rfl⟩
abbrev main_cst_9 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_cst_10 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩

abbrev nD : Nat := 1
abbrev τ : Topo := Topo.v7x

variable {F : FTy → Type} [FloatOps F]
-- ==== Kernel5.lean ====
abbrev S8704x2048 : Shape := ⟨2, ![8704, 2048]⟩
abbrev S8704x6400 : Shape := ⟨2, ![8704, 6400]⟩
abbrev S2048x2048 : Shape := ⟨2, ![2048, 2048]⟩
abbrev S544x2048 : Shape := ⟨2, ![544, 2048]⟩
abbrev S2048x512 : Shape := ⟨2, ![2048, 512]⟩
abbrev S544x512 : Shape := ⟨2, ![544, 512]⟩

abbrev nBuf : Space → Nat
  | .hbm => 6
  | .vmem => 11
  | .smem => 0
  | _ => 0

abbrev bufTy : (tb : Table) → Fin (tcTables nBuf tb) → BufTy
  | .hbm, ⟨0, _⟩ => ⟨S8704x2048, .f32⟩
  | .hbm, ⟨1, _⟩ => ⟨S8704x6400, .f32⟩
  | .hbm, ⟨2, _⟩ => ⟨S2048x2048, .f32⟩
  | .hbm, ⟨3, _⟩ => ⟨S8704x2048, .f32⟩
  | .hbm, ⟨4, _⟩ => ⟨S2048x2048, .bf16⟩
  | .hbm, ⟨5, _⟩ => ⟨S8704x2048, .f32⟩
  | .local _ .vmem, ⟨0, _⟩ => ⟨S544x2048, .f32⟩
  | .local _ .vmem, ⟨1, _⟩ => ⟨S544x2048, .f32⟩
  | .local _ .vmem, ⟨2, _⟩ => ⟨S544x2048, .f32⟩
  | .local _ .vmem, ⟨3, _⟩ => ⟨S544x2048, .f32⟩
  | .local _ .vmem, ⟨4, _⟩ => ⟨S2048x512, .bf16⟩
  | .local _ .vmem, ⟨5, _⟩ => ⟨S2048x512, .bf16⟩
  | .local _ .vmem, ⟨6, _⟩ => ⟨S544x512, .f32⟩
  | .local _ .vmem, ⟨7, _⟩ => ⟨S544x512, .f32⟩
  | .local _ .vmem, ⟨8, _⟩ => ⟨S544x512, .f32⟩
  | .local _ .vmem, ⟨9, _⟩ => ⟨S544x512, .f32⟩
  | .local _ .vmem, ⟨10, _⟩ => ⟨S544x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S544x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8704x2048 : Shape := ⟨2, ![8704, 2048]⟩
abbrev S8704x6400 : Shape := ⟨2, ![8704, 6400]⟩
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x6400, .f32⟩
  | .hbm, ⟨2, _⟩ => ⟨S2048x2048, .f32⟩
  | .hbm, ⟨3, _⟩ => ⟨S8704x2048, .f32⟩
  | .hbm, ⟨4, _⟩ => ⟨S8704x2048, .f32⟩
  | .hbm, ⟨5, _⟩ => ⟨S8704x2048, .f32⟩
  | .hbm, ⟨6, _⟩ => ⟨S8704x2048, .f32⟩
  | .hbm, ⟨7, _⟩ => ⟨S_, .f32⟩
  | .hbm, ⟨8, _⟩ => ⟨S8704x2048, .f32⟩
  | .hbm, ⟨9, _⟩ => ⟨S8704x2048, .f32⟩
  | .hbm, ⟨10, _⟩ => ⟨S_, .f32⟩
  | .hbm, ⟨11, _⟩ => ⟨S8704x2048, .f32⟩
  | .hbm, ⟨12, _⟩ => ⟨S8704x2048, .f32⟩
  | .hbm, ⟨13, _⟩ => ⟨S8704x2048, .f32⟩
  | .hbm, ⟨14, _⟩ => ⟨S8704x2048, .f32⟩
  | .hbm, ⟨15, _⟩ => ⟨S8704x2048, .f32⟩
  | .hbm, ⟨16, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]
-- ==== Kernel6.lean ====
abbrev S8704x2048 : Shape := ⟨2, ![8704, 2048]⟩
abbrev S2048 : Shape := ⟨1, ![2048]⟩
abbrev S1x2048 : Shape := ⟨2, ![1, 2048]⟩
abbrev S1088x2048 : Shape := ⟨2, ![1088, 2048]⟩
abbrev S1088 : Shape := ⟨1, ![1088]⟩
abbrev S1088x1 : Shape := ⟨2, ![1088, 1]⟩
abbrev S4x2176x2048 : Shape := ⟨3, ![4, 2176, 2048]⟩
abbrev S4x2048x2048 : Shape := ⟨3, ![4, 2048, 2048]⟩

abbrev nBuf : Space → Nat
  | .hbm => 6
  | .vmem => 5
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S1x2048, .f32⟩
  | .hbm, ⟨3, _⟩ => ⟨S8704x2048, .f32⟩
  | .hbm, ⟨4, _⟩ => ⟨S4x2176x2048, .f32⟩
  | .hbm, ⟨5, _⟩ => ⟨S4x2048x2048, .f32⟩
  | .local _ .vmem, ⟨0, _⟩ => ⟨S1088x2048, .f32⟩
  | .local _ .vmem, ⟨1, _⟩ => ⟨S1088x2048, .f32⟩
  | .local _ .vmem, ⟨2, _⟩ => ⟨S1x2048, .f32⟩
  | .local _ .vmem, ⟨3, _⟩ => ⟨S1088x2048, .f32⟩
  | .local _ .vmem, ⟨4, _⟩ => ⟨S1088x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1088x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8704x2048 : Shape := ⟨2, ![8704, 2048]⟩
abbrev S2048 : Shape := ⟨1, ![2048]⟩
abbrev S4x2176x2048 : Shape := ⟨3, ![4, 2176, 2048]⟩
abbrev S4x2064x2048 : Shape := ⟨3, ![4, 2064, 2048]⟩
abbrev S_ : Shape := ⟨0, ![]⟩
abbrev S4x2064 : Shape := ⟨2, ![4, 2064]⟩
abbrev S4x2064x1 : Shape := ⟨3, ![4, 2064, 1]⟩
abbrev S1x1x2048 : Shape := ⟨3, ![1, 1, 2048]⟩
abbrev S4x2048x2048 : Shape := ⟨3, ![4, 2048, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S4x2176x2048, .f32⟩
  | .hbm, ⟨3, _⟩ => ⟨S4x2064x2048, .f32⟩
  | .hbm, ⟨4, _⟩ => ⟨S4x2064x2048, .f32⟩
  | .hbm, ⟨5, _⟩ => ⟨S_, .f32⟩
  | .hbm, ⟨6, _⟩ => ⟨S4x2064, .f32⟩
  | .hbm, ⟨7, _⟩ => ⟨S4x2064x1, .f32⟩
  | .hbm, ⟨8, _⟩ => ⟨S_, .f32⟩
  | .hbm, ⟨9, _⟩ => ⟨S4x2064x1, .f32⟩
  | .hbm, ⟨10, _⟩ => ⟨S4x2064x1, .f32⟩
  | .hbm, ⟨11, _⟩ => ⟨S_, .f32⟩
  | .hbm, ⟨12, _⟩ => ⟨S4x2064x1, .f32⟩
  | .hbm, ⟨13, _⟩ => ⟨S4x2064x1, .f32⟩
  | .hbm, ⟨14, _⟩ => ⟨S4x2064x1, .f32⟩
  | .hbm, ⟨15, _⟩ => ⟨S4x2064x2048, .f32⟩
  | .hbm, ⟨16, _⟩ => ⟨S4x2064x2048, .f32⟩
  | .hbm, ⟨17, _⟩ => ⟨S1x1x2048, .f32⟩
  | .hbm, ⟨18, _⟩ => ⟨S4x2064x2048, .f32⟩
  | .hbm, ⟨19, _⟩ => ⟨S4x2064x2048, .f32⟩
  | .hbm, ⟨20, _⟩ => ⟨S4x2048x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel7.lean ====
abbrev S16x2048 : Shape := ⟨2, ![16, 2048]⟩
abbrev S2048 : Shape := ⟨1, ![2048]⟩
abbrev S1x2048 : Shape := ⟨2, ![1, 2048]⟩
abbrev S16 : Shape := ⟨1, ![16]⟩
abbrev S16x1 : Shape := ⟨2, ![16, 1]⟩
abbrev S8x2048 : Shape := ⟨2, ![8, 2048]⟩
abbrev S8x1x2048 : Shape := ⟨3, ![8, 1, 2048]⟩

abbrev nBuf : Space → Nat
  | .hbm => 6
  | .vmem => 3
  | .smem => 0
  | _ => 0

abbrev bufTy : (tb : Table) → Fin (tcTables nBuf tb) → BufTy
  | .hbm, ⟨0, _⟩ => ⟨S16x2048, .f32⟩
  | .hbm, ⟨1, _⟩ => ⟨S2048, .f32⟩
  | .hbm, ⟨2, _⟩ => ⟨S1x2048, .f32⟩
  | .hbm, ⟨3, _⟩ => ⟨S16x2048, .f32⟩
  | .hbm, ⟨4, _⟩ => ⟨S8x2048, .f32⟩
  | .hbm, ⟨5, _⟩ => ⟨S8x1x2048, .f32⟩
  | .local _ .vmem, ⟨0, _⟩ => ⟨S16x2048, .f32⟩
  | .local _ .vmem, ⟨1, _⟩ => ⟨S1x2048, .f32⟩
  | .local _ .vmem, ⟨2, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference7Ideal.lean ====
abbrev S16x2048 : Shape := ⟨2, ![16, 2048]⟩
abbrev S2048 : Shape := ⟨1, ![2048]⟩
abbrev S8x2048 : Shape := ⟨2, ![8, 2048]⟩
abbrev S8x1x2048 : Shape := ⟨3, ![8, 1, 2048]⟩
abbrev S_ : Shape := ⟨0, ![]⟩
abbrev S8x1 : Shape := ⟨2, ![8, 1]⟩
abbrev S8x1x1 : Shape := ⟨3, ![8, 1, 1]⟩
abbrev S1x1x2048 : Shape := ⟨3, ![1, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048, .f32⟩
  | .hbm, ⟨2, _⟩ => ⟨S8x2048, .f32⟩
  | .hbm, ⟨3, _⟩ => ⟨S8x1x2048, .f32⟩
  | .hbm, ⟨4, _⟩ => ⟨S8x1x2048, .f32⟩
  | .hbm, ⟨5, _⟩ => ⟨S_, .f32⟩
  | .hbm, ⟨6, _⟩ => ⟨S8x1, .f32⟩
  | .hbm, ⟨7, _⟩ => ⟨S8x1x1, .f32⟩
  | .hbm, ⟨8, _⟩ => ⟨S_, .f32⟩
  | .hbm, ⟨9, _⟩ => ⟨S8x1x1, .f32⟩
  | .hbm, ⟨10, _⟩ => ⟨S8x1x1, .f32⟩
  | .hbm, ⟨11, _⟩ => ⟨S_, .f32⟩
  | .hbm, ⟨12, _⟩ => ⟨S8x1x1, .f32⟩
  | .hbm, ⟨13, _⟩ => ⟨S8x1x1, .f32⟩
  | .hbm, ⟨14, _⟩ => ⟨S8x1x1, .f32⟩
  | .hbm, ⟨15, _⟩ => ⟨S8x1x2048, .f32⟩
  | .hbm, ⟨16, _⟩ => ⟨S8x1x2048, .f32⟩
  | .hbm, ⟨17, _⟩ => ⟨S1x1x2048, .f32⟩
  | .hbm, ⟨18, _⟩ => ⟨S8x1x2048, .f32⟩
  | .hbm, ⟨19, _⟩ => ⟨S8x1x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Trip.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pointwise
public import Idealize.ShloMosaic.Lib.WholeRead
public import Idealize.ShloMosaic.Lib.ValueLayout

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The state of one group of heads: running maximum, running sum, running product. -/
abbrev St (F : FTy → Type) : Type := FVec F S512x1 .f32 × FVec F S512x1 .f32 × FVec F S512x256 .f32

/-- Rows `256 j …` of slot `s` of the keys' scratch. -/
def keys (KB : Vec F S8x2304x128 .bf16) (s : Fin 8) (j : ℕ) : Vec F S256x128 .bf16 := fun x =>
  KB (ix3 s ⟨(256 * j + (x 0).val) % 2304, Nat.mod_lt _ (by decide)⟩ (x 1))

/-- Rows `256 j …` of slot `s` of the values' scratch. -/
def vals (VB : Vec F S4x2304x256 .bf16) (s : Fin 4) (j : ℕ) : Vec F S256x256 .bf16 := fun x =>
  VB (ix3 s ⟨(256 * j + (x 0).val) % 2304, Nat.mod_lt _ (by decide)⟩ (x 1))

/-- One chunk of 256 keys with none of them masked. -/
def step (qa qb : FVec F S256x128 .bf16) (ka kb : Vec F S256x128 .bf16) (v : Vec F S256x256 .bf16) (a : St F) : St F :=
  (k0_pay40 qa qb a.1 ka kb, k0_pay43 qa qb a.1 a.2.1 ka kb, k0_pay44 qa qb a.1 a.2.2 ka kb v)

/-- The state after `n` chunks. -/
def steps (KB : Vec F S8x2304x128 .bf16) (VB : Vec F S4x2304x256 .bf16) (sa sb : Fin 8) (sv : Fin 4) (qa qb : FVec F S256x128 .bf16) (a : St F) : ℕ → St F
  | 0 => a
  | n + 1 => step qa qb (keys KB sa n) (keys KB sb n) (vals VB sv n) (steps KB VB sa sb sv qa qb a n)

section
variable (c : Dev nD) (i : grid0.Coords) (arg2 : Memref sig .tc .vmem S1x128x2048 .f32) (harg2 : arg2.IsWhole) (arg3 : Memref sig .tc .vmem S1x2176x1024 .f32) (harg3 : arg3.IsWhole) (arg4 : Memref sig .tc .vmem S1x2176x1024 .f32) (harg4 : arg4.IsWhole) (arg5 : Memref sig .tc .vmem S4x128 .f32) (harg5 : arg5.IsWhole) (arg6 : Memref sig .tc .vmem S1x256 .f32) (harg6 : arg6.IsWhole) (arg7 : Memref sig .tc .vmem S1x128x2048 .f32) (harg7 : arg7.IsWhole) (arg8 : Memref sig .tc .vmem S8x2304x128 .bf16) (harg8 : arg8.IsWhole) (arg9 : Memref sig .tc .vmem S4x2304x256 .bf16) (harg9 : arg9.IsWhole)
  (KB : Vec F S8x2304x128 .bf16) (VB : Vec F S4x2304x256 .bf16)

/-- The two scratch buffers at their contents. -/
abbrev held : sProp 𝕄 :=
  iprop((arg8.view.loc (c : Thread nD τ) ↦[arg8.view.set]{fullShare} harg8.unread KB) ∗ (arg9.view.loc (c : Thread nD τ) ↦[arg9.view.set]{fullShare} harg9.unread VB))

omit [FloatOps F] [Named F] in
/-- A chunk of keys loaded through its slot. -/
theorem load_keys (s : Fin 8) (j : ℕ) (hj : j < 9) (o : Fin 2 → ℕ) (ho : o = ![256 * j, 0]) (o3 : Fin 3 → ℕ) (ho3 : o3 = ![s.val, 0, 0])
    (inb3 : ∀ a, o3 a + S1x2304x128.size a ≤ S8x2304x128.size a) (inb2 : ∀ a, o a + S256x128.size a ≤ S2304x128.size a) (p q hw hR) :
    (LoadRect.valAlong (lr := (Rect.unit (s := S2304x128) o S256x128.size inb2).toLoadRect) hR (View.readAt (Elt F) arg8.view
      ((Rect.unit (s := S8x2304x128) o3 S1x2304x128.size inb3).withinL
        ((Rect.unit (s := S2304x128) o S256x128.size inb2).consLift ![1, 2304, 128] p q).toLoadRect hw) (harg8.unread KB)) : S256x128.Idx → Elt F .bf16)
      = keys KB s j := by
  subst ho ho3
  funext x
  idx_vars x
  unfold LoadRect.valAlong keys
  rw [harg8.readAt_unread]
  refine congrArg KB ?_
  have e : Shape.reshapeEquiv hR (ix2 x0 x1 : S256x128.Idx) = (ix3 (0 : Fin 1) x0 x1 : (⟨3, ![1, 256, 128]⟩ : Shape).Idx) :=
    ValueIdx.reshapeEquiv_ix2_1ab _ _ _
  refine (congrArg _ e).trans (funext fun a => Fin.ext ?_)
  fin_cases a
  · show (s.val + 0) + 1 * 0 = s.val; omega
  · show (0 + 256 * j) + 1 * x0.val = (256 * j + x0.val) % 2304
    rw [Nat.mod_eq_of_lt (by omega)]; omega
  · show (0 + 0) + 1 * x1.val = x1.val; omega

omit [FloatOps F] [Named F] in
/-- A chunk of values loaded through its slot. -/
theorem load_vals (s : Fin 4) (j : ℕ) (hj : j < 9) (o : Fin 2 → ℕ) (ho : o = ![256 * j, 0]) (o3 : Fin 3 → ℕ) (ho3 : o3 = ![s.val, 0, 0])
    (inb3 : ∀ a, o3 a + S1x2304x256.size a ≤ S4x2304x256.size a) (inb2 : ∀ a, o a + S256x256.size a ≤ S2304x256.size a) (p q hw hR) :
    (LoadRect.valAlong (lr := (Rect.unit (s := S2304x256) o S256x256.size inb2).toLoadRect) hR (View.readAt (Elt F) arg9.view
      ((Rect.unit (s := S4x2304x256) o3 S1x2304x256.size inb3).withinL
        ((Rect.unit (s := S2304x256) o S256x256.size inb2).consLift ![1, 2304, 256] p q).toLoadRect hw) (harg9.unread VB)) : S256x256.Idx → Elt F .bf16)
      = vals VB s j := by
  subst ho ho3
  funext x
  idx_vars x
  unfold LoadRect.valAlong vals
  rw [harg9.readAt_unread]
  refine congrArg VB ?_
  have e : Shape.reshapeEquiv hR (ix2 x0 x1 : S256x256.Idx) = (ix3 (0 : Fin 1) x0 x1 : (⟨3, ![1, 256, 256]⟩ : Shape).Idx) :=
    ValueIdx.reshapeEquiv_ix2_1ab _ _ _
  refine (congrArg _ e).trans (funext fun a => Fin.ext ?_)
  fin_cases a
  · show (s.val + 0) + 1 * 0 = s.val; omega
  · show (0 + 256 * j) + 1 * x0.val = (256 * j + x0.val) % 2304
    rw [Nat.mod_eq_of_lt (by omega)]; omega
  · show (0 + 0) + 1 * x1.val = x1.val; omega

theorem step_congr (qa qb : FVec F S256x128 .bf16) {ka ka' kb kb' : Vec F S256x128 .bf16} {v v' : Vec F S256x256 .bf16} (a : St F)
    (h₁ : ka = ka') (h₂ : kb = kb') (h₃ : v = v') : step qa qb ka kb v a = step qa qb ka' kb' v' a := by rw [h₁, h₂, h₃]

/-- How many unmasked chunks a block of queries has. -/
theorem trips_eq : ∀ i : grid0.Coords, (k0_t1_loop i).trips = (i 1).val / 2 ∧ (k0_t3_loop i).trips = (i 1).val / 2
    ∧ (k0_t5_loop i).trips = (i 1).val / 2 ∧ (k0_t7_loop i).trips = (i 1).val / 2 := by decide +kernel

/-- The second loop of a group never runs. -/
theorem trips_zero : ∀ i : grid0.Coords, (k0_t2_loop i).trips = 0 ∧ (k0_t4_loop i).trips = 0
    ∧ (k0_t6_loop i).trips = 0 ∧ (k0_t8_loop i).trips = 0 := by decide +kernel

theorem half_lt (i : grid0.Coords) : (i 1).val / 2 < 9 := by
  have : (i 1).val < 17 := (i 1).isLt
  omega

theorem off1_eq : ∀ (i : grid0.Coords) (k : Fin (k0_t1_loop i).trips), k0_off1 i k = ![256 * k.val, 0] ∧ k0_off2 i k = ![256 * k.val, 0] := by
  decide +kernel

set_option sl_exec.squeezeSlice true in
/-- One trip over group 0's chunks. -/
theorem trip1 (v20 : BitVec 32) (v26 v32 : FVec F S256x128 .bf16) (v33 : BitVec 32) (cst_13 : F .f32) (k : Fin (k0_t1_loop i).trips) (E : Set ℕ) (acc : St F) :
    held c arg8 harg8 arg9 harg9 KB VB
      ⊢ wp frame (wpE (defs₀ (F := F)) Variants.none (c : Thread nD τ) none) E (k0_t1_body (F := F) i arg2 harg2 arg3 harg3 arg4 harg4 arg5 harg5 arg6 harg6 arg7 harg7 arg8 harg8 arg9 harg9 v20 v26 v32 v33 cst_13 k acc)
          (fun yld => iprop(⌜yld = step v26 v32 (keys KB 0 k) (keys KB 1 k) (vals VB 0 k) acc⌝ ∗ held c arg8 harg8 arg9 harg9 KB VB)) := by
  have hk : k.val < 9 := lt_trans k.isLt (lt_of_eq_of_lt (trips_eq i).1 (half_lt i))
  unfold k0_t1_body
  iintro ⟨H8, H9⟩
  sl_exec
  sl_step
  isplitr
  · ipureintro
    unfold trip1.sl.v498 trip1.sl.v503 trip1.sl.v526
    change step v26 v32 _ _ _ acc = _
    exact step_congr _ _ acc (load_keys arg8 harg8 KB 0 k.val hk (k0_off1 i k) (off1_eq i k).1 ![0, 0, 0] rfl _ _ rfl (by decide) _ _)
      (load_keys arg8 harg8 KB 1 k.val hk (k0_off1 i k) (off1_eq i k).1 ![1, 0, 0] rfl _ _ rfl (by decide) _ _)
      (load_vals arg9 harg9 VB 0 k.val hk (k0_off2 i k) (off1_eq i k).2 ![0, 0, 0] rfl _ _ rfl (by decide) _ _)
  · isplitl [H8]
    · iexact H8
    · iexact H9

theorem off7_eq : ∀ (i : grid0.Coords) (k : Fin (k0_t3_loop i).trips), k0_off7 i k = ![256 * k.val, 0] ∧ k0_off8 i k = ![256 * k.val, 0] := by
  decide +kernel

set_option sl_exec.squeezeSlice true in
/-- One trip over group 1's chunks. -/
theorem trip3 (arg1 v20 : BitVec 32) (v144 v150 : FVec F S256x128 .bf16) (k : Fin (k0_t3_loop i).trips) (E : Set ℕ) (acc : St F) :
    held c arg8 harg8 arg9 harg9 KB VB
      ⊢ wp frame (wpE (defs₀ (F := F)) Variants.none (c : Thread nD τ) none) E (k0_t3_body (F := F) i arg2 harg2 arg3 harg3 arg4 harg4 arg5 harg5 arg6 harg6 arg7 harg7 arg8 harg8 arg9 harg9 arg1 v20 v144 v150 k acc)
          (fun yld => iprop(⌜yld = step v144 v150 (keys KB 2 k) (keys KB 3 k) (vals VB 1 k) acc⌝ ∗ held c arg8 harg8 arg9 harg9 KB VB)) := by
  have hk : k.val < 9 := lt_trans k.isLt (lt_of_eq_of_lt (trips_eq i).2.1 (half_lt i))
  unfold k0_t3_body
  iintro ⟨H8, H9⟩
  sl_exec
  sl_step
  isplitr
  · ipureintro
    unfold trip3.sl.v498 trip3.sl.v503 trip3.sl.v526
    change step v144 v150 _ _ _ acc = _
    exact step_congr _ _ acc (load_keys arg8 harg8 KB 2 k.val hk (k0_off7 i k) (off7_eq i k).1 ![2, 0, 0] rfl _ _ rfl (by decide) _ _)
      (load_keys arg8 harg8 KB 3 k.val hk (k0_off7 i k) (off7_eq i k).1 ![3, 0, 0] rfl _ _ rfl (by decide) _ _)
      (load_vals arg9 harg9 VB 1 k.val hk (k0_off8 i k) (off7_eq i k).2 ![1, 0, 0] rfl _ _ rfl (by decide) _ _)
  · isplitl [H8]
    · iexact H8
    · iexact H9

theorem off11_eq : ∀ (i : grid0.Coords) (k : Fin (k0_t5_loop i).trips), k0_off11 i k = ![256 * k.val, 0] ∧ k0_off12 i k = ![256 * k.val, 0] := by
  decide +kernel

set_option sl_exec.squeezeSlice true in
/-- One trip over group 2's chunks. -/
theorem trip5 (arg1 v20 : BitVec 32) (v262 : FVec F S256x128 .bf16) (v264 : FVec F S128x128 .f32) (v265 : Vec F S1x128x128 .f32) (k : Fin (k0_t5_loop i).trips) (E : Set ℕ) (acc : St F) :
    held c arg8 harg8 arg9 harg9 KB VB
      ⊢ wp frame (wpE (defs₀ (F := F)) Variants.none (c : Thread nD τ) none) E (k0_t5_body (F := F) i arg2 harg2 arg3 harg3 arg4 harg4 arg5 harg5 arg6 harg6 arg7 harg7 arg8 harg8 arg9 harg9 arg1 v20 v262 v264 v265 k acc)
          (fun yld => iprop(⌜yld = step v262 (k0_pay83 v264 v265) (keys KB 4 k) (keys KB 5 k) (vals VB 2 k) acc⌝ ∗ held c arg8 harg8 arg9 harg9 KB VB)) := by
  have hk : k.val < 9 := lt_trans k.isLt (lt_of_eq_of_lt (trips_eq i).2.2.1 (half_lt i))
  unfold k0_t5_body
  iintro ⟨H8, H9⟩
  sl_exec
  sl_step
  isplitr
  · ipureintro
    unfold trip5.sl.v498 trip5.sl.v503 trip5.sl.v526
    change step v262 (k0_pay83 v264 v265) _ _ _ acc = _
    exact step_congr _ _ acc (load_keys arg8 harg8 KB 4 k.val hk (k0_off11 i k) (off11_eq i k).1 ![4, 0, 0] rfl _ _ rfl (by decide) _ _)
      (load_keys arg8 harg8 KB 5 k.val hk (k0_off11 i k) (off11_eq i k).1 ![5, 0, 0] rfl _ _ rfl (by decide) _ _)
      (load_vals arg9 harg9 VB 2 k.val hk (k0_off12 i k) (off11_eq i k).2 ![2, 0, 0] rfl _ _ rfl (by decide) _ _)
  · isplitl [H8]
    · iexact H8
    · iexact H9

theorem off15_eq : ∀ (i : grid0.Coords) (k : Fin (k0_t7_loop i).trips), k0_off15 i k = ![256 * k.val, 0] ∧ k0_off16 i k = ![256 * k.val, 0] := by
  decide +kernel

set_option sl_exec.squeezeSlice true in
/-- One trip over group 3's chunks. -/
theorem trip7 (arg1 v20 : BitVec 32) (v380 : FVec F S256x128 .bf16) (v382 : FVec F S128x128 .f32) (v383 : Vec F S1x128x128 .f32) (k : Fin (k0_t7_loop i).trips) (E : Set ℕ) (acc : St F) :
    held c arg8 harg8 arg9 harg9 KB VB
      ⊢ wp frame (wpE (defs₀ (F := F)) Variants.none (c : Thread nD τ) none) E (k0_t7_body (F := F) i arg2 harg2 arg3 harg3 arg4 harg4 arg5 harg5 arg6 harg6 arg7 harg7 arg8 harg8 arg9 harg9 arg1 v20 v380 v382 v383 k acc)
          (fun yld => iprop(⌜yld = step v380 (k0_pay108 v382 v383) (keys KB 6 k) (keys KB 7 k) (vals VB 3 k) acc⌝ ∗ held c arg8 harg8 arg9 harg9 KB VB)) := by
  have hk : k.val < 9 := lt_trans k.isLt (lt_of_eq_of_lt (trips_eq i).2.2.2 (half_lt i))
  unfold k0_t7_body
  iintro ⟨H8, H9⟩
  sl_exec
  sl_step
  isplitr
  · ipureintro
    unfold trip7.sl.v498 trip7.sl.v503 trip7.sl.v526
    change step v380 (k0_pay108 v382 v383) _ _ _ acc = _
    exact step_congr _ _ acc (load_keys arg8 harg8 KB 6 k.val hk (k0_off15 i k) (off15_eq i k).1 ![6, 0, 0] rfl _ _ rfl (by decide) _ _)
      (load_keys arg8 harg8 KB 7 k.val hk (k0_off15 i k) (off15_eq i k).1 ![7, 0, 0] rfl _ _ rfl (by decide) _ _)
      (load_vals arg9 harg9 VB 3 k.val hk (k0_off16 i k) (off15_eq i k).2 ![3, 0, 0] rfl _ _ rfl (by decide) _ _)
  · isplitl [H8]
    · iexact H8
    · iexact H9
end

end Cert.KernelIdeal.Body

end
-- ==== Proof.Numer.lean ====
module

public import Idealize.ShloMosaic.Lib.Pointwise
public import Mathlib.Analysis.SpecialFunctions.Exp

@[expose] public section

/-!
# The numbers of one softmax row

A row of the attention keeps a maximum, a sum of weights and a weighted sum of values. Whatever the
maximum was, the two sums are `exp (-maximum)` times sums that do not mention it. This module says so over
the extended reals, for scores that are finite or masked, and draws the quotient from it.
-/

noncomputable section

namespace Cert.Attn

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of minus infinity. -/
theorem ofBits_neg_inf : Ideal.ofBits FTy.f32 4286578688#32 = ⊥ := rfl

/-- The scale of the scores, as a number. -/
theorem exists_scale : ∃ s : ℝ, Ideal.ofBits FTy.f32 1035273459#32 = s := ⟨_, rfl⟩

/-- A score and its weight: a number and its exponential, or the mask and zero. -/
def Score (σ : EReal) (w : ℝ) : Prop := (∃ s : ℝ, σ = s ∧ w = Real.exp s) ∨ (σ = ⊥ ∧ w = 0)

theorem Score.ne_top {σ : EReal} {w : ℝ} (h : Score σ w) : σ ≠ ⊤ := by
  rcases h with ⟨s, rfl, _⟩ | ⟨rfl, _⟩
  · exact EReal.coe_ne_top s
  · exact bot_ne_top

theorem Score.exp_sub {σ : EReal} {w : ℝ} (h : Score σ w) (m : ℝ) : Ideal.exp (σ - m) = ((Real.exp (-m) * w : ℝ) : EReal) := by
  rcases h with ⟨s, rfl, rfl⟩ | ⟨rfl, rfl⟩
  · rw [← EReal.coe_sub, Ideal.exp_coe, ← Real.exp_add]
    congr 2
    ring
  · rw [EReal.bot_sub, mul_zero]
    rfl

/-- A state of one row and one column of values: nothing seen, or sums scaled by the maximum. -/
def RowState (M L A : EReal) (W X : ℝ) : Prop :=
  (M = ⊥ ∧ L = 0 ∧ A = 0 ∧ W = 0 ∧ X = 0)
    ∨ ∃ m : ℝ, M = m ∧ L = ((Real.exp (-m) * W : ℝ) : EReal) ∧ A = ((Real.exp (-m) * X : ℝ) : EReal)

theorem fold_max_ne_top {n : ℕ} (σ : Fin n → EReal) (h : ∀ t, σ t ≠ ⊤) : Finset.fold max ⊥ σ Finset.univ ≠ ⊤ := by
  have : ∀ s : Finset (Fin n), Finset.fold max ⊥ σ s < ⊤ := fun s =>
    (Finset.fold_max_lt (c := (⊤ : EReal))).mpr ⟨bot_lt_top, fun t _ => lt_top_iff_ne_top.mpr (h t)⟩
  exact (this _).ne

theorem fold_max_ne_bot {n : ℕ} (σ : Fin n → EReal) (h : ∃ t, σ t ≠ ⊥) : Finset.fold max ⊥ σ Finset.univ ≠ ⊥ := by
  obtain ⟨t, ht⟩ := h
  have : σ t ≤ Finset.fold max ⊥ σ Finset.univ := (Finset.le_fold_max (σ t)).mpr (.inr ⟨t, Finset.mem_univ t, le_refl _⟩)
  exact fun e => ht (le_bot_iff.mp (e ▸ this))

/-- The maximum of scores that are not all masked is a number. -/
theorem fold_max_real {n : ℕ} (σ : Fin n → EReal) (w : Fin n → ℝ) (hS : ∀ t, Score (σ t) (w t)) (h1 : ∃ t, σ t ≠ ⊥) :
    ∃ m : ℝ, Finset.fold max ⊥ σ Finset.univ = m := by
  lift Finset.fold max ⊥ σ Finset.univ to ℝ using ⟨fold_max_ne_top σ fun t => (hS t).ne_top, fold_max_ne_bot σ h1⟩ with m
  exact ⟨m, rfl⟩

theorem RowState.ne_top {M L A : EReal} {W X : ℝ} (h : RowState M L A W X) : M ≠ ⊤ := by
  rcases h with ⟨rfl, _⟩ | ⟨m, rfl, _⟩
  · exact bot_ne_top
  · exact EReal.coe_ne_top m

theorem rowState_upd {n : ℕ} {M L A : EReal} {W X : ℝ} (h : RowState M L A W X) (σ : Fin n → EReal) (w : Fin n → ℝ)
    (V : Fin n → EReal) (v : Fin n → ℝ) (hS : ∀ t, Score (σ t) (w t)) (h1 : ∃ t, σ t ≠ ⊥) (hV : ∀ t, V t = ((v t : ℝ) : EReal)) :
    RowState (max M (Finset.fold max (Ideal.ofBits FTy.f32 4286578688#32) σ Finset.univ))
      (Ideal.exp (M - max M (Finset.fold max (Ideal.ofBits FTy.f32 4286578688#32) σ Finset.univ)) * L
        + ∑ t, Ideal.exp (σ t - max M (Finset.fold max (Ideal.ofBits FTy.f32 4286578688#32) σ Finset.univ)))
      (Ideal.exp (M - max M (Finset.fold max (Ideal.ofBits FTy.f32 4286578688#32) σ Finset.univ)) * A
        + ∑ t, Ideal.exp (σ t - max M (Finset.fold max (Ideal.ofBits FTy.f32 4286578688#32) σ Finset.univ)) * V t)
      (W + ∑ t, w t) (X + ∑ t, w t * v t) := by
  rw [ofBits_neg_inf]
  obtain ⟨k, hk⟩ := fold_max_real σ w hS h1
  rw [hk]
  obtain ⟨m', hm'⟩ : ∃ m' : ℝ, max M (k : EReal) = m' := by
    have ht : max M (k : EReal) ≠ ⊤ := by
      rcases max_choice M (k : EReal) with e | e <;> rw [e]
      exacts [h.ne_top, EReal.coe_ne_top k]
    have hb : max M (k : EReal) ≠ ⊥ := fun e => EReal.coe_ne_bot k (le_bot_iff.mp (e ▸ le_max_right M (k : EReal)))
    lift max M (k : EReal) to ℝ using ⟨ht, hb⟩ with x
    exact ⟨x, rfl⟩
  rw [hm']
  have e1 : ∑ t, Ideal.exp (σ t - (m' : EReal)) = ((Real.exp (-m') * ∑ t, w t : ℝ) : EReal) := by
    rw [Finset.mul_sum, coe_sum]
    exact Finset.sum_congr rfl fun t _ => (hS t).exp_sub m'
  have e2 : ∑ t, Ideal.exp (σ t - (m' : EReal)) * V t = ((Real.exp (-m') * ∑ t, w t * v t : ℝ) : EReal) := by
    rw [Finset.mul_sum, coe_sum]
    refine Finset.sum_congr rfl fun t _ => ?_
    rw [(hS t).exp_sub m', hV t, ← EReal.coe_mul, mul_assoc]
  rw [e1, e2]
  refine .inr ⟨m', rfl, ?_⟩
  rcases h with ⟨rfl, rfl, rfl, rfl, rfl⟩ | ⟨m, rfl, rfl, rfl⟩
  · constructor <;> rw [mul_zero, zero_add, zero_add]
  · rw [← EReal.coe_sub, Ideal.exp_coe, ← EReal.coe_mul, ← EReal.coe_mul, ← EReal.coe_add, ← EReal.coe_add, ← mul_assoc, ← mul_assoc,
      ← Real.exp_add, show m - m' + -m = -m' by ring, ← mul_add, ← mul_add]
    exact ⟨rfl, rfl⟩

/-- What a row ends with. -/
theorem RowState.quot {M L A : EReal} {W X : ℝ} (h : RowState M L A W X) (hW : 0 < W) : Ideal.div A L = ((X / W : ℝ) : EReal) := by
  rcases h with ⟨_, _, _, rfl, _⟩ | ⟨m, _, rfl, rfl⟩
  · exact absurd hW (lt_irrefl 0)
  · have hne : Real.exp (-m) * W ≠ 0 := mul_ne_zero (Real.exp_pos _).ne' hW.ne'
    rw [Ideal.div_coe hne, ← EReal.coe_mul, mul_one_div, mul_div_mul_left _ _ (Real.exp_pos _).ne']

/-- One normalised weight of a whole row of scores. -/
theorem softmax_real {n : ℕ} (σ : Fin n → EReal) (w : Fin n → ℝ) (hS : ∀ t, Score (σ t) (w t)) (h1 : ∃ t, σ t ≠ ⊥) (hW : 0 < ∑ t, w t) (k : Fin n) :
    Ideal.div (Ideal.exp (σ k - Finset.fold max ⊥ σ Finset.univ)) (∑ t, Ideal.exp (σ t - Finset.fold max ⊥ σ Finset.univ))
      = ((w k / ∑ t, w t : ℝ) : EReal) := by
  obtain ⟨m, hm⟩ := fold_max_real σ w hS h1
  rw [hm]
  have e1 : ∑ t, Ideal.exp (σ t - (m : EReal)) = ((Real.exp (-m) * ∑ t, w t : ℝ) : EReal) := by
    rw [Finset.mul_sum, coe_sum]
    exact Finset.sum_congr rfl fun t _ => (hS t).exp_sub m
  have hne : Real.exp (-m) * ∑ t, w t ≠ 0 := mul_ne_zero (Real.exp_pos _).ne' hW.ne'
  rw [e1, (hS k).exp_sub m, Ideal.div_coe hne, ← EReal.coe_mul, mul_one_div, mul_div_mul_left _ _ (Real.exp_pos _).ne']

/-- A sum over the first `256 (j + 1)` keys, by its last chunk. -/
theorem sum_chunk (f : ℕ → ℝ) (j : ℕ) : ∑ k ∈ Finset.range (256 * (j + 1)), f k = ∑ k ∈ Finset.range (256 * j), f k + ∑ t : Fin 256, f (256 * j + t.val) := by
  rw [show 256 * (j + 1) = 256 * j + 256 by ring, Finset.sum_range_add, Finset.sum_range fun x => f (256 * j + x)]

/-- A sum of terms that are zero past `q`. -/
theorem sum_trunc (f : ℕ → ℝ) {q n : ℕ} (h : q < n) : (∑ k ∈ Finset.range n, if k ≤ q then f k else 0) = ∑ k ∈ Finset.range (q + 1), f k := by
  rw [← Finset.sum_filter]
  refine Finset.sum_congr (Finset.ext fun k => ?_) fun _ _ => rfl
  rw [Finset.mem_filter, Finset.mem_range, Finset.mem_range]
  omega

/-- The sum of the weights of the keys up to `q`. -/
def wsum (s : ℕ → ℝ) (q : ℕ) : ℝ := ∑ k ∈ Finset.range (q + 1), Real.exp (s k)

/-- The weighted sum of the values of the keys up to `q`. -/
def xsum (s v : ℕ → ℝ) (q : ℕ) : ℝ := ∑ k ∈ Finset.range (q + 1), Real.exp (s k) * v k

theorem wsum_pos (s : ℕ → ℝ) (q : ℕ) : 0 < wsum s q :=
  Finset.sum_pos (fun _ _ => Real.exp_pos _) ⟨0, Finset.mem_range.mpr (Nat.succ_pos q)⟩

/-- The chunks below `256 j`, none masked, and the chunk after them, masked past `q`. -/
theorem sum_last (f : ℕ → ℝ) {q j : ℕ} (h : 256 * j ≤ q) (h' : q < 256 * (j + 1)) :
    ∑ k ∈ Finset.range (256 * j), f k + ∑ t : Fin 256, (if 256 * j + t.val ≤ q then f (256 * j + t.val) else 0) = ∑ k ∈ Finset.range (q + 1), f k := by
  rw [← sum_trunc f h', sum_chunk fun k => if k ≤ q then f k else 0]
  congr 1
  refine Finset.sum_congr rfl fun k hk => ?_
  rw [Finset.mem_range] at hk
  rw [if_pos (by omega)]

end Cert.Attn

end
-- ==== Proof.Upd.lean ====
module

public import proofs.«01_k».proof.Proof.Trip
public import proofs.«01_k».proof.Proof.Numer
public import Idealize.ShloMosaic.Lib.Pointwise

@[expose] public section

set_option maxRecDepth 16384

noncomputable section

namespace Cert.KernelIdeal.Body

open Cert.Attn Cert.KernelIdeal Cert.KernelIdeal.Gen Idealize.ShloMosaic Idealize.ShloMosaic.TcCoe Idealize.SL.Sem

section
variable {F : FTy → Type} [FloatOps F] [Named F]

/-- The running maximum over one more chunk of scores. -/
def updM (S : FVec F S512x256 .f32) (M : FVec F S512x1 .f32) : FVec F S512x1 .f32 :=
  maximumf M (shapeCast S512x1 (multiReduction .maximumf [1] S512 S 0xFF800000#32 reduces_S512x256_S512 (.inl rfl) rfl) shapeCasts_S512_S512x1)

/-- The chunk's weights, scaled to the new maximum. -/
def updP (S : FVec F S512x256 .f32) (M : FVec F S512x1 .f32) : FVec F S512x256 .f32 :=
  exp (subf S (broadcastTo S512x256 (updM S M) broadcasts_S512x1_S512x256))

/-- The running sum of weights. -/
def updL (S : FVec F S512x256 .f32) (M L : FVec F S512x1 .f32) : FVec F S512x1 .f32 :=
  addf (mulf (exp (subf M (updM S M))) L)
    (shapeCast S512x1 (multiReduction .add [1] S512 (updP S M) 0x00000000#32 reduces_S512x256_S512 (.inl rfl) rfl) shapeCasts_S512_S512x1)

/-- The running weighted sum of values. -/
def updA (S : FVec F S512x256 .f32) (M : FVec F S512x1 .f32) (A : FVec F S512x256 .f32) (V : Vec F S256x256 .bf16) : FVec F S512x256 .f32 :=
  addf (mulf (broadcastTo S512x256 (exp (subf M (updM S M))) broadcasts_S512x1_S512x256) A)
    (matmul dot_S512x256_S256x256_S512x256_1_0_0_1_n_n none (truncf .bf16 (updP S M) bitsLt_bf16_f32) V (constant S512x256 .f32 0x00000000#32))

theorem step_eq (qa qb : FVec F S256x128 .bf16) (ka kb : Vec F S256x128 .bf16) (v : Vec F S256x256 .bf16) (a : St F) :
    step qa qb ka kb v a = (updM (k0_pay39 qa qb ka kb) a.1, updL (k0_pay39 qa qb ka kb) a.1 a.2.1, updA (k0_pay39 qa qb ka kb) a.1 a.2.2 v) := rfl

/-- The difference of the two normalised products. -/
def diffD (lam : FVec F S1x1 .f32) (L : FVec F S512x1 .f32) (A : FVec F S512x256 .f32) : FVec F S256x256 .f32 :=
  subf (extractStridedSlice S256x256 ![0, 0] (divf A (broadcastTo S512x256 L broadcasts_S512x1_S512x256)) slices_S512x256_o0_0_S256x256)
    (mulf (broadcastTo S256x256 lam broadcasts_S1x1_S256x256) (extractStridedSlice S256x256 ![256, 0] (divf A (broadcastTo S512x256 L broadcasts_S512x1_S512x256)) slices_S512x256_o256_0_S256x256))

theorem pay54_eq (lam : FVec F S1x1 .f32) (M L : FVec F S512x1 .f32) (A : FVec F S512x256 .f32) (s : FVec F S512x256 .f32) (k : IVec S512x256 1) (n : FVec F S512x256 .f32) (V : Vec F S256x256 .bf16) :
    k0_pay54 lam M L A s k n V = diffD lam (updL (select k s n) M L) (updA (select k s n) M A V) := rfl
end

theorem updM_apply (S : FVec Ideal S512x256 .f32) (M : FVec Ideal S512x1 .f32) (r : Fin 512) :
    updM S M (ix2 r 0) = max (M (ix2 r 0)) (Finset.fold max (Ideal.ofBits FTy.f32 4286578688#32) (fun x => S (ix2 r x)) Finset.univ) := by
  pointwise [updM]

theorem updL_apply (S : FVec Ideal S512x256 .f32) (M L : FVec Ideal S512x1 .f32) (r : Fin 512) :
    updL S M L (ix2 r 0) = Ideal.exp (M (ix2 r 0) - updM S M (ix2 r 0)) * L (ix2 r 0) + ∑ x : Fin 256, Ideal.exp (S (ix2 r x) - updM S M (ix2 r 0)) := by
  pointwise [updL, updP]

theorem updA_apply (S : FVec Ideal S512x256 .f32) (M : FVec Ideal S512x1 .f32) (A : FVec Ideal S512x256 .f32) (V : Vec Ideal S256x256 .bf16) (r : Fin 512) (e : Fin 256) :
    updA S M A V (ix2 r e) = Ideal.exp (M (ix2 r 0) - updM S M (ix2 r 0)) * A (ix2 r e) + ∑ x : Fin 256, Ideal.exp (S (ix2 r x) - updM S M (ix2 r 0)) * V (ix2 x e) := by
  pointwise [updA, updP]

theorem diffD_apply (lam : FVec Ideal S1x1 .f32) (L : FVec Ideal S512x1 .f32) (A : FVec Ideal S512x256 .f32) (r : Fin 256) (e : Fin 256) :
    diffD lam L A (ix2 r e) = Ideal.div (A (ix2 ⟨r, by omega⟩ e)) (L (ix2 ⟨r, by omega⟩ 0))
      - lam (ix2 0 0) * Ideal.div (A (ix2 ⟨256 + r, by omega⟩ e)) (L (ix2 ⟨256 + r, by omega⟩ 0)) := by
  pointwise [diffD]

theorem score_apply (qa qb : FVec Ideal S256x128 .bf16) (ka kb : Vec Ideal S256x128 .bf16) (r : Fin 512) (t : Fin 256) :
    k0_pay39 qa qb ka kb (ix2 r t) = (if h : r.val < 256 then ∑ x : Fin 128, qa (ix2 ⟨r, h⟩ x) * ka (ix2 t x)
      else ∑ x : Fin 128, qb (ix2 ⟨r - 256, by omega⟩ x) * kb (ix2 t x)) * Ideal.ofBits FTy.f32 1035273459#32 := by
  pointwise [k0_pay39]

/-- One chunk of scores keeps a row's state right, when some score of the row is not masked. -/
theorem upd_row (S : FVec Ideal S512x256 .f32) (M L : FVec Ideal S512x1 .f32) (A : FVec Ideal S512x256 .f32) (V : Vec Ideal S256x256 .bf16)
    (r : Fin 512) (e : Fin 256) {W X : ℝ} (w v : Fin 256 → ℝ)
    (hst : RowState (M (ix2 r 0)) (L (ix2 r 0)) (A (ix2 r e)) W X)
    (hS : ∀ t : Fin 256, Score (S (ix2 r t)) (w t)) (h1 : ∃ t : Fin 256, S (ix2 r t) ≠ ⊥)
    (hV : ∀ t : Fin 256, V (ix2 t e) = ((v t : ℝ) : EReal)) :
    RowState (updM S M (ix2 r 0)) (updL S M L (ix2 r 0)) (updA S M A V (ix2 r e)) (W + ∑ t, w t) (X + ∑ t, w t * v t) := by
  rw [updL_apply, updA_apply, updM_apply]
  exact rowState_upd hst (fun t => S (ix2 r t)) w (fun t => V (ix2 t e)) v hS h1 hV

end Cert.KernelIdeal.Body

end
-- ==== Proof.Group.lean ====
module

public import proofs.«01_k».proof.Proof.Upd

@[expose] public section

/-!
# One group of two heads

The unmasked chunks of keys and the masked last one, from scores that are numbers: each row ends with the
quotient of the two sums over the keys its query may see.
-/

set_option maxRecDepth 16384

noncomputable section

namespace Cert.KernelIdeal.Body

open Cert.Attn Cert.KernelIdeal Cert.KernelIdeal.Gen Idealize.ShloMosaic Idealize.ShloMosaic.TcCoe Idealize.SL.Sem

theorem mask_bot : (Named.named κ "mask" 0xF149F2CA#32 : Ideal .f32) = ⊥ := rfl

/-- The state a group starts from. -/
def init : St Ideal := (k0_pay36 (Named.named κ "mask" 0xF149F2CA#32), k0_pay37, k0_pay38)

theorem init_row (r : Fin 512) (e : Fin 256) : RowState (init.1 (ix2 r 0)) (init.2.1 (ix2 r 0)) (init.2.2 (ix2 r e)) 0 0 := by
  refine .inl ⟨?_, ?_, ?_, rfl, rfl⟩
  · pointwise [init, k0_pay36]
    exact mask_bot
  · pointwise [init, k0_pay37]
  · pointwise [init, k0_pay38]

/-- The masked scores of the last chunk. -/
def lastS (qa qb : FVec Ideal S256x128 .bf16) (ka kb : Vec Ideal S256x128 .bf16) (msk : IVec S512x256 1) : FVec Ideal S512x256 .f32 :=
  select msk (k0_pay39 qa qb ka kb) (broadcast S512x256 (Named.named κ "mask" 0xF149F2CA#32))

/-- The difference of the two components' attention, from the last chunk and the state before it. -/
def lastD (lam : FVec Ideal S1x1 .f32) (qa qb : FVec Ideal S256x128 .bf16) (ka kb : Vec Ideal S256x128 .bf16) (v : Vec Ideal S256x256 .bf16)
    (msk : IVec S512x256 1) (a : St Ideal) : FVec Ideal S256x256 .f32 :=
  diffD lam (updL (lastS qa qb ka kb msk) a.1 a.2.1) (updA (lastS qa qb ka kb msk) a.1 a.2.2 v)

/-- The difference of the two components' attention, for a group. -/
def groupD (lam : FVec Ideal S1x1 .f32) (qa qb : FVec Ideal S256x128 .bf16) (KB : Vec Ideal S8x2304x128 .bf16) (VB : Vec Ideal S4x2304x256 .bf16)
    (sa sb : Fin 8) (sv : Fin 4) (msk : IVec S512x256 1) (j : ℕ) (a : St Ideal) : FVec Ideal S256x256 .f32 :=
  lastD lam qa qb (keys KB sa j) (keys KB sb j) (vals VB sv j) msk a

section
variable (KB : Vec Ideal S8x2304x128 .bf16) (VB : Vec Ideal S4x2304x256 .bf16) (sa sb : Fin 8) (sv : Fin 4) (qa qb : FVec Ideal S256x128 .bf16)
  (s : Fin 512 → ℕ → ℝ) (v : ℕ → Fin 256 → ℝ)
  (hs : ∀ (j : ℕ) (r : Fin 512) (t : Fin 256), j < 9 → k0_pay39 qa qb (keys KB sa j) (keys KB sb j) (ix2 r t) = ((s r (256 * j + t.val) : ℝ) : EReal))
  (hv : ∀ (j : ℕ) (t : Fin 256) (e : Fin 256), j < 9 → vals VB sv j (ix2 t e) = ((v (256 * j + t.val) e : ℝ) : EReal))
include hs hv

/-- A row's state after `n` unmasked chunks. -/
theorem steps_row (r : Fin 512) (e : Fin 256) : ∀ n : ℕ, n ≤ 9 →
    RowState ((steps KB VB sa sb sv qa qb init n).1 (ix2 r 0)) ((steps KB VB sa sb sv qa qb init n).2.1 (ix2 r 0)) ((steps KB VB sa sb sv qa qb init n).2.2 (ix2 r e))
      (∑ k ∈ Finset.range (256 * n), Real.exp (s r k)) (∑ k ∈ Finset.range (256 * n), Real.exp (s r k) * v k e)
  | 0, _ => by
    rw [Nat.mul_zero, Finset.sum_range_zero, Finset.sum_range_zero]
    exact init_row r e
  | n + 1, hn => by
    rw [sum_chunk, sum_chunk]
    show RowState ((step qa qb _ _ _ _).1 _) ((step qa qb _ _ _ _).2.1 _) ((step qa qb _ _ _ _).2.2 _) _ _
    rw [step_eq]
    exact upd_row _ _ _ _ _ r e (fun t => Real.exp (s r (256 * n + t.val))) (fun t => v (256 * n + t.val) e) (steps_row r e n (by omega))
      (fun t => .inl ⟨s r (256 * n + t.val), hs n r t (by omega), rfl⟩)
      ⟨0, by rw [hs n r 0 (by omega)]; exact EReal.coe_ne_bot _⟩ (fun t => hv n t e (by omega))

variable (msk : IVec S512x256 1) (j q : ℕ) (hj : j < 9)
include hj

/-- A row's state after the masked last chunk. -/
theorem last_row (r : Fin 512) (e : Fin 256) (hq : 256 * j ≤ q) (hq' : q < 256 * (j + 1))
    (hm : ∀ t : Fin 256, msk (ix2 r t) = if 256 * j + t.val ≤ q then 1#1 else 0#1) :
    Ideal.div (updA (lastS qa qb (keys KB sa j) (keys KB sb j) msk) (steps KB VB sa sb sv qa qb init j).1 (steps KB VB sa sb sv qa qb init j).2.2 (vals VB sv j) (ix2 r e))
      (updL (lastS qa qb (keys KB sa j) (keys KB sb j) msk) (steps KB VB sa sb sv qa qb init j).1 (steps KB VB sa sb sv qa qb init j).2.1 (ix2 r 0))
      = ((xsum (s r) (fun k => v k e) q / wsum (s r) q : ℝ) : EReal) := by
  have hS : ∀ t : Fin 256, lastS qa qb (keys KB sa j) (keys KB sb j) msk (ix2 r t) = if 256 * j + t.val ≤ q then ((s r (256 * j + t.val) : ℝ) : EReal) else ⊥ := by
    intro t
    rw [← hs j r t hj]
    unfold lastS
    show (if msk (ix2 r t) = 1#1 then _ else (Named.named κ "mask" 0xF149F2CA#32 : Ideal .f32)) = _
    rw [hm t, mask_bot]
    split <;> simp_all
  have h := upd_row (lastS qa qb (keys KB sa j) (keys KB sb j) msk) _ _ _ (vals VB sv j) r e
    (fun t => if 256 * j + t.val ≤ q then Real.exp (s r (256 * j + t.val)) else 0) (fun t => v (256 * j + t.val) e)
    (steps_row KB VB sa sb sv qa qb s v hs hv r e j hj.le)
    (fun t => by
      rw [hS t]
      split
      · exact .inl ⟨_, rfl, rfl⟩
      · exact .inr ⟨rfl, rfl⟩)
    ⟨0, by rw [hS 0, if_pos (by simpa using hq)]; exact EReal.coe_ne_bot _⟩ (fun t => hv j t e hj)
  rw [sum_last (fun k => Real.exp (s r k)) hq hq'] at h
  have e2 : ∀ t : Fin 256, (if 256 * j + t.val ≤ q then Real.exp (s r (256 * j + t.val)) else 0) * v (256 * j + t.val) e
      = if 256 * j + t.val ≤ q then (fun k => Real.exp (s r k) * v k e) (256 * j + t.val) else 0 := fun t => by split <;> simp
  simp only [e2] at h
  rw [sum_last (fun k => Real.exp (s r k) * v k e) hq hq'] at h
  exact h.quot (wsum_pos (s r) q)

/-- The group's difference at one row and column. -/
theorem groupD_value (lam : FVec Ideal S1x1 .f32) (l : ℝ) (hl : lam (ix2 0 0) = l) (r : Fin 256) (e : Fin 256) (hq : 256 * j ≤ q) (hq' : q < 256 * (j + 1))
    (hm : ∀ (r' : Fin 512) (t : Fin 256), r'.val % 256 = r.val → msk (ix2 r' t) = if 256 * j + t.val ≤ q then 1#1 else 0#1) :
    groupD lam qa qb KB VB sa sb sv msk j (steps KB VB sa sb sv qa qb init j) (ix2 r e)
      = ((xsum (s ⟨r, by omega⟩) (fun k => v k e) q / wsum (s ⟨r, by omega⟩) q
        - l * (xsum (s ⟨256 + r, by omega⟩) (fun k => v k e) q / wsum (s ⟨256 + r, by omega⟩) q) : ℝ) : EReal) := by
  unfold groupD lastD
  rw [diffD_apply, hl, last_row KB VB sa sb sv qa qb s v hs hv msk j q hj ⟨r, by omega⟩ e hq hq' fun t => hm _ t (by simp),
    last_row KB VB sa sb sv qa qb s v hs hv msk j q hj ⟨256 + r, by omega⟩ e hq hq' fun t => hm _ t (by simp),
    EReal.coe_sub, EReal.coe_mul]

end

end Cert.KernelIdeal.Body

end
-- ==== Proof.Head.lean ====
module

public import proofs.«01_k».proof.Proof.Group
public import Idealize.ShloMosaic.Lib.WordCmp

@[expose] public section

/-!
# One head's block

The eight stored blocks are one function of their group's queries, keys, values and state; the function is
read at an element here.
-/

set_option maxRecDepth 16384

noncomputable section

namespace Cert.KernelIdeal.Body

open Cert.Attn Cert.KernelIdeal Cert.KernelIdeal.Gen Idealize.ShloMosaic Idealize.ShloMosaic.TcCoe Idealize.SL.Sem

/-- A head's block from its rows of the difference: the normalisation, the gain and the layer's factor. -/
def fin (D : FVec Ideal S128x256 .f32) (g : Vec Ideal S1x256 .f32) : FVec Ideal S1x128x256 .f32 :=
  shapeCast S1x128x256 (mulf (mulf (mulf D (broadcastTo S128x256 (rsqrt (addf (divf
    (shapeCast S128x1 (multiReduction .add [1] S128 (mulf D D) 0x00000000#32 reduces_S128x256_S128 (.inl rfl) rfl) shapeCasts_S128_S128x1)
      (broadcast S128x1 (Scalar.ofBits .f32 0x43800000#32))) (broadcast S128x1 (Scalar.ofBits .f32 0x358637BD#32)))) broadcasts_S128x1_S128x256))
    (broadcastTo S128x256 (shapeCast S1x256 g shapeCasts_S1x256_S1x256) broadcasts_S1x256_S128x256)) (broadcast S128x256 (Scalar.ofBits .f32 0x3F24FD5C#32))) shapeCasts_S128x256_S1x128x256

theorem fin_apply (D : FVec Ideal S128x256 .f32) (g : Vec Ideal S1x256 .f32) (q : Fin 128) (e : Fin 256) :
    fin D g (ix3 0 q e) = D (ix2 q e) * Ideal.rsqrt (Ideal.div (∑ e' : Fin 256, D (ix2 q e') * D (ix2 q e')) (Ideal.ofBits .f32 0x43800000#32) + Ideal.ofBits .f32 0x358637BD#32)
      * g (ix2 0 e) * Ideal.ofBits .f32 0x3F24FD5C#32 := by
  pointwise [fin]

/-- Head 0's rows of a group. -/
def rows0 (D : FVec Ideal S256x256 .f32) : FVec Ideal S128x256 .f32 := extractStridedSlice S128x256 ![0, 0] D slices_S256x256_o0_0_S128x256
/-- Head 1's rows of a group. -/
def rows1 (D : FVec Ideal S256x256 .f32) : FVec Ideal S128x256 .f32 := extractStridedSlice S128x256 ![128, 0] D slices_S256x256_o128_0_S128x256

theorem rows0_apply (D : FVec Ideal S256x256 .f32) (q : Fin 128) (e : Fin 256) : rows0 D (ix2 q e) = D (ix2 ⟨q, by omega⟩ e) := by pointwise [rows0]
theorem rows1_apply (D : FVec Ideal S256x256 .f32) (q : Fin 128) (e : Fin 256) : rows1 D (ix2 q e) = D (ix2 ⟨128 + q, by omega⟩ e) := by pointwise [rows1]

section
variable (lam : FVec Ideal S1x1 .f32) (a1 arg1 v20 : BitVec 32) (a : St Ideal) (q0 q1 q2 q3 : Vec Ideal S1x128x128 .f32) (ka kb : Vec Ideal S256x128 .bf16) (w : Vec Ideal S256x256 .bf16)
  (g : Vec Ideal S1x256 .f32)

theorem piece0 : k0_pay56 (k0_pay55 lam a.1 a.2.1 a.2.2 (k0_pay51 (k0_pay34 q0 q1) (k0_pay35 q2 q3) ka kb) (k0_pay52 v20 (Scalar.muli arg1 128#32)) (k0_pay53 (F := Ideal)) w g)
    = fin (rows0 (lastD lam (k0_pay34 q0 q1) (k0_pay35 q2 q3) ka kb w (k0_pay52 v20 (Scalar.muli arg1 128#32)) a)) g := rfl
theorem piece1 : k0_pay57 (k0_pay54 lam a.1 a.2.1 a.2.2 (k0_pay51 (k0_pay34 q0 q1) (k0_pay35 q2 q3) ka kb) (k0_pay52 v20 (Scalar.muli arg1 128#32)) (k0_pay53 (F := Ideal)) w) g
    = fin (rows1 (lastD lam (k0_pay34 q0 q1) (k0_pay35 q2 q3) ka kb w (k0_pay52 v20 (Scalar.muli arg1 128#32)) a)) g := rfl
theorem piece2 : k0_pay79 (k0_pay78 lam a.1 a.2.1 a.2.2 (k0_pay75 (k0_pay58 q0 q1) (k0_pay59 q2 q3) ka kb) (k0_pay76 arg1 v20) w g) (Scalar.ofBits .f32 0x3F24FD5C#32)
    = fin (rows0 (lastD lam (k0_pay34 q0 q1) (k0_pay35 q2 q3) ka kb w (k0_pay52 v20 (Scalar.muli arg1 128#32)) a)) g := rfl
theorem piece3 : k0_pay80 (k0_pay77 lam a.1 a.2.1 a.2.2 (k0_pay75 (k0_pay58 q0 q1) (k0_pay59 q2 q3) ka kb) (k0_pay76 arg1 v20) w) g
    = fin (rows1 (lastD lam (k0_pay34 q0 q1) (k0_pay35 q2 q3) ka kb w (k0_pay52 v20 (Scalar.muli arg1 128#32)) a)) g := rfl
theorem piece4 : k0_pay104 (k0_pay102 lam (Scalar.muli arg1 128#32) a.1 a.2.1 a.2.2 (k0_pay99 (k0_pay81 q0 q1) (k0_pay82 q2) q3 ka kb) (k0_pay100 v20) (iota .tc S128x256 32 [0] iota_S128x256_d0_w32) w) (k0_pay103 g)
    = fin (rows0 (lastD lam (k0_pay34 q0 q1) (k0_pay35 q2 q3) ka kb w (k0_pay52 v20 (Scalar.muli arg1 128#32)) a)) g := rfl
theorem piece5 : k0_pay105 (k0_pay101 lam (Scalar.muli arg1 128#32) a.1 a.2.1 a.2.2 (k0_pay99 (k0_pay81 q0 q1) (k0_pay82 q2) q3 ka kb) (k0_pay100 v20) (iota .tc S128x256 32 [0] iota_S128x256_d0_w32) w) g
    = fin (rows1 (lastD lam (k0_pay34 q0 q1) (k0_pay35 q2 q3) ka kb w (k0_pay52 v20 (Scalar.muli arg1 128#32)) a)) g := rfl
theorem piece6 : k0_pay1 (k0_pay126 lam (Scalar.muli arg1 128#32) a.1 a.2.1 a.2.2 (Scalar.muli (Scalar.subi v20 1#32) 256#32) (k0_pay124 (k0_pay106 q0 q1) (k0_pay107 q2) q3 ka kb) (iota .tc S128x256 32 [1] iota_S128x256_d1_w32) w) g
    = fin (rows0 (lastD lam (k0_pay34 q0 q1) (k0_pay35 q2 q3) ka kb w (k0_pay52 v20 (Scalar.muli arg1 128#32)) a)) g := rfl
theorem piece7 : k0_pay2 (k0_pay125 lam (Scalar.muli arg1 128#32) a.1 a.2.1 a.2.2 (Scalar.muli (Scalar.subi v20 1#32) 256#32) (k0_pay124 (k0_pay106 q0 q1) (k0_pay107 q2) q3 ka kb) (iota .tc S128x256 32 [1] iota_S128x256_d1_w32) w) g
    = fin (rows1 (lastD lam (k0_pay34 q0 q1) (k0_pay35 q2 q3) ka kb w (k0_pay52 v20 (Scalar.muli arg1 128#32)) a)) g := rfl

theorem qa_apply (r : Fin 256) (d : Fin 128) : k0_pay34 q0 q1 (ix2 r d) = if h : r.val < 128 then q0 (ix3 0 ⟨r, h⟩ d) else q1 (ix3 0 ⟨r - 128, by omega⟩ d) := by
  pointwise [k0_pay34]

theorem qb_apply (r : Fin 256) (d : Fin 128) : k0_pay35 q2 q3 (ix2 r d) = if h : r.val < 128 then q2 (ix3 0 ⟨r, h⟩ d) else q3 (ix3 0 ⟨r - 128, by omega⟩ d) := by
  pointwise [k0_pay35]
end

theorem bounds : ∀ i : grid0.Coords, Scalar.muli (Scalar.subi (Scalar.shrui (Scalar.addi (BitVec.ofNat 32 (i 1).val) 2#32) 1#32) 1#32) 256#32 = BitVec.ofNat 32 (256 * ((i 1).val / 2))
    ∧ Scalar.muli (BitVec.ofNat 32 (i 1).val) 128#32 = BitVec.ofNat 32 (128 * (i 1).val) := by decide +kernel

theorem sle_add (a t b r : ℕ) (h : a + t < 2 ^ 31) (h' : b + r < 2 ^ 31) :
    IntOp.cmpi CmpIPredicate.sle (IntOp.addi (BitVec.ofNat 32 a) (BitVec.ofNat 32 t)) (IntOp.addi (BitVec.ofNat 32 b) (BitVec.ofNat 32 r))
      = if a + t ≤ b + r then 1#1 else 0#1 := by
  show IntOp.cmpi _ (BitVec.ofNat 32 a + BitVec.ofNat 32 t) (BitVec.ofNat 32 b + BitVec.ofNat 32 r) = _
  rw [← BitVec.ofNat_add, ← BitVec.ofNat_add]
  split
  · exact (WordCmp.cmpi_sle_ofNat_eq_one_iff (w := 32) h h').mpr ‹_›
  · exact (WordCmp.cmpi_sle_ofNat_eq_zero_iff (w := 32) h h').mpr (by omega)

theorem mask_apply (i : grid0.Coords) (r : Fin 512) (t : Fin 256) :
    k0_pay52 (Scalar.shrui (Scalar.addi (BitVec.ofNat 32 (i 1).val) 2#32) 1#32) (Scalar.muli (BitVec.ofNat 32 (i 1).val) 128#32) (ix2 r t)
      = if 256 * ((i 1).val / 2) + t.val ≤ 128 * (i 1).val + r.val % 128 then 1#1 else 0#1 := by
  have h1 : (i 1).val < 17 := (i 1).isLt
  unfold k0_pay52
  dsimp only
  rw [(bounds i).1, (bounds i).2]
  pointwise
  split
  · rw [sle_add _ _ _ _ (by omega) (by omega), show r.val % 128 = r.val by omega]
  · split
    · rw [sle_add _ _ _ _ (by omega) (by omega), show r.val % 128 = r.val - 128 by omega]
    · split
      · rw [sle_add _ _ _ _ (by omega) (by omega), show r.val % 128 = r.val - 128 - 128 by omega]
      · rw [sle_add _ _ _ _ (by omega) (by omega), show r.val % 128 = r.val - 128 - 128 - 128 by omega]

end Cert.KernelIdeal.Body

end
-- ==== Proof.Spec.lean ====
module

public import proofs.«01_k».proof.Proof.Numer

@[expose] public section

/-!
# What one element of the attention is

Over the numbers: the scores of a query against the keys up to its own position, the two components' weighted
means of the values and their difference; then the normalisation over a head's 256 columns.
-/

noncomputable section

namespace Cert.Attn

open Idealize.ShloMosaic

/-- The scale of the scores. -/
def scale : ℝ := Classical.choose exists_scale

theorem scale_eq : Ideal.ofBits FTy.f32 1035273459#32 = scale := Classical.choose_spec exists_scale

/-- The score of component `c` of head `h` of group `g`, of a row of queries against key `k`. -/
def sc (zq : ℕ → ℝ) (kr : ℕ → ℕ → ℝ) (g h c k : ℕ) : ℝ :=
  (∑ d : Fin 128, zq ((2 * (2 * g + h) + c) * 128 + d.val) * kr k ((2 * g + c) * 128 + d.val)) * scale

/-- A component's weighted mean of column `e` of the values. -/
def att (zq : ℕ → ℝ) (kr vr : ℕ → ℕ → ℝ) (q g h c e : ℕ) : ℝ :=
  xsum (sc zq kr g h c) (fun k => vr k (256 * g + e)) q / wsum (sc zq kr g h c) q

/-- The difference of the two components. -/
def dif (zq : ℕ → ℝ) (kr vr : ℕ → ℕ → ℝ) (l : ℝ) (q g h e : ℕ) : ℝ := att zq kr vr q g h 0 e - l * att zq kr vr q g h 1 e

/-- One element of the result. -/
def outv (zq : ℕ → ℝ) (kr vr : ℕ → ℕ → ℝ) (l : ℝ) (gain : EReal) (q g h e : ℕ) : EReal :=
  (dif zq kr vr l q g h e : EReal) * Ideal.rsqrt (Ideal.div (∑ e' : Fin 256, (dif zq kr vr l q g h e'.val : EReal) * (dif zq kr vr l q g h e'.val : EReal))
    (Ideal.ofBits FTy.f32 0x43800000#32) + Ideal.ofBits FTy.f32 0x358637BD#32) * gain * Ideal.ofBits FTy.f32 0x3F24FD5C#32

end Cert.Attn

end
-- ==== Proof.HeadVal.lean ====
module

public import proofs.«01_k».proof.Proof.Head
public import proofs.«01_k».proof.Proof.Spec

@[expose] public section

/-!
# The value of one head's block
-/

set_option maxRecDepth 16384

noncomputable section

namespace Cert.KernelIdeal.Body

open Cert.Attn Cert.KernelIdeal Cert.KernelIdeal.Gen Idealize.ShloMosaic Idealize.ShloMosaic.TcCoe Idealize.SL.Sem

section
variable (i : grid0.Coords) (g : ℕ) (q0 q1 q2 q3 : Vec Ideal S1x128x128 .f32) (KB : Vec Ideal S8x2304x128 .bf16) (VB : Vec Ideal S4x2304x256 .bf16) (sa sb : Fin 8) (sv : Fin 4)
  (zq : ℕ → ℕ → ℝ) (kr vr : ℕ → ℕ → ℝ)
  (h0 : ∀ (q : Fin 128) (d : Fin 128), q0 (ix3 0 q d) = ((zq q.val ((2 * (2 * g + 0) + 0) * 128 + d.val) : ℝ) : EReal))
  (h1 : ∀ (q : Fin 128) (d : Fin 128), q1 (ix3 0 q d) = ((zq q.val ((2 * (2 * g + 1) + 0) * 128 + d.val) : ℝ) : EReal))
  (h2 : ∀ (q : Fin 128) (d : Fin 128), q2 (ix3 0 q d) = ((zq q.val ((2 * (2 * g + 0) + 1) * 128 + d.val) : ℝ) : EReal))
  (h3 : ∀ (q : Fin 128) (d : Fin 128), q3 (ix3 0 q d) = ((zq q.val ((2 * (2 * g + 1) + 1) * 128 + d.val) : ℝ) : EReal))
  (ha : ∀ (k : Fin 2304) (d : Fin 128), KB (ix3 sa k d) = ((kr k.val ((2 * g + 0) * 128 + d.val) : ℝ) : EReal))
  (hb : ∀ (k : Fin 2304) (d : Fin 128), KB (ix3 sb k d) = ((kr k.val ((2 * g + 1) * 128 + d.val) : ℝ) : EReal))
  (hV : ∀ (k : Fin 2304) (e : Fin 256), VB (ix3 sv k e) = ((vr k.val (256 * g + e.val) : ℝ) : EReal))
include h0 h1 h2 h3 ha hb

theorem scores (j : ℕ) (r : Fin 512) (t : Fin 256) (hj : j < 9) :
    k0_pay39 (k0_pay34 q0 q1) (k0_pay35 q2 q3) (keys KB sa j) (keys KB sb j) (ix2 r t)
      = ((sc (zq (r.val % 128)) kr g (r.val % 256 / 128) (r.val / 256) (256 * j + t.val) : ℝ) : EReal) := by
  have ka : ∀ d : Fin 128, keys KB sa j (ix2 t d) = ((kr (256 * j + t.val) ((2 * g + 0) * 128 + d.val) : ℝ) : EReal) := fun d =>
    (ha ⟨(256 * j + t.val) % 2304, Nat.mod_lt _ (by decide)⟩ d).trans (by simp only [Nat.mod_eq_of_lt (show 256 * j + t.val < 2304 by omega)])
  have kb : ∀ d : Fin 128, keys KB sb j (ix2 t d) = ((kr (256 * j + t.val) ((2 * g + 1) * 128 + d.val) : ℝ) : EReal) := fun d =>
    (hb ⟨(256 * j + t.val) % 2304, Nat.mod_lt _ (by decide)⟩ d).trans (by simp only [Nat.mod_eq_of_lt (show 256 * j + t.val < 2304 by omega)])
  rw [score_apply, scale_eq]
  unfold sc
  rw [EReal.coe_mul, coe_sum]
  congr 1
  split
  · rename_i hr
    rw [show r.val / 256 = 0 by omega]
    refine Finset.sum_congr rfl fun d _ => ?_
    rw [ka d, qa_apply, EReal.coe_mul]
    congr 1
    split
    · rename_i hr'
      replace hr' : r.val < 128 := hr'
      rw [h0, show r.val % 256 / 128 = 0 by omega, show r.val % 128 = r.val by omega]
    · rename_i hr'
      replace hr' : ¬ r.val < 128 := hr'
      rw [h1, show r.val % 256 / 128 = 1 by omega]
      congr 2
      show r.val - 128 = r.val % 128
      omega
  · rename_i hr
    rw [show r.val / 256 = 1 by omega]
    refine Finset.sum_congr rfl fun d _ => ?_
    rw [kb d, qb_apply, EReal.coe_mul]
    congr 1
    split
    · rename_i hr'
      replace hr' : r.val - 256 < 128 := hr'
      rw [h2, show r.val % 256 / 128 = 0 by omega]
      congr 2
      show r.val - 256 = r.val % 128
      omega
    · rename_i hr'
      replace hr' : ¬ r.val - 256 < 128 := hr'
      rw [h3, show r.val % 256 / 128 = 1 by omega]
      congr 2
      show r.val - 256 - 128 = r.val % 128
      omega

variable (lam : FVec Ideal S1x1 .f32) (l : ℝ) (hl : lam (ix2 0 0) = l) (gain : Vec Ideal S1x256 .f32)
include hV hl

/-- The group at a row and a column. -/
theorem group_at (r : Fin 256) (e : Fin 256) :
    groupD lam (k0_pay34 q0 q1) (k0_pay35 q2 q3) KB VB sa sb sv (k0_pay52 (Scalar.shrui (Scalar.addi (BitVec.ofNat 32 (i 1).val) 2#32) 1#32) (Scalar.muli (BitVec.ofNat 32 (i 1).val) 128#32)) ((i 1).val / 2)
      (steps KB VB sa sb sv (k0_pay34 q0 q1) (k0_pay35 q2 q3) init ((i 1).val / 2)) (ix2 r e)
      = ((dif (zq (r.val % 128)) kr vr l (128 * (i 1).val + r.val % 128) g (r.val / 128) e.val : ℝ) : EReal) := by
  have hi : (i 1).val < 17 := (i 1).isLt
  have hv : ∀ (j : ℕ) (t : Fin 256) (e : Fin 256), j < 9 → vals VB sv j (ix2 t e) = ((vr (256 * j + t.val) (256 * g + e.val) : ℝ) : EReal) := fun j t e hj =>
    (hV ⟨(256 * j + t.val) % 2304, Nat.mod_lt _ (by decide)⟩ e).trans (by simp only [Nat.mod_eq_of_lt (show 256 * j + t.val < 2304 by omega)])
  rw [groupD_value KB VB sa sb sv _ _ (fun r k => sc (zq (r.val % 128)) kr g (r.val % 256 / 128) (r.val / 256) k) (fun k e => vr k (256 * g + e.val))
    (scores g q0 q1 q2 q3 KB sa sb zq kr h0 h1 h2 h3 ha hb) hv _ ((i 1).val / 2) (128 * (i 1).val + r.val % 128) (by omega) lam l hl r e (by omega) (by omega)
    fun r' t h => by rw [mask_apply, show r'.val % 128 = r.val % 128 by omega]]
  simp only [show r.val % 256 / 128 = r.val / 128 by omega, show r.val / 256 = 0 by omega, show (256 + r.val) % 256 / 128 = r.val / 128 by omega,
    show (256 + r.val) / 256 = 1 by omega, show (256 + r.val) % 128 = r.val % 128 by omega]
  rfl

/-- Head 0's block. -/
theorem head0_at (q : Fin 128) (e : Fin 256) :
    fin (rows0 (groupD lam (k0_pay34 q0 q1) (k0_pay35 q2 q3) KB VB sa sb sv (k0_pay52 (Scalar.shrui (Scalar.addi (BitVec.ofNat 32 (i 1).val) 2#32) 1#32) (Scalar.muli (BitVec.ofNat 32 (i 1).val) 128#32)) ((i 1).val / 2)
      (steps KB VB sa sb sv (k0_pay34 q0 q1) (k0_pay35 q2 q3) init ((i 1).val / 2)))) gain (ix3 0 q e)
      = outv (zq q.val) kr vr l (gain (ix2 0 e)) (128 * (i 1).val + q.val) g 0 e.val := by
  have h : ∀ e : Fin 256, _ := fun e => group_at i g q0 q1 q2 q3 KB VB sa sb sv zq kr vr h0 h1 h2 h3 ha hb hV lam l hl ⟨q.val, by omega⟩ e
  simp only [show q.val % 128 = q.val by omega, show q.val / 128 = 0 by omega] at h
  rw [fin_apply]
  simp only [rows0_apply]
  simp only [h]
  rfl

/-- Head 1's block. -/
theorem head1_at (q : Fin 128) (e : Fin 256) :
    fin (rows1 (groupD lam (k0_pay34 q0 q1) (k0_pay35 q2 q3) KB VB sa sb sv (k0_pay52 (Scalar.shrui (Scalar.addi (BitVec.ofNat 32 (i 1).val) 2#32) 1#32) (Scalar.muli (BitVec.ofNat 32 (i 1).val) 128#32)) ((i 1).val / 2)
      (steps KB VB sa sb sv (k0_pay34 q0 q1) (k0_pay35 q2 q3) init ((i 1).val / 2)))) gain (ix3 0 q e)
      = outv (zq q.val) kr vr l (gain (ix2 0 e)) (128 * (i 1).val + q.val) g 1 e.val := by
  have h : ∀ e : Fin 256, _ := fun e => group_at i g q0 q1 q2 q3 KB VB sa sb sv zq kr vr h0 h1 h2 h3 ha hb hV lam l hl ⟨128 + q.val, by omega⟩ e
  simp only [show (128 + q.val) % 128 = q.val by omega, show (128 + q.val) / 128 = 1 by omega] at h
  rw [fin_apply]
  simp only [rows1_apply]
  simp only [h]
  rfl
end

end Cert.KernelIdeal.Body

end
-- ==== Proof.Loop.lean ====
module

public import proofs.«01_k».proof.Proof.Trip
public import Idealize.ShloMosaic.Lib.Exec
public import Idealize.ShloMosaic.Lib.Tactic
public import Idealize.ShloMosaic.Lib.Pipeline.Kit
public import Idealize.ShloMosaic.Lib.Pointwise
public import Idealize.ShloMosaic.Lib.WholeRead
public import Idealize.ShloMosaic.Lib.ValueLayout

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (i : grid0.Coords) (arg2 : Memref sig .tc .vmem S1x128x2048 .f32) (harg2 : arg2.IsWhole) (arg3 : Memref sig .tc .vmem S1x2176x1024 .f32) (harg3 : arg3.IsWhole) (arg4 : Memref sig .tc .vmem S1x2176x1024 .f32) (harg4 : arg4.IsWhole) (arg5 : Memref sig .tc .vmem S4x128 .f32) (harg5 : arg5.IsWhole) (arg6 : Memref sig .tc .vmem S1x256 .f32) (harg6 : arg6.IsWhole) (arg7 : Memref sig .tc .vmem S1x128x2048 .f32) (harg7 : arg7.IsWhole) (arg8 : Memref sig .tc .vmem S8x2304x128 .bf16) (harg8 : arg8.IsWhole) (arg9 : Memref sig .tc .vmem S4x2304x256 .bf16) (harg9 : arg9.IsWhole)
  (KB : Vec F S8x2304x128 .bf16) (VB : Vec F S4x2304x256 .bf16)

set_option warn.classDefReducibility false in
/-- Group 0's chunks: after `k` of them the carried state is `steps … k`. -/
@[sl_loop] def loop1 (v20 : BitVec 32) (v26 v32 : FVec F S256x128 .bf16) (v33 : BitVec 32) (cst_13 : F .f32) (E : Set ℕ) (init : St F) :
    Idealize.ShloMosaic.LoopInv (M := 𝕄) frame (wpE (defs₀ (F := F)) Variants.none (c : Thread nD τ) none) E
      (k0_t1_loop i).lb (k0_t1_loop i).ub (k0_t1_loop i).st (k0_t1_ok i) init (k0_t1_body (F := F) i arg2 harg2 arg3 harg3 arg4 harg4 arg5 harg5 arg6 harg6 arg7 harg7 arg8 harg8 arg9 harg9 v20 v26 v32 v33 cst_13) where
  inv k acc := iprop(⌜acc = steps KB VB 0 1 0 v26 v32 init k⌝ ∗ held c arg8 harg8 arg9 harg9 KB VB)
  step k acc := by
    iintro ⟨%h, H⟩
    iapply (wp_wand_r frame (wpE (defs₀ (F := F)) Variants.none (c : Thread nD τ) none) E)
    isplitl [H]
    · iapply (trip1 c i arg2 harg2 arg3 harg3 arg4 harg4 arg5 harg5 arg6 harg6 arg7 harg7 arg8 harg8 arg9 harg9 KB VB v20 v26 v32 v33 cst_13 k E acc); iexact H
    · iintro %yld ⟨%hy, H'⟩
      isplitr
      · ipureintro; rw [hy, h]; rfl
      · iexact H'

set_option warn.classDefReducibility false in
/-- Group 0's second loop has no trip. -/
@[sl_loop] def loop2 (v20 : BitVec 32) (v26 v32 : FVec F S256x128 .bf16) (v33 : BitVec 32) (cst_13 : F .f32) (E : Set ℕ) (init : St F) :
    Idealize.ShloMosaic.LoopInv (M := 𝕄) frame (wpE (defs₀ (F := F)) Variants.none (c : Thread nD τ) none) E
      (k0_t2_loop i).lb (k0_t2_loop i).ub (k0_t2_loop i).st (k0_t2_ok i) init (k0_t2_body (F := F) i arg2 harg2 arg3 harg3 arg4 harg4 arg5 harg5 arg6 harg6 arg7 harg7 arg8 harg8 arg9 harg9 v20 v26 v32 v33 cst_13) where
  inv k acc := iprop(⌜acc = init⌝ ∗ held c arg8 harg8 arg9 harg9 KB VB)
  step k acc := (Nat.not_lt_zero _ (Nat.lt_of_lt_of_eq k.isLt (trips_zero i).1)).elim

set_option warn.classDefReducibility false in
/-- Group 1's chunks: after `k` of them the carried state is `steps … k`. -/
@[sl_loop] def loop3 (arg1 v20 : BitVec 32) (v144 v150 : FVec F S256x128 .bf16) (E : Set ℕ) (init : St F) :
    Idealize.ShloMosaic.LoopInv (M := 𝕄) frame (wpE (defs₀ (F := F)) Variants.none (c : Thread nD τ) none) E
      (k0_t3_loop i).lb (k0_t3_loop i).ub (k0_t3_loop i).st (k0_t3_ok i) init (k0_t3_body (F := F) i arg2 harg2 arg3 harg3 arg4 harg4 arg5 harg5 arg6 harg6 arg7 harg7 arg8 harg8 arg9 harg9 arg1 v20 v144 v150) where
  inv k acc := iprop(⌜acc = steps KB VB 2 3 1 v144 v150 init k⌝ ∗ held c arg8 harg8 arg9 harg9 KB VB)
  step k acc := by
    iintro ⟨%h, H⟩
    iapply (wp_wand_r frame (wpE (defs₀ (F := F)) Variants.none (c : Thread nD τ) none) E)
    isplitl [H]
    · iapply (trip3 c i arg2 harg2 arg3 harg3 arg4 harg4 arg5 harg5 arg6 harg6 arg7 harg7 arg8 harg8 arg9 harg9 KB VB arg1 v20 v144 v150 k E acc); iexact H
    · iintro %yld ⟨%hy, H'⟩
      isplitr
      · ipureintro; rw [hy, h]; rfl
      · iexact H'

set_option warn.classDefReducibility false in
/-- Group 1's second loop has no trip. -/
@[sl_loop] def loop4 (arg1 v20 : BitVec 32) (v144 v150 : FVec F S256x128 .bf16) (E : Set ℕ) (init : St F) :
    Idealize.ShloMosaic.LoopInv (M := 𝕄) frame (wpE (defs₀ (F := F)) Variants.none (c : Thread nD τ) none) E
      (k0_t4_loop i).lb (k0_t4_loop i).ub (k0_t4_loop i).st (k0_t4_ok i) init (k0_t4_body (F := F) i arg2 harg2 arg3 harg3 arg4 harg4 arg5 harg5 arg6 harg6 arg7 harg7 arg8 harg8 arg9 harg9 arg1 v20 v144 v150) where
  inv k acc := iprop(⌜acc = init⌝ ∗ held c arg8 harg8 arg9 harg9 KB VB)
  step k acc := (Nat.not_lt_zero _ (Nat.lt_of_lt_of_eq k.isLt (trips_zero i).2.1)).elim

set_option warn.classDefReducibility false in
/-- Group 2's chunks: after `k` of them the carried state is `steps … k`. -/
@[sl_loop] def loop5 (arg1 v20 : BitVec 32) (v262 : FVec F S256x128 .bf16) (v264 : FVec F S128x128 .f32) (v265 : Vec F S1x128x128 .f32) (E : Set ℕ) (init : St F) :
    Idealize.ShloMosaic.LoopInv (M := 𝕄) frame (wpE (defs₀ (F := F)) Variants.none (c : Thread nD τ) none) E
      (k0_t5_loop i).lb (k0_t5_loop i).ub (k0_t5_loop i).st (k0_t5_ok i) init (k0_t5_body (F := F) i arg2 harg2 arg3 harg3 arg4 harg4 arg5 harg5 arg6 harg6 arg7 harg7 arg8 harg8 arg9 harg9 arg1 v20 v262 v264 v265) where
  inv k acc := iprop(⌜acc = steps KB VB 4 5 2 v262 (k0_pay83 v264 v265) init k⌝ ∗ held c arg8 harg8 arg9 harg9 KB VB)
  step k acc := by
    iintro ⟨%h, H⟩
    iapply (wp_wand_r frame (wpE (defs₀ (F := F)) Variants.none (c : Thread nD τ) none) E)
    isplitl [H]
    · iapply (trip5 c i arg2 harg2 arg3 harg3 arg4 harg4 arg5 harg5 arg6 harg6 arg7 harg7 arg8 harg8 arg9 harg9 KB VB arg1 v20 v262 v264 v265 k E acc); iexact H
    · iintro %yld ⟨%hy, H'⟩
      isplitr
      · ipureintro; rw [hy, h]; rfl
      · iexact H'

set_option warn.classDefReducibility false in
/-- Group 2's second loop has no trip. -/
@[sl_loop] def loop6 (arg1 v20 : BitVec 32) (v262 : FVec F S256x128 .bf16) (v264 : FVec F S128x128 .f32) (v265 : Vec F S1x128x128 .f32) (E : Set ℕ) (init : St F) :
    Idealize.ShloMosaic.LoopInv (M := 𝕄) frame (wpE (defs₀ (F := F)) Variants.none (c : Thread nD τ) none) E
      (k0_t6_loop i).lb (k0_t6_loop i).ub (k0_t6_loop i).st (k0_t6_ok i) init (k0_t6_body (F := F) i arg2 harg2 arg3 harg3 arg4 harg4 arg5 harg5 arg6 harg6 arg7 harg7 arg8 harg8 arg9 harg9 arg1 v20 v262 v264 v265) where
  inv k acc := iprop(⌜acc = init⌝ ∗ held c arg8 harg8 arg9 harg9 KB VB)
  step k acc := (Nat.not_lt_zero _ (Nat.lt_of_lt_of_eq k.isLt (trips_zero i).2.2.1)).elim

set_option warn.classDefReducibility false in
/-- Group 3's chunks: after `k` of them the carried state is `steps … k`. -/
@[sl_loop] def loop7 (arg1 v20 : BitVec 32) (v380 : FVec F S256x128 .bf16) (v382 : FVec F S128x128 .f32) (v383 : Vec F S1x128x128 .f32) (E : Set ℕ) (init : St F) :
    Idealize.ShloMosaic.LoopInv (M := 𝕄) frame (wpE (defs₀ (F := F)) Variants.none (c : Thread nD τ) none) E
      (k0_t7_loop i).lb (k0_t7_loop i).ub (k0_t7_loop i).st (k0_t7_ok i) init (k0_t7_body (F := F) i arg2 harg2 arg3 harg3 arg4 harg4 arg5 harg5 arg6 harg6 arg7 harg7 arg8 harg8 arg9 harg9 arg1 v20 v380 v382 v383) where
  inv k acc := iprop(⌜acc = steps KB VB 6 7 3 v380 (k0_pay108 v382 v383) init k⌝ ∗ held c arg8 harg8 arg9 harg9 KB VB)
  step k acc := by
    iintro ⟨%h, H⟩
    iapply (wp_wand_r frame (wpE (defs₀ (F := F)) Variants.none (c : Thread nD τ) none) E)
    isplitl [H]
    · iapply (trip7 c i arg2 harg2 arg3 harg3 arg4 harg4 arg5 harg5 arg6 harg6 arg7 harg7 arg8 harg8 arg9 harg9 KB VB arg1 v20 v380 v382 v383 k E acc); iexact H
    · iintro %yld ⟨%hy, H'⟩
      isplitr
      · ipureintro; rw [hy, h]; rfl
      · iexact H'

set_option warn.classDefReducibility false in
/-- Group 3's second loop has no trip. -/
@[sl_loop] def loop8 (arg1 v20 : BitVec 32) (v380 : FVec F S256x128 .bf16) (v382 : FVec F S128x128 .f32) (v383 : Vec F S1x128x128 .f32) (E : Set ℕ) (init : St F) :
    Idealize.ShloMosaic.LoopInv (M := 𝕄) frame (wpE (defs₀ (F := F)) Variants.none (c : Thread nD τ) none) E
      (k0_t8_loop i).lb (k0_t8_loop i).ub (k0_t8_loop i).st (k0_t8_ok i) init (k0_t8_body (F := F) i arg2 harg2 arg3 harg3 arg4 harg4 arg5 harg5 arg6 harg6 arg7 harg7 arg8 harg8 arg9 harg9 arg1 v20 v380 v382 v383) where
  inv k acc := iprop(⌜acc = init⌝ ∗ held c arg8 harg8 arg9 harg9 KB VB)
  step k acc := (Nat.not_lt_zero _ (Nat.lt_of_lt_of_eq k.isLt (trips_zero i).2.2.2)).elim

end

end Cert.KernelIdeal.Body

end
-- ==== Proof.Fill.lean ====
module

public import proofs.«01_k».proof.Proof.Loop
public import Idealize.ShloMosaic.Lib.Exec
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.Pipeline.Kit
public import Idealize.ShloMosaic.Lib.Pointwise
public import Idealize.ShloMosaic.Lib.WholeRead
public import Idealize.ShloMosaic.Lib.ValueLayout

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (i : grid0.Coords) (arg2 : Memref sig .tc .vmem S1x128x2048 .f32) (harg2 : arg2.IsWhole) (arg3 : Memref sig .tc .vmem S1x2176x1024 .f32) (harg3 : arg3.IsWhole) (arg4 : Memref sig .tc .vmem S1x2176x1024 .f32) (harg4 : arg4.IsWhole) (arg5 : Memref sig .tc .vmem S4x128 .f32) (harg5 : arg5.IsWhole) (arg6 : Memref sig .tc .vmem S1x256 .f32) (harg6 : arg6.IsWhole) (arg7 : Memref sig .tc .vmem S1x128x2048 .f32) (harg7 : arg7.IsWhole) (arg8 : Memref sig .tc .vmem S8x2304x128 .bf16) (harg8 : arg8.IsWhole) (arg9 : Memref sig .tc .vmem S4x2304x256 .bf16) (harg9 : arg9.IsWhole)

/-- What the first block of queries of a sequence does before it attends: copy the keys and the values. -/
noncomputable def fillProg : Prog (TpuEff nD τ sig (Elt F) Λ₀ .tc) PUnit := do
    let ⟨v515, v518⟩ : Σ' (v515 : FVec F S128x128 .bf16), Vec F S128x128 .bf16 ← k0_part1 i arg2 harg2 arg3 harg3 arg4 harg4 arg5 harg5 arg6 harg6 arg7 harg7 arg8 harg8 arg9 harg9
    let v543 : FVec F S128x128 .bf16 ← k0_part2 i arg2 harg2 arg3 harg3 arg4 harg4 arg5 harg5 arg6 harg6 arg7 harg7 arg8 harg8 arg9 harg9 v515 v518
    let v571 : FVec F S128x128 .bf16 ← k0_part3 i arg2 harg2 arg3 harg3 arg4 harg4 arg5 harg5 arg6 harg6 arg7 harg7 arg8 harg8 arg9 harg9 v543
    let v598 : FVec F S2176x128 .bf16 ← k0_part4 i arg2 harg2 arg3 harg3 arg4 harg4 arg5 harg5 arg6 harg6 arg7 harg7 arg8 harg8 arg9 harg9 v571
    let v621 : FVec F S2176x256 .bf16 ← k0_part5 i arg2 harg2 arg3 harg3 arg4 harg4 arg5 harg5 arg6 harg6 arg7 harg7 arg8 harg8 arg9 harg9 v598
    let v649 : FVec F S2176x256 .bf16 ← k0_part6 i arg2 harg2 arg3 harg3 arg4 harg4 arg5 harg5 arg6 harg6 arg7 harg7 arg8 harg8 arg9 harg9 v621
    let v650 : Memref sig .tc .vmem S1x2304x256 .bf16 := arg9.slice (Rect.unit (s := S4x2304x256) ![3, 0, 0] S1x2304x256.size inb_S4x2304x256_S1x2304x256_3_0_0) (fun _ => rfl)
    let v651 : Memref sig .tc .vmem S2304x256 .bf16 := v650.squeeze S2304x256 squeezes_S1x2304x256_S2304x256
    let v652 : Vec F S2176x256 .bf16 ← Prog.lift (.load v651 (Rect.unit (s := S2304x256) ![0, 0] S2176x256.size inb_S2304x256_S2176x256_0_0).toLoadRect (View.loadsAt_vmem h_S2176x256))
    Prog.lift (.store arg9 (Rect.unit (s := S4x2304x256) ![3, 0, 0] S1x2176x256.size inb_S4x2304x256_S1x2176x256_3_0_0) (k0_pay31 v649) Finset.univ (View.stores_vmem h_S1x2176x256 (harg9.storeExact_slice rfl _ packedbf16_S4x2304x256_S1x2176x256_3_0_0) (fun _ => rfl)) (.inl rfl))
    let v656 : Memref sig .tc .vmem S1x2304x256 .bf16 := arg9.slice (Rect.unit (s := S4x2304x256) ![3, 0, 0] S1x2304x256.size inb_S4x2304x256_S1x2304x256_3_0_0) (fun _ => rfl)
    let v657 : Memref sig .tc .vmem S2304x256 .bf16 := v656.squeeze S2304x256 squeezes_S1x2304x256_S2304x256
    let v658 : Vec F S128x256 .bf16 ← Prog.lift (.load v657 (Rect.unit (s := S2304x256) ![2176, 0] S128x256.size inb_S2304x256_S128x256_2176_0).toLoadRect (View.loadsAt_vmem h_S128x256))
    Prog.lift (.store arg9 (Rect.unit (s := S4x2304x256) ![3, 2176, 0] S1x128x256.size inb_S4x2304x256_S1x128x256_3_2176_0) (k0_pay32 (F := F)) Finset.univ (View.stores_vmem h_S1x128x256 (harg9.storeExact_slice rfl _ packedbf16_S4x2304x256_S1x128x256_3_2176_0) (fun _ => rfl)) (.inl rfl))
    pure ⟨⟩

/-- The keys' pieces, last stored first. -/
def pieces8 (x1 : Vec F S1x2176x1024 .f32) : List (View.Piece (Elt F) S8x2304x128 .bf16) :=
  [⟨Rect.unit (s := S8x2304x128) ![7, 2176, 0] S1x128x128.size inb_S8x2304x128_S1x128x128_7_2176_0, k0_pay22⟩,
   ⟨Rect.unit (s := S8x2304x128) ![7, 0, 0] S1x2176x128.size inb_S8x2304x128_S1x2176x128_7_0_0, k0_pay21 (k0_pay20 (View.readAt (Elt F) arg3.view (Rect.unit (s := S1x2176x1024) ![0, 0, 896] S1x2176x128.size inb_S1x2176x1024_S1x2176x128_0_0_896).toLoadRect (harg3.unread x1)))⟩,
   ⟨Rect.unit (s := S8x2304x128) ![6, 2176, 0] S1x128x128.size inb_S8x2304x128_S1x128x128_6_2176_0, k0_pay19⟩,
   ⟨Rect.unit (s := S8x2304x128) ![6, 0, 0] S1x2176x128.size inb_S8x2304x128_S1x2176x128_6_0_0, k0_pay18 (View.readAt (Elt F) arg3.view (Rect.unit (s := S1x2176x1024) ![0, 0, 768] S1x2176x128.size inb_S1x2176x1024_S1x2176x128_0_0_768).toLoadRect (harg3.unread x1))⟩,
   ⟨Rect.unit (s := S8x2304x128) ![5, 2176, 0] S1x128x128.size inb_S8x2304x128_S1x128x128_5_2176_0, k0_pay17 (k0_pay16 (F := F))⟩,
   ⟨Rect.unit (s := S8x2304x128) ![5, 0, 0] S1x2176x128.size inb_S8x2304x128_S1x2176x128_5_0_0, k0_pay15 (View.readAt (Elt F) arg3.view (Rect.unit (s := S1x2176x1024) ![0, 0, 640] S1x2176x128.size inb_S1x2176x1024_S1x2176x128_0_0_640).toLoadRect (harg3.unread x1))⟩,
   ⟨Rect.unit (s := S8x2304x128) ![4, 2176, 0] S1x128x128.size inb_S8x2304x128_S1x128x128_4_2176_0, k0_pay14⟩,
   ⟨Rect.unit (s := S8x2304x128) ![4, 0, 0] S1x2176x128.size inb_S8x2304x128_S1x2176x128_4_0_0, k0_pay13 (View.readAt (Elt F) arg3.view (Rect.unit (s := S1x2176x1024) ![0, 0, 512] S1x2176x128.size inb_S1x2176x1024_S1x2176x128_0_0_512).toLoadRect (harg3.unread x1))⟩,
   ⟨Rect.unit (s := S8x2304x128) ![3, 2176, 0] S1x128x128.size inb_S8x2304x128_S1x128x128_3_2176_0, k0_pay12 (k0_pay11 (F := F))⟩,
   ⟨Rect.unit (s := S8x2304x128) ![3, 0, 0] S1x2176x128.size inb_S8x2304x128_S1x2176x128_3_0_0, k0_pay10 (View.readAt (Elt F) arg3.view (Rect.unit (s := S1x2176x1024) ![0, 0, 384] S1x2176x128.size inb_S1x2176x1024_S1x2176x128_0_0_384).toLoadRect (harg3.unread x1))⟩,
   ⟨Rect.unit (s := S8x2304x128) ![2, 2176, 0] S1x128x128.size inb_S8x2304x128_S1x128x128_2_2176_0, k0_pay9⟩,
   ⟨Rect.unit (s := S8x2304x128) ![2, 0, 0] S1x2176x128.size inb_S8x2304x128_S1x2176x128_2_0_0, k0_pay8 (View.readAt (Elt F) arg3.view (Rect.unit (s := S1x2176x1024) ![0, 0, 256] S1x2176x128.size inb_S1x2176x1024_S1x2176x128_0_0_256).toLoadRect (harg3.unread x1))⟩,
   ⟨Rect.unit (s := S8x2304x128) ![1, 2176, 0] S1x128x128.size inb_S8x2304x128_S1x128x128_1_2176_0, k0_pay7 (k0_pay6 (F := F))⟩,
   ⟨Rect.unit (s := S8x2304x128) ![1, 0, 0] S1x2176x128.size inb_S8x2304x128_S1x2176x128_1_0_0, k0_pay5 (View.readAt (Elt F) arg3.view (Rect.unit (s := S1x2176x1024) ![0, 0, 128] S1x2176x128.size inb_S1x2176x1024_S1x2176x128_0_0_128).toLoadRect (harg3.unread x1))⟩,
   ⟨Rect.unit (s := S8x2304x128) ![0, 2176, 0] S1x128x128.size inb_S8x2304x128_S1x128x128_0_2176_0, k0_pay4⟩,
   ⟨Rect.unit (s := S8x2304x128) ![0, 0, 0] S1x2176x128.size inb_S8x2304x128_S1x2176x128_0_0_0, k0_pay3 (View.readAt (Elt F) arg3.view (Rect.unit (s := S1x2176x1024) ![0, 0, 0] S1x2176x128.size inb_S1x2176x1024_S1x2176x128_0_0_0).toLoadRect (harg3.unread x1))⟩]

/-- The values' pieces, last stored first. -/
def pieces9 (x2 : Vec F S1x2176x1024 .f32) : List (View.Piece (Elt F) S4x2304x256 .bf16) :=
  [⟨Rect.unit (s := S4x2304x256) ![3, 2176, 0] S1x128x256.size inb_S4x2304x256_S1x128x256_3_2176_0, k0_pay32⟩,
   ⟨Rect.unit (s := S4x2304x256) ![3, 0, 0] S1x2176x256.size inb_S4x2304x256_S1x2176x256_3_0_0, k0_pay31 (k0_pay30 (View.readAt (Elt F) arg4.view (Rect.unit (s := S1x2176x1024) ![0, 0, 768] S1x2176x256.size inb_S1x2176x1024_S1x2176x256_0_0_768).toLoadRect (harg4.unread x2)))⟩,
   ⟨Rect.unit (s := S4x2304x256) ![2, 2176, 0] S1x128x256.size inb_S4x2304x256_S1x128x256_2_2176_0, k0_pay29⟩,
   ⟨Rect.unit (s := S4x2304x256) ![2, 0, 0] S1x2176x256.size inb_S4x2304x256_S1x2176x256_2_0_0, k0_pay28 (View.readAt (Elt F) arg4.view (Rect.unit (s := S1x2176x1024) ![0, 0, 512] S1x2176x256.size inb_S1x2176x1024_S1x2176x256_0_0_512).toLoadRect (harg4.unread x2))⟩,
   ⟨Rect.unit (s := S4x2304x256) ![1, 2176, 0] S1x128x256.size inb_S4x2304x256_S1x128x256_1_2176_0, k0_pay27⟩,
   ⟨Rect.unit (s := S4x2304x256) ![1, 0, 0] S1x2176x256.size inb_S4x2304x256_S1x2176x256_1_0_0, k0_pay26 (k0_pay25 (View.readAt (Elt F) arg4.view (Rect.unit (s := S1x2176x1024) ![0, 0, 256] S1x2176x256.size inb_S1x2176x1024_S1x2176x256_0_0_256).toLoadRect (harg4.unread x2)))⟩,
   ⟨Rect.unit (s := S4x2304x256) ![0, 2176, 0] S1x128x256.size inb_S4x2304x256_S1x128x256_0_2176_0, k0_pay24⟩,
   ⟨Rect.unit (s := S4x2304x256) ![0, 0, 0] S1x2176x256.size inb_S4x2304x256_S1x2176x256_0_0_0, k0_pay23 (View.readAt (Elt F) arg4.view (Rect.unit (s := S1x2176x1024) ![0, 0, 0] S1x2176x256.size inb_S1x2176x1024_S1x2176x256_0_0_0).toLoadRect (harg4.unread x2))⟩]

set_option sl_exec.squeezeSlice true in
/-- The copy runs, and leaves those pieces. -/
theorem fillRun (x1 x2 : Vec F S1x2176x1024 .f32) (E : Set ℕ) (f8 : Buf (Elt F) (arg8.view.loc (c : Thread nD τ))) (f9 : Buf (Elt F) (arg9.view.loc (c : Thread nD τ))) :
        (iprop((arg3.view.loc (c : Thread nD τ) ↦[arg3.view.set]{fullShare} harg3.unread x1) ∗ (arg4.view.loc (c : Thread nD τ) ↦[arg4.view.set]{fullShare} harg4.unread x2)
            ∗ (arg8.view.loc (c : Thread nD τ) ↦[arg8.view.set]{fullShare} f8) ∗ (arg9.view.loc (c : Thread nD τ) ↦[arg9.view.set]{fullShare} f9)) : sProp 𝕄)
          ⊢ wp frame (wpE (defs₀ (F := F)) Variants.none (c : Thread nD τ) none) E (fillProg (F := F) i arg2 harg2 arg3 harg3 arg4 harg4 arg5 harg5 arg6 harg6 arg7 harg7 arg8 harg8 arg9 harg9)
           (fun _ => iprop((arg3.view.loc (c : Thread nD τ) ↦[arg3.view.set]{fullShare} harg3.unread x1) ∗ (arg4.view.loc (c : Thread nD τ) ↦[arg4.view.set]{fullShare} harg4.unread x2)
            ∗ (arg8.view.loc (c : Thread nD τ) ↦[arg8.view.set]{fullShare} arg8.view.writes (Elt F) f8 (pieces8 arg3 harg3 x1)) ∗ (arg9.view.loc (c : Thread nD τ) ↦[arg9.view.set]{fullShare} arg9.view.writes (Elt F) f9 (pieces9 arg4 harg4 x2)))) := by
  unfold fillProg
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  iintro ⟨H3, H4, H8, H9⟩
  sl_exec
  sl_step
  isplitl [H3]; · iexact H3
  isplitl [H4]; · iexact H4
  unfold pieces8 pieces9
  isplitl [H8]; · iexact H8
  iexact H9

end

end Cert.KernelIdeal.Body

end
-- ==== Proof.FillVal.lean ====
module

public import proofs.«01_k».proof.Proof.Fill
public import Idealize.ShloMosaic.Lib.Exec
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.Pipeline.Kit
public import Idealize.ShloMosaic.Lib.Pointwise
public import Idealize.ShloMosaic.Lib.WholeRead
public import Idealize.ShloMosaic.Lib.ValueLayout

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the keys' scratch holds once filled: slot `s` is component `s`'s 128 columns, its last 128 rows zero. -/
def fillK (X : Vec F S1x2176x1024 .f32) : Vec F S8x2304x128 .bf16 := fun y =>
  if h : (y 1).val < 2176 then FloatOps.truncf .bf16 bitsLt_bf16_f32 (X (ix3 0 ⟨(y 1).val, h⟩ ⟨128 * (y 0).val + (y 2).val, by have h0 : (y 0).val < 8 := (y 0).isLt; have h2 : (y 2).val < 128 := (y 2).isLt; omega⟩))
  else FloatOps.ofBits .bf16 0x0000#16

/-- What the values' scratch holds once filled. -/
def fillV (X : Vec F S1x2176x1024 .f32) : Vec F S4x2304x256 .bf16 := fun y =>
  if h : (y 1).val < 2176 then FloatOps.truncf .bf16 bitsLt_bf16_f32 (X (ix3 0 ⟨(y 1).val, h⟩ ⟨256 * (y 0).val + (y 2).val, by have h0 : (y 0).val < 4 := (y 0).isLt; have h2 : (y 2).val < 256 := (y 2).isLt; omega⟩))
  else FloatOps.ofBits .bf16 0x0000#16

section
variable (c : Dev nD) (i : grid0.Coords) (arg2 : Memref sig .tc .vmem S1x128x2048 .f32) (harg2 : arg2.IsWhole) (arg3 : Memref sig .tc .vmem S1x2176x1024 .f32) (harg3 : arg3.IsWhole) (arg4 : Memref sig .tc .vmem S1x2176x1024 .f32) (harg4 : arg4.IsWhole) (arg5 : Memref sig .tc .vmem S4x128 .f32) (harg5 : arg5.IsWhole) (arg6 : Memref sig .tc .vmem S1x256 .f32) (harg6 : arg6.IsWhole) (arg7 : Memref sig .tc .vmem S1x128x2048 .f32) (harg7 : arg7.IsWhole) (arg8 : Memref sig .tc .vmem S8x2304x128 .bf16) (harg8 : arg8.IsWhole) (arg9 : Memref sig .tc .vmem S4x2304x256 .bf16) (harg9 : arg9.IsWhole)

theorem key_rows (X : Vec F S1x2176x1024 .f32) (s : Fin 8) (o : ℕ) (ho : o = 128 * s.val) (o' : Fin 3 → ℕ) (ho' : o' = ![s.val, 0, 0]) (in1 : ∀ a, ![0, 0, o] a + S1x2176x128.size a ≤ S1x2176x1024.size a)
    (in2 : ∀ a, o' a + S1x2176x128.size a ≤ S8x2304x128.size a) (x : S1x2176x128.Idx) :
    k0_pay3 (View.readAt (Elt F) arg3.view (Rect.unit (s := S1x2176x1024) ![0, 0, o] S1x2176x128.size in1).toLoadRect (harg3.unread X)) x
      = fillK X ((Rect.unit (s := S8x2304x128) o' S1x2176x128.size in2).emb x) := by
  subst ho ho'
  idx_vars x
  have e : View.readAt (Elt F) arg3.view (Rect.unit (s := S1x2176x1024) ![0, 0, 128 * s.val] S1x2176x128.size in1).toLoadRect (harg3.unread X) = fun z => X ((Rect.unit (s := S1x2176x1024) ![0, 0, 128 * s.val] S1x2176x128.size in1).toLoadRect.idx z) := funext fun z => harg3.readAt_unread X _ z
  rw [e]
  have e1 : ((Rect.unit (s := S8x2304x128) ![s.val, 0, 0] S1x2176x128.size in2).emb (ix3 x0 x1 x2)) = ix3 s ⟨x1.val, by omega⟩ x2 := by
    funext a; apply Fin.ext; fin_cases a
    · show s.val + 1 * x0.val = s.val; omega
    · show 0 + 1 * x1.val = x1.val; omega
    · show 0 + 1 * x2.val = x2.val; omega
  have e2 : fillK X (ix3 s ⟨x1.val, by omega⟩ x2) = FloatOps.truncf .bf16 bitsLt_bf16_f32 (X (ix3 0 x1 ⟨128 * s.val + x2.val, by omega⟩)) := dif_pos x1.isLt
  refine Eq.trans ?_ ((congrArg (fillK X) e1).trans e2).symm
  pointwise [k0_pay3]

theorem key_zero (X : Vec F S1x2176x1024 .f32) (s : Fin 8) (o' : Fin 3 → ℕ) (ho' : o' = ![s.val, 2176, 0])
    (in2 : ∀ a, o' a + S1x128x128.size a ≤ S8x2304x128.size a) (x : S1x128x128.Idx) :
    k0_pay4 (F := F) x = fillK X ((Rect.unit (s := S8x2304x128) o' S1x128x128.size in2).emb x) := by
  subst ho'
  idx_vars x
  have e1 : ((Rect.unit (s := S8x2304x128) ![s.val, 2176, 0] S1x128x128.size in2).emb (ix3 x0 x1 x2)) = ix3 s ⟨2176 + x1.val, by omega⟩ x2 := by
    funext a; apply Fin.ext; fin_cases a
    · show s.val + 1 * x0.val = s.val; omega
    · show 2176 + 1 * x1.val = 2176 + x1.val; omega
    · show 0 + 1 * x2.val = x2.val; omega
  have e2 : fillK X (ix3 s ⟨2176 + x1.val, by omega⟩ x2) = FloatOps.ofBits .bf16 0x0000#16 := dif_neg (show ¬ 2176 + x1.val < 2176 by omega)
  refine Eq.trans ?_ ((congrArg (fillK X) e1).trans e2).symm
  rfl

theorem val_rows (X : Vec F S1x2176x1024 .f32) (s : Fin 4) (o : ℕ) (ho : o = 256 * s.val) (o' : Fin 3 → ℕ) (ho' : o' = ![s.val, 0, 0]) (in1 : ∀ a, ![0, 0, o] a + S1x2176x256.size a ≤ S1x2176x1024.size a)
    (in2 : ∀ a, o' a + S1x2176x256.size a ≤ S4x2304x256.size a) (x : S1x2176x256.Idx) :
    k0_pay23 (View.readAt (Elt F) arg4.view (Rect.unit (s := S1x2176x1024) ![0, 0, o] S1x2176x256.size in1).toLoadRect (harg4.unread X)) x
      = fillV X ((Rect.unit (s := S4x2304x256) o' S1x2176x256.size in2).emb x) := by
  subst ho ho'
  idx_vars x
  have e : View.readAt (Elt F) arg4.view (Rect.unit (s := S1x2176x1024) ![0, 0, 256 * s.val] S1x2176x256.size in1).toLoadRect (harg4.unread X) = fun z => X ((Rect.unit (s := S1x2176x1024) ![0, 0, 256 * s.val] S1x2176x256.size in1).toLoadRect.idx z) := funext fun z => harg4.readAt_unread X _ z
  rw [e]
  have e1 : ((Rect.unit (s := S4x2304x256) ![s.val, 0, 0] S1x2176x256.size in2).emb (ix3 x0 x1 x2)) = ix3 s ⟨x1.val, by omega⟩ x2 := by
    funext a; apply Fin.ext; fin_cases a
    · show s.val + 1 * x0.val = s.val; omega
    · show 0 + 1 * x1.val = x1.val; omega
    · show 0 + 1 * x2.val = x2.val; omega
  have e2 : fillV X (ix3 s ⟨x1.val, by omega⟩ x2) = FloatOps.truncf .bf16 bitsLt_bf16_f32 (X (ix3 0 x1 ⟨256 * s.val + x2.val, by omega⟩)) := dif_pos x1.isLt
  refine Eq.trans ?_ ((congrArg (fillV X) e1).trans e2).symm
  pointwise [k0_pay23]

theorem val_zero (X : Vec F S1x2176x1024 .f32) (s : Fin 4) (o' : Fin 3 → ℕ) (ho' : o' = ![s.val, 2176, 0])
    (in2 : ∀ a, o' a + S1x128x256.size a ≤ S4x2304x256.size a) (x : S1x128x256.Idx) :
    k0_pay24 (F := F) x = fillV X ((Rect.unit (s := S4x2304x256) o' S1x128x256.size in2).emb x) := by
  subst ho'
  idx_vars x
  have e1 : ((Rect.unit (s := S4x2304x256) ![s.val, 2176, 0] S1x128x256.size in2).emb (ix3 x0 x1 x2)) = ix3 s ⟨2176 + x1.val, by omega⟩ x2 := by
    funext a; apply Fin.ext; fin_cases a
    · show s.val + 1 * x0.val = s.val; omega
    · show 2176 + 1 * x1.val = 2176 + x1.val; omega
    · show 0 + 1 * x2.val = x2.val; omega
  have e2 : fillV X (ix3 s ⟨2176 + x1.val, by omega⟩ x2) = FloatOps.ofBits .bf16 0x0000#16 := dif_neg (show ¬ 2176 + x1.val < 2176 by omega)
  refine Eq.trans ?_ ((congrArg (fillV X) e1).trans e2).symm
  rfl

theorem fill_keys (X : Vec F S1x2176x1024 .f32) (f8 : Buf (Elt F) (arg8.view.loc (c : Thread nD τ))) :
    arg8.view.writes (Elt F) f8 (pieces8 arg3 harg3 X) = harg8.unread (fillK X) := by
  have hc : ∀ y, ∃ p ∈ pieces8 arg3 harg3 X, y ∈ p.1.set := View.cover_of_tiledBy (pieces8 arg3 harg3 X) S1x128x128.size (by sl_kernel_rfl)
  refine harg8.eq_unread ((View.read_writes_eq_canon arg8.view f8 (pieces8 arg3 harg3 X) hc).trans (funext fun y => View.canon_apply_of_pieces (fillK X) (pieces8 arg3 harg3 X) ?_ y (hc y)))
  unfold pieces8
  exact List.forall_mem_cons.mpr ⟨fun x => key_zero X 7 _ rfl inb_S8x2304x128_S1x128x128_7_2176_0 x, List.forall_mem_cons.mpr ⟨fun x => key_rows arg3 harg3 X 7 896 rfl _ rfl inb_S1x2176x1024_S1x2176x128_0_0_896 inb_S8x2304x128_S1x2176x128_7_0_0 x,
      List.forall_mem_cons.mpr ⟨fun x => key_zero X 6 _ rfl inb_S8x2304x128_S1x128x128_6_2176_0 x, List.forall_mem_cons.mpr ⟨fun x => key_rows arg3 harg3 X 6 768 rfl _ rfl inb_S1x2176x1024_S1x2176x128_0_0_768 inb_S8x2304x128_S1x2176x128_6_0_0 x,
      List.forall_mem_cons.mpr ⟨fun x => key_zero X 5 _ rfl inb_S8x2304x128_S1x128x128_5_2176_0 x, List.forall_mem_cons.mpr ⟨fun x => key_rows arg3 harg3 X 5 640 rfl _ rfl inb_S1x2176x1024_S1x2176x128_0_0_640 inb_S8x2304x128_S1x2176x128_5_0_0 x,
      List.forall_mem_cons.mpr ⟨fun x => key_zero X 4 _ rfl inb_S8x2304x128_S1x128x128_4_2176_0 x, List.forall_mem_cons.mpr ⟨fun x => key_rows arg3 harg3 X 4 512 rfl _ rfl inb_S1x2176x1024_S1x2176x128_0_0_512 inb_S8x2304x128_S1x2176x128_4_0_0 x,
      List.forall_mem_cons.mpr ⟨fun x => key_zero X 3 _ rfl inb_S8x2304x128_S1x128x128_3_2176_0 x, List.forall_mem_cons.mpr ⟨fun x => key_rows arg3 harg3 X 3 384 rfl _ rfl inb_S1x2176x1024_S1x2176x128_0_0_384 inb_S8x2304x128_S1x2176x128_3_0_0 x,
      List.forall_mem_cons.mpr ⟨fun x => key_zero X 2 _ rfl inb_S8x2304x128_S1x128x128_2_2176_0 x, List.forall_mem_cons.mpr ⟨fun x => key_rows arg3 harg3 X 2 256 rfl _ rfl inb_S1x2176x1024_S1x2176x128_0_0_256 inb_S8x2304x128_S1x2176x128_2_0_0 x,
      List.forall_mem_cons.mpr ⟨fun x => key_zero X 1 _ rfl inb_S8x2304x128_S1x128x128_1_2176_0 x, List.forall_mem_cons.mpr ⟨fun x => key_rows arg3 harg3 X 1 128 rfl _ rfl inb_S1x2176x1024_S1x2176x128_0_0_128 inb_S8x2304x128_S1x2176x128_1_0_0 x,
      List.forall_mem_cons.mpr ⟨fun x => key_zero X 0 _ rfl inb_S8x2304x128_S1x128x128_0_2176_0 x, List.forall_mem_cons.mpr ⟨fun x => key_rows arg3 harg3 X 0 0 rfl _ rfl inb_S1x2176x1024_S1x2176x128_0_0_0 inb_S8x2304x128_S1x2176x128_0_0_0 x,
      fun _ h => absurd h List.not_mem_nil⟩⟩⟩⟩⟩⟩⟩⟩⟩⟩⟩⟩⟩⟩⟩⟩

theorem fill_vals (X : Vec F S1x2176x1024 .f32) (f9 : Buf (Elt F) (arg9.view.loc (c : Thread nD τ))) :
    arg9.view.writes (Elt F) f9 (pieces9 arg4 harg4 X) = harg9.unread (fillV X) := by
  have hc : ∀ y, ∃ p ∈ pieces9 arg4 harg4 X, y ∈ p.1.set := View.cover_of_tiledBy (pieces9 arg4 harg4 X) S1x128x256.size (by sl_kernel_rfl)
  refine harg9.eq_unread ((View.read_writes_eq_canon arg9.view f9 (pieces9 arg4 harg4 X) hc).trans (funext fun y => View.canon_apply_of_pieces (fillV X) (pieces9 arg4 harg4 X) ?_ y (hc y)))
  unfold pieces9
  exact List.forall_mem_cons.mpr ⟨fun x => val_zero X 3 _ rfl inb_S4x2304x256_S1x128x256_3_2176_0 x, List.forall_mem_cons.mpr ⟨fun x => val_rows arg4 harg4 X 3 768 rfl _ rfl inb_S1x2176x1024_S1x2176x256_0_0_768 inb_S4x2304x256_S1x2176x256_3_0_0 x,
      List.forall_mem_cons.mpr ⟨fun x => val_zero X 2 _ rfl inb_S4x2304x256_S1x128x256_2_2176_0 x, List.forall_mem_cons.mpr ⟨fun x => val_rows arg4 harg4 X 2 512 rfl _ rfl inb_S1x2176x1024_S1x2176x256_0_0_512 inb_S4x2304x256_S1x2176x256_2_0_0 x,
      List.forall_mem_cons.mpr ⟨fun x => val_zero X 1 _ rfl inb_S4x2304x256_S1x128x256_1_2176_0 x, List.forall_mem_cons.mpr ⟨fun x => val_rows arg4 harg4 X 1 256 rfl _ rfl inb_S1x2176x1024_S1x2176x256_0_0_256 inb_S4x2304x256_S1x2176x256_1_0_0 x,
      List.forall_mem_cons.mpr ⟨fun x => val_zero X 0 _ rfl inb_S4x2304x256_S1x128x256_0_2176_0 x, List.forall_mem_cons.mpr ⟨fun x => val_rows arg4 harg4 X 0 0 rfl _ rfl inb_S1x2176x1024_S1x2176x256_0_0_0 inb_S4x2304x256_S1x2176x256_0_0_0 x,
      fun _ h => absurd h List.not_mem_nil⟩⟩⟩⟩⟩⟩⟩⟩
end

end Cert.KernelIdeal.Body

end
-- ==== Proof.Run.lean ====
module

public import proofs.«01_k».proof.Proof.FillVal
public import Idealize.ShloMosaic.Lib.Exec
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.Pipeline.Kit
public import Idealize.ShloMosaic.Lib.Pointwise
public import Idealize.ShloMosaic.Lib.WholeRead
public import Idealize.ShloMosaic.Lib.ValueLayout

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (i : grid0.Coords) (arg2 : Memref sig .tc .vmem S1x128x2048 .f32) (harg2 : arg2.IsWhole) (arg3 : Memref sig .tc .vmem S1x2176x1024 .f32) (harg3 : arg3.IsWhole) (arg4 : Memref sig .tc .vmem S1x2176x1024 .f32) (harg4 : arg4.IsWhole) (arg5 : Memref sig .tc .vmem S4x128 .f32) (harg5 : arg5.IsWhole) (arg6 : Memref sig .tc .vmem S1x256 .f32) (harg6 : arg6.IsWhole) (arg7 : Memref sig .tc .vmem S1x128x2048 .f32) (harg7 : arg7.IsWhole) (arg8 : Memref sig .tc .vmem S8x2304x128 .bf16) (harg8 : arg8.IsWhole) (arg9 : Memref sig .tc .vmem S4x2304x256 .bf16) (harg9 : arg9.IsWhole)

/-- Group 0 after its unmasked chunks. -/
def st0 (KB : Vec F S8x2304x128 .bf16) (VB : Vec F S4x2304x256 .bf16) (x0 : Vec F S1x128x2048 .f32) : St F :=
  steps KB VB 0 1 0 (k0_pay34 (View.readAt (Elt F) arg2.view (Rect.unit (s := S1x128x2048) ![0, 0, 0] S1x128x128.size inb_S1x128x2048_S1x128x128_0_0_0).toLoadRect (harg2.unread x0)) (View.readAt (Elt F) arg2.view (Rect.unit (s := S1x128x2048) ![0, 0, 256] S1x128x128.size inb_S1x128x2048_S1x128x128_0_0_256).toLoadRect (harg2.unread x0))) (k0_pay35 (View.readAt (Elt F) arg2.view (Rect.unit (s := S1x128x2048) ![0, 0, 128] S1x128x128.size inb_S1x128x2048_S1x128x128_0_0_128).toLoadRect (harg2.unread x0)) (View.readAt (Elt F) arg2.view (Rect.unit (s := S1x128x2048) ![0, 0, 384] S1x128x128.size inb_S1x128x2048_S1x128x128_0_0_384).toLoadRect (harg2.unread x0))) (k0_pay36 (Named.named κ "mask" 0xF149F2CA#32), k0_pay37, k0_pay38) (k0_t1_loop i).trips

/-- Group 1 after its unmasked chunks. -/
def st1 (KB : Vec F S8x2304x128 .bf16) (VB : Vec F S4x2304x256 .bf16) (x0 : Vec F S1x128x2048 .f32) : St F :=
  steps KB VB 2 3 1 (k0_pay58 (View.readAt (Elt F) arg2.view (Rect.unit (s := S1x128x2048) ![0, 0, 512] S1x128x128.size inb_S1x128x2048_S1x128x128_0_0_512).toLoadRect (harg2.unread x0)) (View.readAt (Elt F) arg2.view (Rect.unit (s := S1x128x2048) ![0, 0, 768] S1x128x128.size inb_S1x128x2048_S1x128x128_0_0_768).toLoadRect (harg2.unread x0))) (k0_pay59 (View.readAt (Elt F) arg2.view (Rect.unit (s := S1x128x2048) ![0, 0, 640] S1x128x128.size inb_S1x128x2048_S1x128x128_0_0_640).toLoadRect (harg2.unread x0)) (View.readAt (Elt F) arg2.view (Rect.unit (s := S1x128x2048) ![0, 0, 896] S1x128x128.size inb_S1x128x2048_S1x128x128_0_0_896).toLoadRect (harg2.unread x0))) (k0_pay60, k0_pay61, k0_pay62) (k0_t3_loop i).trips

/-- Group 2 after its unmasked chunks. -/
def st2 (KB : Vec F S8x2304x128 .bf16) (VB : Vec F S4x2304x256 .bf16) (x0 : Vec F S1x128x2048 .f32) : St F :=
  steps KB VB 4 5 2 (k0_pay81 (View.readAt (Elt F) arg2.view (Rect.unit (s := S1x128x2048) ![0, 0, 1024] S1x128x128.size inb_S1x128x2048_S1x128x128_0_0_1024).toLoadRect (harg2.unread x0)) (View.readAt (Elt F) arg2.view (Rect.unit (s := S1x128x2048) ![0, 0, 1280] S1x128x128.size inb_S1x128x2048_S1x128x128_0_0_1280).toLoadRect (harg2.unread x0))) (k0_pay83 (k0_pay82 (View.readAt (Elt F) arg2.view (Rect.unit (s := S1x128x2048) ![0, 0, 1152] S1x128x128.size inb_S1x128x2048_S1x128x128_0_0_1152).toLoadRect (harg2.unread x0))) (View.readAt (Elt F) arg2.view (Rect.unit (s := S1x128x2048) ![0, 0, 1408] S1x128x128.size inb_S1x128x2048_S1x128x128_0_0_1408).toLoadRect (harg2.unread x0))) (k0_pay84, k0_pay85, k0_pay86) (k0_t5_loop i).trips

/-- Group 3 after its unmasked chunks. -/
def st3 (KB : Vec F S8x2304x128 .bf16) (VB : Vec F S4x2304x256 .bf16) (x0 : Vec F S1x128x2048 .f32) : St F :=
  steps KB VB 6 7 3 (k0_pay106 (View.readAt (Elt F) arg2.view (Rect.unit (s := S1x128x2048) ![0, 0, 1536] S1x128x128.size inb_S1x128x2048_S1x128x128_0_0_1536).toLoadRect (harg2.unread x0)) (View.readAt (Elt F) arg2.view (Rect.unit (s := S1x128x2048) ![0, 0, 1792] S1x128x128.size inb_S1x128x2048_S1x128x128_0_0_1792).toLoadRect (harg2.unread x0))) (k0_pay108 (k0_pay107 (View.readAt (Elt F) arg2.view (Rect.unit (s := S1x128x2048) ![0, 0, 1664] S1x128x128.size inb_S1x128x2048_S1x128x128_0_0_1664).toLoadRect (harg2.unread x0))) (View.readAt (Elt F) arg2.view (Rect.unit (s := S1x128x2048) ![0, 0, 1920] S1x128x128.size inb_S1x128x2048_S1x128x128_0_0_1920).toLoadRect (harg2.unread x0))) (k0_pay109, k0_pay110, k0_pay111) (k0_t7_loop i).trips

/-- The eight heads' blocks, last stored first, over the last chunk's keys and values. -/
def pieces7 (KB : Vec F S8x2304x128 .bf16) (VB : Vec F S4x2304x256 .bf16) (x0 : Vec F S1x128x2048 .f32) (x3 : Vec F S4x128 .f32) (x4 : Vec F S1x256 .f32)
    (k0 k1 k2 k3 k4 k5 k6 k7 : Vec F S256x128 .bf16) (w0 w1 w2 w3 : Vec F S256x256 .bf16) : List (View.Piece (Elt F) S1x128x2048 .f32) :=
  [⟨Rect.unit (s := S1x128x2048) ![0, 0, 1792] S1x128x256.size inb_S1x128x2048_S1x128x256_0_0_1792, k0_pay2 (k0_pay125 (k0_pay33 (View.readAt (Elt F) arg5.view (Rect.unit (s := S4x128) ![0, 0] S4x128.size inb_S4x128_S4x128_0_0).toLoadRect (harg5.unread x3))) (Scalar.muli (BitVec.ofNat 32 (i 1).val) 128#32) (st3 i arg2 harg2 KB VB x0).1 (st3 i arg2 harg2 KB VB x0).2.1 (st3 i arg2 harg2 KB VB x0).2.2 (Scalar.muli (Scalar.subi (Scalar.shrui (Scalar.addi (BitVec.ofNat 32 (i 1).val) 2#32) 1#32) 1#32) 256#32) (k0_pay124 (k0_pay106 (View.readAt (Elt F) arg2.view (Rect.unit (s := S1x128x2048) ![0, 0, 1536] S1x128x128.size inb_S1x128x2048_S1x128x128_0_0_1536).toLoadRect (harg2.unread x0)) (View.readAt (Elt F) arg2.view (Rect.unit (s := S1x128x2048) ![0, 0, 1792] S1x128x128.size inb_S1x128x2048_S1x128x128_0_0_1792).toLoadRect (harg2.unread x0))) (k0_pay107 (View.readAt (Elt F) arg2.view (Rect.unit (s := S1x128x2048) ![0, 0, 1664] S1x128x128.size inb_S1x128x2048_S1x128x128_0_0_1664).toLoadRect (harg2.unread x0))) (View.readAt (Elt F) arg2.view (Rect.unit (s := S1x128x2048) ![0, 0, 1920] S1x128x128.size inb_S1x128x2048_S1x128x128_0_0_1920).toLoadRect (harg2.unread x0)) k6 k7) (iota .tc S128x256 32 [1] iota_S128x256_d1_w32) w3) (View.readAt (Elt F) arg6.view (Rect.unit (s := S1x256) ![0, 0] S1x256.size inb_S1x256_S1x256_0_0).toLoadRect (harg6.unread x4))⟩,
   ⟨Rect.unit (s := S1x128x2048) ![0, 0, 1536] S1x128x256.size inb_S1x128x2048_S1x128x256_0_0_1536, k0_pay1 (k0_pay126 (k0_pay33 (View.readAt (Elt F) arg5.view (Rect.unit (s := S4x128) ![0, 0] S4x128.size inb_S4x128_S4x128_0_0).toLoadRect (harg5.unread x3))) (Scalar.muli (BitVec.ofNat 32 (i 1).val) 128#32) (st3 i arg2 harg2 KB VB x0).1 (st3 i arg2 harg2 KB VB x0).2.1 (st3 i arg2 harg2 KB VB x0).2.2 (Scalar.muli (Scalar.subi (Scalar.shrui (Scalar.addi (BitVec.ofNat 32 (i 1).val) 2#32) 1#32) 1#32) 256#32) (k0_pay124 (k0_pay106 (View.readAt (Elt F) arg2.view (Rect.unit (s := S1x128x2048) ![0, 0, 1536] S1x128x128.size inb_S1x128x2048_S1x128x128_0_0_1536).toLoadRect (harg2.unread x0)) (View.readAt (Elt F) arg2.view (Rect.unit (s := S1x128x2048) ![0, 0, 1792] S1x128x128.size inb_S1x128x2048_S1x128x128_0_0_1792).toLoadRect (harg2.unread x0))) (k0_pay107 (View.readAt (Elt F) arg2.view (Rect.unit (s := S1x128x2048) ![0, 0, 1664] S1x128x128.size inb_S1x128x2048_S1x128x128_0_0_1664).toLoadRect (harg2.unread x0))) (View.readAt (Elt F) arg2.view (Rect.unit (s := S1x128x2048) ![0, 0, 1920] S1x128x128.size inb_S1x128x2048_S1x128x128_0_0_1920).toLoadRect (harg2.unread x0)) k6 k7) (iota .tc S128x256 32 [1] iota_S128x256_d1_w32) w3) (View.readAt (Elt F) arg6.view (Rect.unit (s := S1x256) ![0, 0] S1x256.size inb_S1x256_S1x256_0_0).toLoadRect (harg6.unread x4))⟩,
   ⟨Rect.unit (s := S1x128x2048) ![0, 0, 1280] S1x128x256.size inb_S1x128x2048_S1x128x256_0_0_1280, k0_pay105 (k0_pay101 (k0_pay33 (View.readAt (Elt F) arg5.view (Rect.unit (s := S4x128) ![0, 0] S4x128.size inb_S4x128_S4x128_0_0).toLoadRect (harg5.unread x3))) (Scalar.muli (BitVec.ofNat 32 (i 1).val) 128#32) (st2 i arg2 harg2 KB VB x0).1 (st2 i arg2 harg2 KB VB x0).2.1 (st2 i arg2 harg2 KB VB x0).2.2 (k0_pay99 (k0_pay81 (View.readAt (Elt F) arg2.view (Rect.unit (s := S1x128x2048) ![0, 0, 1024] S1x128x128.size inb_S1x128x2048_S1x128x128_0_0_1024).toLoadRect (harg2.unread x0)) (View.readAt (Elt F) arg2.view (Rect.unit (s := S1x128x2048) ![0, 0, 1280] S1x128x128.size inb_S1x128x2048_S1x128x128_0_0_1280).toLoadRect (harg2.unread x0))) (k0_pay82 (View.readAt (Elt F) arg2.view (Rect.unit (s := S1x128x2048) ![0, 0, 1152] S1x128x128.size inb_S1x128x2048_S1x128x128_0_0_1152).toLoadRect (harg2.unread x0))) (View.readAt (Elt F) arg2.view (Rect.unit (s := S1x128x2048) ![0, 0, 1408] S1x128x128.size inb_S1x128x2048_S1x128x128_0_0_1408).toLoadRect (harg2.unread x0)) k4 k5) (k0_pay100 (Scalar.shrui (Scalar.addi (BitVec.ofNat 32 (i 1).val) 2#32) 1#32)) (iota .tc S128x256 32 [0] iota_S128x256_d0_w32) w2) (View.readAt (Elt F) arg6.view (Rect.unit (s := S1x256) ![0, 0] S1x256.size inb_S1x256_S1x256_0_0).toLoadRect (harg6.unread x4))⟩,
   ⟨Rect.unit (s := S1x128x2048) ![0, 0, 1024] S1x128x256.size inb_S1x128x2048_S1x128x256_0_0_1024, k0_pay104 (k0_pay102 (k0_pay33 (View.readAt (Elt F) arg5.view (Rect.unit (s := S4x128) ![0, 0] S4x128.size inb_S4x128_S4x128_0_0).toLoadRect (harg5.unread x3))) (Scalar.muli (BitVec.ofNat 32 (i 1).val) 128#32) (st2 i arg2 harg2 KB VB x0).1 (st2 i arg2 harg2 KB VB x0).2.1 (st2 i arg2 harg2 KB VB x0).2.2 (k0_pay99 (k0_pay81 (View.readAt (Elt F) arg2.view (Rect.unit (s := S1x128x2048) ![0, 0, 1024] S1x128x128.size inb_S1x128x2048_S1x128x128_0_0_1024).toLoadRect (harg2.unread x0)) (View.readAt (Elt F) arg2.view (Rect.unit (s := S1x128x2048) ![0, 0, 1280] S1x128x128.size inb_S1x128x2048_S1x128x128_0_0_1280).toLoadRect (harg2.unread x0))) (k0_pay82 (View.readAt (Elt F) arg2.view (Rect.unit (s := S1x128x2048) ![0, 0, 1152] S1x128x128.size inb_S1x128x2048_S1x128x128_0_0_1152).toLoadRect (harg2.unread x0))) (View.readAt (Elt F) arg2.view (Rect.unit (s := S1x128x2048) ![0, 0, 1408] S1x128x128.size inb_S1x128x2048_S1x128x128_0_0_1408).toLoadRect (harg2.unread x0)) k4 k5) (k0_pay100 (Scalar.shrui (Scalar.addi (BitVec.ofNat 32 (i 1).val) 2#32) 1#32)) (iota .tc S128x256 32 [0] iota_S128x256_d0_w32) w2) (k0_pay103 (View.readAt (Elt F) arg6.view (Rect.unit (s := S1x256) ![0, 0] S1x256.size inb_S1x256_S1x256_0_0).toLoadRect (harg6.unread x4)))⟩,
   ⟨Rect.unit (s := S1x128x2048) ![0, 0, 768] S1x128x256.size inb_S1x128x2048_S1x128x256_0_0_768, k0_pay80 (k0_pay77 (k0_pay33 (View.readAt (Elt F) arg5.view (Rect.unit (s := S4x128) ![0, 0] S4x128.size inb_S4x128_S4x128_0_0).toLoadRect (harg5.unread x3))) (st1 i arg2 harg2 KB VB x0).1 (st1 i arg2 harg2 KB VB x0).2.1 (st1 i arg2 harg2 KB VB x0).2.2 (k0_pay75 (k0_pay58 (View.readAt (Elt F) arg2.view (Rect.unit (s := S1x128x2048) ![0, 0, 512] S1x128x128.size inb_S1x128x2048_S1x128x128_0_0_512).toLoadRect (harg2.unread x0)) (View.readAt (Elt F) arg2.view (Rect.unit (s := S1x128x2048) ![0, 0, 768] S1x128x128.size inb_S1x128x2048_S1x128x128_0_0_768).toLoadRect (harg2.unread x0))) (k0_pay59 (View.readAt (Elt F) arg2.view (Rect.unit (s := S1x128x2048) ![0, 0, 640] S1x128x128.size inb_S1x128x2048_S1x128x128_0_0_640).toLoadRect (harg2.unread x0)) (View.readAt (Elt F) arg2.view (Rect.unit (s := S1x128x2048) ![0, 0, 896] S1x128x128.size inb_S1x128x2048_S1x128x128_0_0_896).toLoadRect (harg2.unread x0))) k2 k3) (k0_pay76 (BitVec.ofNat 32 (i 1).val) (Scalar.shrui (Scalar.addi (BitVec.ofNat 32 (i 1).val) 2#32) 1#32)) w1) (View.readAt (Elt F) arg6.view (Rect.unit (s := S1x256) ![0, 0] S1x256.size inb_S1x256_S1x256_0_0).toLoadRect (harg6.unread x4))⟩,
   ⟨Rect.unit (s := S1x128x2048) ![0, 0, 512] S1x128x256.size inb_S1x128x2048_S1x128x256_0_0_512, k0_pay79 (k0_pay78 (k0_pay33 (View.readAt (Elt F) arg5.view (Rect.unit (s := S4x128) ![0, 0] S4x128.size inb_S4x128_S4x128_0_0).toLoadRect (harg5.unread x3))) (st1 i arg2 harg2 KB VB x0).1 (st1 i arg2 harg2 KB VB x0).2.1 (st1 i arg2 harg2 KB VB x0).2.2 (k0_pay75 (k0_pay58 (View.readAt (Elt F) arg2.view (Rect.unit (s := S1x128x2048) ![0, 0, 512] S1x128x128.size inb_S1x128x2048_S1x128x128_0_0_512).toLoadRect (harg2.unread x0)) (View.readAt (Elt F) arg2.view (Rect.unit (s := S1x128x2048) ![0, 0, 768] S1x128x128.size inb_S1x128x2048_S1x128x128_0_0_768).toLoadRect (harg2.unread x0))) (k0_pay59 (View.readAt (Elt F) arg2.view (Rect.unit (s := S1x128x2048) ![0, 0, 640] S1x128x128.size inb_S1x128x2048_S1x128x128_0_0_640).toLoadRect (harg2.unread x0)) (View.readAt (Elt F) arg2.view (Rect.unit (s := S1x128x2048) ![0, 0, 896] S1x128x128.size inb_S1x128x2048_S1x128x128_0_0_896).toLoadRect (harg2.unread x0))) k2 k3) (k0_pay76 (BitVec.ofNat 32 (i 1).val) (Scalar.shrui (Scalar.addi (BitVec.ofNat 32 (i 1).val) 2#32) 1#32)) w1 (View.readAt (Elt F) arg6.view (Rect.unit (s := S1x256) ![0, 0] S1x256.size inb_S1x256_S1x256_0_0).toLoadRect (harg6.unread x4))) (Scalar.ofBits .f32 0x3F24FD5C#32)⟩,
   ⟨Rect.unit (s := S1x128x2048) ![0, 0, 256] S1x128x256.size inb_S1x128x2048_S1x128x256_0_0_256, k0_pay57 (k0_pay54 (k0_pay33 (View.readAt (Elt F) arg5.view (Rect.unit (s := S4x128) ![0, 0] S4x128.size inb_S4x128_S4x128_0_0).toLoadRect (harg5.unread x3))) (st0 i arg2 harg2 KB VB x0).1 (st0 i arg2 harg2 KB VB x0).2.1 (st0 i arg2 harg2 KB VB x0).2.2 (k0_pay51 (k0_pay34 (View.readAt (Elt F) arg2.view (Rect.unit (s := S1x128x2048) ![0, 0, 0] S1x128x128.size inb_S1x128x2048_S1x128x128_0_0_0).toLoadRect (harg2.unread x0)) (View.readAt (Elt F) arg2.view (Rect.unit (s := S1x128x2048) ![0, 0, 256] S1x128x128.size inb_S1x128x2048_S1x128x128_0_0_256).toLoadRect (harg2.unread x0))) (k0_pay35 (View.readAt (Elt F) arg2.view (Rect.unit (s := S1x128x2048) ![0, 0, 128] S1x128x128.size inb_S1x128x2048_S1x128x128_0_0_128).toLoadRect (harg2.unread x0)) (View.readAt (Elt F) arg2.view (Rect.unit (s := S1x128x2048) ![0, 0, 384] S1x128x128.size inb_S1x128x2048_S1x128x128_0_0_384).toLoadRect (harg2.unread x0))) k0 k1) (k0_pay52 (Scalar.shrui (Scalar.addi (BitVec.ofNat 32 (i 1).val) 2#32) 1#32) (Scalar.muli (BitVec.ofNat 32 (i 1).val) 128#32)) (k0_pay53 (F := F)) w0) (View.readAt (Elt F) arg6.view (Rect.unit (s := S1x256) ![0, 0] S1x256.size inb_S1x256_S1x256_0_0).toLoadRect (harg6.unread x4))⟩,
   ⟨Rect.unit (s := S1x128x2048) ![0, 0, 0] S1x128x256.size inb_S1x128x2048_S1x128x256_0_0_0, k0_pay56 (k0_pay55 (k0_pay33 (View.readAt (Elt F) arg5.view (Rect.unit (s := S4x128) ![0, 0] S4x128.size inb_S4x128_S4x128_0_0).toLoadRect (harg5.unread x3))) (st0 i arg2 harg2 KB VB x0).1 (st0 i arg2 harg2 KB VB x0).2.1 (st0 i arg2 harg2 KB VB x0).2.2 (k0_pay51 (k0_pay34 (View.readAt (Elt F) arg2.view (Rect.unit (s := S1x128x2048) ![0, 0, 0] S1x128x128.size inb_S1x128x2048_S1x128x128_0_0_0).toLoadRect (harg2.unread x0)) (View.readAt (Elt F) arg2.view (Rect.unit (s := S1x128x2048) ![0, 0, 256] S1x128x128.size inb_S1x128x2048_S1x128x128_0_0_256).toLoadRect (harg2.unread x0))) (k0_pay35 (View.readAt (Elt F) arg2.view (Rect.unit (s := S1x128x2048) ![0, 0, 128] S1x128x128.size inb_S1x128x2048_S1x128x128_0_0_128).toLoadRect (harg2.unread x0)) (View.readAt (Elt F) arg2.view (Rect.unit (s := S1x128x2048) ![0, 0, 384] S1x128x128.size inb_S1x128x2048_S1x128x128_0_0_384).toLoadRect (harg2.unread x0))) k0 k1) (k0_pay52 (Scalar.shrui (Scalar.addi (BitVec.ofNat 32 (i 1).val) 2#32) 1#32) (Scalar.muli (BitVec.ofNat 32 (i 1).val) 128#32)) (k0_pay53 (F := F)) w0 (View.readAt (Elt F) arg6.view (Rect.unit (s := S1x256) ![0, 0] S1x256.size inb_S1x256_S1x256_0_0).toLoadRect (harg6.unread x4)))⟩]

theorem off5_eq : ∀ i : grid0.Coords, k0_off5 i = ![256 * ((i 1).val / 2), 0] ∧ k0_off6 i = ![256 * ((i 1).val / 2), 0] := by decide +kernel

/-- Where the last chunk's rows lie in a slot. -/
abbrev rectK (o3 : Fin 3 → ℕ) (inb3 : ∀ a, o3 a + S1x2304x128.size a ≤ S8x2304x128.size a) : LoadRect S8x2304x128 :=
  (Rect.unit (s := S8x2304x128) o3 S1x2304x128.size inb3).withinL
        ((Rect.unit (s := S2304x128) (k0_off5 i) S256x128.size (k0_off5_inb i)).consLift ![1, 2304, 128] rfl (by decide)).toLoadRect (fun _ => rfl)

theorem numelK (o3 : Fin 3 → ℕ) (inb3 : ∀ a, o3 a + S1x2304x128.size a ≤ S8x2304x128.size a) :
    (Rect.unit (s := S2304x128) (k0_off5 i) S256x128.size (k0_off5_inb i)).shape.numel = (rectK i o3 inb3).shape.numel :=
  show S256x128.numel = (⟨3, ![1, 256, 128]⟩ : Shape).numel from by decide

/-- The last chunk as the program loads it. -/
def rawK (KB : Vec F S8x2304x128 .bf16) (o3 : Fin 3 → ℕ) (inb3 : ∀ a, o3 a + S1x2304x128.size a ≤ S8x2304x128.size a) : Vec F S256x128 .bf16 :=
  LoadRect.valAlong (lr := (Rect.unit (s := S2304x128) (k0_off5 i) S256x128.size (k0_off5_inb i)).toLoadRect) (numelK i o3 inb3)
    (View.readAt (Elt F) arg8.view (rectK i o3 inb3) (harg8.unread KB))

/-- Where the last chunk's rows lie in a slot. -/
abbrev rectV (o3 : Fin 3 → ℕ) (inb3 : ∀ a, o3 a + S1x2304x256.size a ≤ S4x2304x256.size a) : LoadRect S4x2304x256 :=
  (Rect.unit (s := S4x2304x256) o3 S1x2304x256.size inb3).withinL
        ((Rect.unit (s := S2304x256) (k0_off6 i) S256x256.size (k0_off6_inb i)).consLift ![1, 2304, 256] rfl (by decide)).toLoadRect (fun _ => rfl)

theorem numelV (o3 : Fin 3 → ℕ) (inb3 : ∀ a, o3 a + S1x2304x256.size a ≤ S4x2304x256.size a) :
    (Rect.unit (s := S2304x256) (k0_off6 i) S256x256.size (k0_off6_inb i)).shape.numel = (rectV i o3 inb3).shape.numel :=
  show S256x256.numel = (⟨3, ![1, 256, 256]⟩ : Shape).numel from by decide

/-- The last chunk as the program loads it. -/
def rawV (VB : Vec F S4x2304x256 .bf16) (o3 : Fin 3 → ℕ) (inb3 : ∀ a, o3 a + S1x2304x256.size a ≤ S4x2304x256.size a) : Vec F S256x256 .bf16 :=
  LoadRect.valAlong (lr := (Rect.unit (s := S2304x256) (k0_off6 i) S256x256.size (k0_off6_inb i)).toLoadRect) (numelV i o3 inb3)
    (View.readAt (Elt F) arg9.view (rectV i o3 inb3) (harg9.unread VB))

omit [FloatOps F] [Named F] in
theorem rawK_eq (KB : Vec F S8x2304x128 .bf16) (s : Fin 8) (o3 : Fin 3 → ℕ) (ho : o3 = ![s.val, 0, 0]) (inb3 : ∀ a, o3 a + S1x2304x128.size a ≤ S8x2304x128.size a) :
    rawK i arg8 harg8 KB o3 inb3 = keys KB s ((i 1).val / 2) :=
  load_keys arg8 harg8 KB s _ (half_lt i) (k0_off5 i) (off5_eq i).1 o3 ho inb3 (k0_off5_inb i) rfl (by decide) (fun _ => rfl) (numelK i o3 inb3)

omit [FloatOps F] [Named F] in
theorem rawV_eq (VB : Vec F S4x2304x256 .bf16) (s : Fin 4) (o3 : Fin 3 → ℕ) (ho : o3 = ![s.val, 0, 0]) (inb3 : ∀ a, o3 a + S1x2304x256.size a ≤ S4x2304x256.size a) :
    rawV i arg9 harg9 VB o3 inb3 = vals VB s ((i 1).val / 2) :=
  load_vals arg9 harg9 VB s _ (half_lt i) (k0_off6 i) (off5_eq i).2 o3 ho inb3 (k0_off6_inb i) rfl (by decide) (fun _ => rfl) (numelV i o3 inb3)

/-- The eight heads' blocks after the whole body. -/
def outPieces (KB : Vec F S8x2304x128 .bf16) (VB : Vec F S4x2304x256 .bf16) (x0 : Vec F S1x128x2048 .f32) (x3 : Vec F S4x128 .f32) (x4 : Vec F S1x256 .f32) :
    List (View.Piece (Elt F) S1x128x2048 .f32) :=
  pieces7 i arg2 harg2 arg5 harg5 arg6 harg6 KB VB x0 x3 x4
    (keys KB 0 ((i 1).val / 2)) (keys KB 1 ((i 1).val / 2)) (keys KB 2 ((i 1).val / 2)) (keys KB 3 ((i 1).val / 2)) (keys KB 4 ((i 1).val / 2)) (keys KB 5 ((i 1).val / 2)) (keys KB 6 ((i 1).val / 2)) (keys KB 7 ((i 1).val / 2)) (vals VB 0 ((i 1).val / 2)) (vals VB 1 ((i 1).val / 2)) (vals VB 2 ((i 1).val / 2)) (vals VB 3 ((i 1).val / 2))

theorem outPieces_raw (KB : Vec F S8x2304x128 .bf16) (VB : Vec F S4x2304x256 .bf16) (x0 : Vec F S1x128x2048 .f32) (x3 : Vec F S4x128 .f32) (x4 : Vec F S1x256 .f32) :
    outPieces i arg2 harg2 arg5 harg5 arg6 harg6 KB VB x0 x3 x4 = pieces7 i arg2 harg2 arg5 harg5 arg6 harg6 KB VB x0 x3 x4
      (rawK i arg8 harg8 KB ![0, 0, 0] inb_S8x2304x128_S1x2304x128_0_0_0) (rawK i arg8 harg8 KB ![1, 0, 0] inb_S8x2304x128_S1x2304x128_1_0_0) (rawK i arg8 harg8 KB ![2, 0, 0] inb_S8x2304x128_S1x2304x128_2_0_0) (rawK i arg8 harg8 KB ![3, 0, 0] inb_S8x2304x128_S1x2304x128_3_0_0) (rawK i arg8 harg8 KB ![4, 0, 0] inb_S8x2304x128_S1x2304x128_4_0_0) (rawK i arg8 harg8 KB ![5, 0, 0] inb_S8x2304x128_S1x2304x128_5_0_0) (rawK i arg8 harg8 KB ![6, 0, 0] inb_S8x2304x128_S1x2304x128_6_0_0) (rawK i arg8 harg8 KB ![7, 0, 0] inb_S8x2304x128_S1x2304x128_7_0_0)
      (rawV i arg9 harg9 VB ![0, 0, 0] inb_S4x2304x256_S1x2304x256_0_0_0) (rawV i arg9 harg9 VB ![1, 0, 0] inb_S4x2304x256_S1x2304x256_1_0_0) (rawV i arg9 harg9 VB ![2, 0, 0] inb_S4x2304x256_S1x2304x256_2_0_0) (rawV i arg9 harg9 VB ![3, 0, 0] inb_S4x2304x256_S1x2304x256_3_0_0) := by
  unfold outPieces
  rw [rawK_eq i arg8 harg8 KB 0 ![0, 0, 0] rfl, rawK_eq i arg8 harg8 KB 1 ![1, 0, 0] rfl, rawK_eq i arg8 harg8 KB 2 ![2, 0, 0] rfl, rawK_eq i arg8 harg8 KB 3 ![3, 0, 0] rfl, rawK_eq i arg8 harg8 KB 4 ![4, 0, 0] rfl, rawK_eq i arg8 harg8 KB 5 ![5, 0, 0] rfl, rawK_eq i arg8 harg8 KB 6 ![6, 0, 0] rfl, rawK_eq i arg8 harg8 KB 7 ![7, 0, 0] rfl, rawV_eq i arg9 harg9 VB 0 ![0, 0, 0] rfl, rawV_eq i arg9 harg9 VB 1 ![1, 0, 0] rfl, rawV_eq i arg9 harg9 VB 2 ![2, 0, 0] rfl, rawV_eq i arg9 harg9 VB 3 ![3, 0, 0] rfl]

/-- The keys' scratch once the first block of queries of a sequence has copied them. -/
def fillIfK (KB : Vec F S8x2304x128 .bf16) (x1 : Vec F S1x2176x1024 .f32) : Vec F S8x2304x128 .bf16 := if (i 1).val = 0 then fillK x1 else KB

/-- The values' scratch likewise. -/
def fillIfV (VB : Vec F S4x2304x256 .bf16) (x2 : Vec F S1x2176x1024 .f32) : Vec F S4x2304x256 .bf16 := if (i 1).val = 0 then fillV x2 else VB

theorem cond_iff : ∀ i : grid0.Coords, Scalar.cmpi .ne (Scalar.extui (Scalar.cmpi .eq (BitVec.ofNat 32 (i 1).val) 0#32) : BitVec 32) 0#32 = 1#1 ↔ (i 1).val = 0 := by decide +kernel

/-- What follows the copy up to the first loop. -/
noncomputable def tail7 : Prog (TpuEff nD τ sig (Elt F) Λ₀ .tc) (Σ' (arg1 : BitVec 32) (v18 : FVec F S1x1 .f32) (v20 : BitVec 32) (v26 : FVec F S256x128 .bf16) (v32 : FVec F S256x128 .bf16) (v33 : BitVec 32), F .f32) := do
  let arg1 : BitVec 32 := BitVec.ofNat 32 (i 1).val
  let v3 : Vec F S4x128 .f32 ← Prog.lift (.load arg5 (Rect.unit (s := S4x128) ![0, 0] S4x128.size inb_S4x128_S4x128_0_0).toLoadRect (View.loadsAt_vmem h_S4x128))
  let v19 : BitVec 32 := Scalar.addi arg1 2#32
  let v20 : BitVec 32 := Scalar.shrui v19 1#32
  let v21 : Vec F S1x128x128 .f32 ← Prog.lift (.load arg2 (Rect.unit (s := S1x128x2048) ![0, 0, 0] S1x128x128.size inb_S1x128x2048_S1x128x128_0_0_0).toLoadRect (View.loadsAt_vmem h_S1x128x128))
  let v23 : Vec F S1x128x128 .f32 ← Prog.lift (.load arg2 (Rect.unit (s := S1x128x2048) ![0, 0, 256] S1x128x128.size inb_S1x128x2048_S1x128x128_0_0_256).toLoadRect (View.loadsAt_vmem h_S1x128x128))
  let v27 : Vec F S1x128x128 .f32 ← Prog.lift (.load arg2 (Rect.unit (s := S1x128x2048) ![0, 0, 128] S1x128x128.size inb_S1x128x2048_S1x128x128_0_0_128).toLoadRect (View.loadsAt_vmem h_S1x128x128))
  let v29 : Vec F S1x128x128 .f32 ← Prog.lift (.load arg2 (Rect.unit (s := S1x128x2048) ![0, 0, 384] S1x128x128.size inb_S1x128x2048_S1x128x128_0_0_384).toLoadRect (View.loadsAt_vmem h_S1x128x128))
  let v33 : BitVec 32 := Scalar.muli arg1 128#32
  have cst_13 : F .f32 := Named.named κ "mask" 0xF149F2CA#32
  pure ⟨arg1, k0_pay33 v3, v20, k0_pay34 v21 v23, k0_pay35 v27 v29, v33, cst_13⟩

theorem part7_eq : k0_part7_skel (F := F) i arg2 harg2 arg3 harg3 arg4 harg4 arg5 harg5 arg6 harg6 arg7 harg7 arg8 harg8 arg9 harg9 =
    (if _h : Scalar.cmpi .ne (Scalar.extui (Scalar.cmpi .eq (BitVec.ofNat 32 (i 1).val) 0#32) : BitVec 32) 0#32 = 1#1 then fillProg (F := F) i arg2 harg2 arg3 harg3 arg4 harg4 arg5 harg5 arg6 harg6 arg7 harg7 arg8 harg8 arg9 harg9 else pure ⟨⟩)
      >>= fun _ => tail7 (F := F) i arg2 arg5 := by
  unfold k0_part7_skel
  by_cases h : Scalar.cmpi .ne (Scalar.extui (Scalar.cmpi .eq (BitVec.ofNat 32 (i 1).val) 0#32) : BitVec 32) 0#32 = 1#1
  · dsimp only
    rw [dif_pos h, dif_pos h]
    unfold fillProg
    rw [bind_assoc]
    congr 1
  · dsimp only
    rw [dif_neg h, dif_neg h, pure_bind]
    unfold tail7
    rfl

/-- The copy under its condition. -/
theorem fillIf (KB : Vec F S8x2304x128 .bf16) (VB : Vec F S4x2304x256 .bf16) (x1 x2 : Vec F S1x2176x1024 .f32) (E : Set ℕ) :
        (iprop((arg3.view.loc (c : Thread nD τ) ↦[arg3.view.set]{fullShare} harg3.unread x1) ∗ (arg4.view.loc (c : Thread nD τ) ↦[arg4.view.set]{fullShare} harg4.unread x2) ∗ held c arg8 harg8 arg9 harg9 KB VB) : sProp 𝕄)
          ⊢ wp frame (wpE (defs₀ (F := F)) Variants.none (c : Thread nD τ) none) E
           (if _h : Scalar.cmpi .ne (Scalar.extui (Scalar.cmpi .eq (BitVec.ofNat 32 (i 1).val) 0#32) : BitVec 32) 0#32 = 1#1 then fillProg (F := F) i arg2 harg2 arg3 harg3 arg4 harg4 arg5 harg5 arg6 harg6 arg7 harg7 arg8 harg8 arg9 harg9 else pure ⟨⟩)
           (fun _ => iprop((arg3.view.loc (c : Thread nD τ) ↦[arg3.view.set]{fullShare} harg3.unread x1) ∗ (arg4.view.loc (c : Thread nD τ) ↦[arg4.view.set]{fullShare} harg4.unread x2) ∗ held c arg8 harg8 arg9 harg9 (fillIfK i KB x1) (fillIfV i VB x2))) := by
  by_cases h : (i 1).val = 0
  · rw [dif_pos ((cond_iff i).2 h)]
    unfold fillIfK fillIfV
    rw [if_pos h, if_pos h]
    iintro ⟨H3, H4, H8, H9⟩
    iapply (wp_wand_r frame (wpE (defs₀ (F := F)) Variants.none (c : Thread nD τ) none) E)
    isplitl [H3 H4 H8 H9]
    · iapply (fillRun c i arg2 harg2 arg3 harg3 arg4 harg4 arg5 harg5 arg6 harg6 arg7 harg7 arg8 harg8 arg9 harg9 x1 x2 E (harg8.unread KB) (harg9.unread VB))
      isplitl [H3]; · iexact H3
      isplitl [H4]; · iexact H4
      isplitl [H8]; · iexact H8
      iexact H9
    rw [fill_keys c, fill_vals c]
    iintro %u H
    iexact H
  · rw [dif_neg (fun hh => h ((cond_iff i).1 hh))]
    unfold fillIfK fillIfV
    rw [if_neg h, if_neg h]
    iintro H
    sl_step
    iexact H

set_option sl_exec.squeezeSlice true in
/-- One block of queries: the copy if it is the sequence's first, then the eight heads' blocks. -/
theorem bodyRun (KB : Vec F S8x2304x128 .bf16) (VB : Vec F S4x2304x256 .bf16) (x0 : Vec F S1x128x2048 .f32) (x1 x2 : Vec F S1x2176x1024 .f32) (x3 : Vec F S4x128 .f32) (x4 : Vec F S1x256 .f32)
    (E : Set ℕ) (f7 : Buf (Elt F) (arg7.view.loc (c : Thread nD τ))) :
        (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2)
            ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} f7) ∗ held c arg8 harg8 arg9 harg9 KB VB) : sProp 𝕄)
          ⊢ wp frame (wpE (defs₀ (F := F)) Variants.none (c : Thread nD τ) none) E (cc0_diff_attn (F := F) i arg2 harg2 arg3 harg3 arg4 harg4 arg5 harg5 arg6 harg6 arg7 harg7 arg8 harg8 arg9 harg9)
           (fun _ => iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2)
            ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} arg7.view.writes (Elt F) f7 (outPieces i arg2 harg2 arg5 harg5 arg6 harg6 (fillIfK i KB x1) (fillIfV i VB x2) x0 x3 x4))
             ∗ held c arg8 harg8 arg9 harg9 (fillIfK i KB x1) (fillIfV i VB x2))) := by
  rw [cc0_diff_attn_eq_skeleton]
  unfold cc0_diff_attn_skel
  rw [wp_bind, k0_part7_eq_skeleton, part7_eq, wp_bind]
  iintro ⟨H2, H3, H4, H5, H6, H7, H8, H9⟩
  iapply (wp_wand_r frame (wpE (defs₀ (F := F)) Variants.none (c : Thread nD τ) none) E)
  isplitl [H3 H4 H8 H9]
  · iapply (fillIf c i arg2 harg2 arg3 harg3 arg4 harg4 arg5 harg5 arg6 harg6 arg7 harg7 arg8 harg8 arg9 harg9 KB VB x1 x2 E)
    isplitl [H3]; · iexact H3
    isplitl [H4]; · iexact H4
    isplitl [H8]; · iexact H8
    iexact H9
  generalize fillIfK i KB x1 = KB'
  generalize fillIfV i VB x2 = VB'
  iintro %u ⟨H3, H4, H8, H9⟩
  rw [← wp_bind]
  unfold tail7
  sl_exec
  sl_step
  isplitl [H2]; · iexact H2
  isplitl [H3]; · iexact H3
  isplitl [H4]; · iexact H4
  isplitl [H5]; · iexact H5
  isplitl [H6]; · iexact H6
  isplitl [H7]
  · rw [outPieces_raw i arg2 harg2 arg5 harg5 arg6 harg6 arg8 harg8 arg9 harg9]
    unfold pieces7
    iexact H7
  isplitl [H8]; · iexact H8
  iexact H9

end

end Cert.KernelIdeal.Body

end
-- ==== Proof.RunFrame.lean ====
module

public import proofs.«01_k».proof.Proof.Run
public import proofs.«01_k».proof.Proof.Gen.KernelIdeal.Frame
public import Idealize.ShloMosaic.Lib.Claim
public import Idealize.ShloMosaic.Lib.Exec
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.Pipeline.Kit
public import Idealize.ShloMosaic.Lib.Pointwise
public import Idealize.ShloMosaic.Lib.WholeRead
public import Idealize.ShloMosaic.Lib.ValueLayout

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (i : grid0.Coords) (arg2 : Memref sig .tc .vmem S1x128x2048 .f32) (harg2 : arg2.IsWhole) (arg3 : Memref sig .tc .vmem S1x2176x1024 .f32) (harg3 : arg3.IsWhole) (arg4 : Memref sig .tc .vmem S1x2176x1024 .f32) (harg4 : arg4.IsWhole) (arg5 : Memref sig .tc .vmem S4x128 .f32) (harg5 : arg5.IsWhole) (arg6 : Memref sig .tc .vmem S1x256 .f32) (harg6 : arg6.IsWhole) (arg7 : Memref sig .tc .vmem S1x128x2048 .f32) (harg7 : arg7.IsWhole) (arg8 : Memref sig .tc .vmem S8x2304x128 .bf16) (harg8 : arg8.IsWhole) (arg9 : Memref sig .tc .vmem S4x2304x256 .bf16) (harg9 : arg9.IsWhole)

theorem cover7 (KB : Vec F S8x2304x128 .bf16) (VB : Vec F S4x2304x256 .bf16) (x0 : Vec F S1x128x2048 .f32) (x3 : Vec F S4x128 .f32) (x4 : Vec F S1x256 .f32) :
    ∀ y, ∃ p ∈ outPieces i arg2 harg2 arg5 harg5 arg6 harg6 KB VB x0 x3 x4, y ∈ p.1.set :=
  View.cover_of_tiledBy (outPieces i arg2 harg2 arg5 harg5 arg6 harg6 KB VB x0 x3 x4) S1x128x256.size (by sl_kernel_rfl)

/-- The block of results of one block of queries. -/
def blockOut (KB : Vec F S8x2304x128 .bf16) (VB : Vec F S4x2304x256 .bf16) (x0 : Vec F S1x128x2048 .f32) (x3 : Vec F S4x128 .f32) (x4 : Vec F S1x256 .f32) : Vec F S1x128x2048 .f32 :=
  View.canon (outPieces i arg2 harg2 arg5 harg5 arg6 harg6 KB VB x0 x3 x4)

/-- `bodyRun` over whole buffers owned at their contents. -/
theorem bodyOwns (KB : Vec F S8x2304x128 .bf16) (VB : Vec F S4x2304x256 .bf16) (x0 : Vec F S1x128x2048 .f32) (x1 x2 : Vec F S1x2176x1024 .f32) (x3 : Vec F S4x128 .f32) (x4 : Vec F S1x256 .f32) (d : Vec F S1x128x2048 .f32) (E : Set ℕ) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d ∗ owns (c : Thread nD τ) arg8 fullShare KB ∗ owns (c : Thread nD τ) arg9 fullShare VB) : sProp 𝕄)
      ⊢ wp frame (wpE (defs₀ (F := F)) Variants.none (c : Thread nD τ) none) E (cc0_diff_attn (F := F) i arg2 harg2 arg3 harg3 arg4 harg4 arg5 harg5 arg6 harg6 arg7 harg7 arg8 harg8 arg9 harg9)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (blockOut i arg2 harg2 arg5 harg5 arg6 harg6 (fillIfK i KB x1) (fillIfV i VB x2) x0 x3 x4)
          ∗ owns (c : Thread nD τ) arg8 fullShare (fillIfK i KB x1) ∗ owns (c : Thread nD τ) arg9 fullShare (fillIfV i VB x2))) := by
  unfold owns
  iintro ⟨⟨%f2, %h2, H2⟩, ⟨%f3, %h3, H3⟩, ⟨%f4, %h4, H4⟩, ⟨%f5, %h5, H5⟩, ⟨%f6, %h6, H6⟩, ⟨%f7, -, H7⟩, ⟨%f8, %h8, H8⟩, ⟨%f9, %h9, H9⟩⟩
  obtain rfl := harg2.eq_unread h2; obtain rfl := harg3.eq_unread h3; obtain rfl := harg4.eq_unread h4; obtain rfl := harg5.eq_unread h5
  obtain rfl := harg6.eq_unread h6; obtain rfl := harg8.eq_unread h8; obtain rfl := harg9.eq_unread h9
  iapply (wp_wand_r frame (wpE (defs₀ (F := F)) Variants.none (c : Thread nD τ) none) E)
  isplitl [H2 H3 H4 H5 H6 H7 H8 H9]
  · iapply (bodyRun c i arg2 harg2 arg3 harg3 arg4 harg4 arg5 harg5 arg6 harg6 arg7 harg7 arg8 harg8 arg9 harg9 KB VB x0 x1 x2 x3 x4 E f7)
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %u ⟨H2, H3, H4, H5, H6, H7, H8, H9⟩
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro; exact View.read_writes_eq_canon arg7.view f7 _ (cover7 i arg2 harg2 arg5 harg5 arg6 harg6 _ _ x0 x3 x4)
  isplitl [H8]
  · iexists _; isplitr; · ipureintro; exact harg8.read_unread _
    iexact H8
  iexists _; isplitr; · ipureintro; exact harg9.read_unread _
  iexact H9

end

abbrev ms0 (t : Fin cfg0.N) : Memref sig .tc .vmem S1x128x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2176x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2176x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128x2048 .f32 := win0_5.stage (cfg0.slots t 5)
abbrev hs5 (t : Fin cfg0.N) : (ms5 t).IsWhole := hstage0_5 ((cfg0.slots t 5).cast nbuf0_5)

/-- The two scratch buffers. -/
abbrev scK : Memref sig .tc .vmem S8x2304x128 .bf16 := Memref.whole cc0_scratch0
abbrev scV : Memref sig .tc .vmem S4x2304x256 .bf16 := Memref.whole cc0_scratch1

variable (m : (ℓ : Loc nD τ sig) → Buf (Elt F) ℓ) (ρ : Dev nD → PrngReg)

/-- The keys' scratch after the point at position `n`. -/
def keysAt (c : Dev nD) : (n : ℕ) → n < cfg0.N → Vec F S8x2304x128 .bf16
  | 0, hn => fillK (iblk m c 1 ⟨0, hn⟩)
  | n + 1, hn => fillIfK (grid0.coords ⟨n + 1, hn⟩) (keysAt c n (Nat.lt_of_succ_lt hn)) (iblk m c 1 ⟨n + 1, hn⟩)

/-- The values' scratch after the point at position `n`. -/
def valsAt (c : Dev nD) : (n : ℕ) → n < cfg0.N → Vec F S4x2304x256 .bf16
  | 0, hn => fillV (iblk m c 2 ⟨0, hn⟩)
  | n + 1, hn => fillIfV (grid0.coords ⟨n + 1, hn⟩) (valsAt c n (Nat.lt_of_succ_lt hn)) (iblk m c 2 ⟨n + 1, hn⟩)

/-- The block of results the point leaves. -/
def outAt (c : Dev nD) (t : Fin cfg0.N) : Vec F S1x128x2048 .f32 :=
  blockOut (grid0.coords t) (ms0 t) (hs0 t) (ms3 t) (hs3 t) (ms4 t) (hs4 t) (keysAt m c t.val t.isLt) (valsAt m c t.val t.isLt) (iblk m c 0 t) (iblk m c 3 t) (iblk m c 4 t)

theorem coords_zero : ((grid0.coords (⟨0, by decide⟩ : Fin cfg0.N)) 1).val = 0 := by decide

/-- The invariant before position `n`: the two scratch buffers at what the point before left. -/
def PhiS (c : Dev nD) : (n : ℕ) → n ≤ cfg0.N → sProp 𝕄
  | 0, _ => Pipeline.ΦA spec0 c
  | n + 1, hn => iprop(iprop(owns (c : Thread nD τ) scK fullShare (keysAt m c n hn) ∗ owns (c : Thread nD τ) scV fullShare (valsAt m c n hn)) ∗ (∃ r, prngReg c r))

theorem PhiA_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-- The body at a point whose scratch is such that the copy, if any, leaves the stated contents. -/
theorem body_at (c : Dev nD) (t : Fin cfg0.N) (KB : Vec F S8x2304x128 .bf16) (VB : Vec F S4x2304x256 .bf16)
    (hK : fillIfK (grid0.coords t) KB (iblk m c 1 t) = keysAt m c t.val t.isLt) (hV : fillIfV (grid0.coords t) VB (iblk m c 2 t) = valsAt m c t.val t.isLt) :
    (iprop(iprop(iprop(owns (c : Thread nD τ) scK fullShare KB ∗ owns (c : Thread nD τ) scV fullShare VB) ∗ (∃ r, prngReg c r)) ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ (∃ d, owns (c : Thread nD τ) (ms5 t) fullShare d)) : sProp 𝕄)
      ⊢ wp frame (wpE (defs₀ (F := F)) Variants.none (c : Thread nD τ) none) Set.univ (bodyAt0 t) (fun _ => bodyPost m c t) := by
  unfold bodyPost bodyAt0
  rw [show (dats m 0 c).owesAt () t.succ = (dats m 0 c).owesAt () t.castSucc from rfl, after_0, after_1, after_2, after_3, after_4, after_5,
    show (dats m 0 c).Φ t.succ = iprop(iprop(owns (c : Thread nD τ) scK fullShare (keysAt m c t.val t.isLt) ∗ owns (c : Thread nD τ) scV fullShare (valsAt m c t.val t.isLt)) ∗ (∃ r, prngReg c r)) from rfl]
  unfold outAt
  rw [← hK, ← hV]
  iintro ⟨⟨⟨H8, H9⟩, Hg⟩, Ho, H2, H3, H4, H5, H6, ⟨%d, H7⟩⟩
  iapply (wp_wand_r frame (wpE (defs₀ (F := F)) Variants.none (c : Thread nD τ) none) Set.univ)
  isplitl [H2 H3 H4 H5 H6 H7 H8 H9]
  · iapply (bodyOwns c (grid0.coords t) (ms0 t) (hs0 t) (ms1 t) (hs1 t) (ms2 t) (hs2 t) (ms3 t) (hs3 t) (ms4 t) (hs4 t) (ms5 t) (hs5 t) scK (Memref.isWhole_whole _) scV (Memref.isWhole_whole _) KB VB (iblk m c 0 t) (iblk m c 1 t) (iblk m c 2 t) (iblk m c 3 t) (iblk m c 4 t) d Set.univ)
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %u ⟨H2, H3, H4, H5, H6, H7, H8, H9⟩
  isplitl [H8 H9 Hg]
  · isplitl [H8 H9]
    · isplitl [H8]; · iexact H8
      iexact H9
    iexact Hg
  isplitl [Ho]; · iexact Ho
  isplitl [H2]; · iexact H2
  isplitl [H3]; · iexact H3
  isplitl [H4]; · iexact H4
  isplitl [H5]; · iexact H5
  isplitl [H6]; · iexact H6
  iexact H7

/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre
  simp only [before_0, before_1, before_2, before_3, before_4]
  rw [Phi_castSucc m c t]
  obtain ⟨n, hn⟩ := t
  cases n with
  | zero =>
    rw [show PhiS m c (⟨0, hn⟩ : Fin cfg0.N).val (Nat.le_of_lt hn) = Pipeline.ΦA spec0 c from rfl, PhiA_eq]
    iintro ⟨⟨⟨⟨%KB, H8⟩, ⟨%VB, H9⟩⟩, Hg⟩, Ho, ⟨%d0, H2⟩, ⟨%d1, H3⟩, ⟨%d2, H4⟩, ⟨%d3, H5⟩, ⟨%d4, H6⟩, ⟨%d5, H7⟩⟩
    iapply (body_at m c ⟨0, hn⟩ KB VB (if_pos coords_zero) (if_pos coords_zero))
    isplitl [H8 H9 Hg]
    · isplitl [H8 H9]
      · isplitl [H8]; · iexact H8
        iexact H9
      iexact Hg
    isplitl [Ho]; · iexact Ho
    isplitl [H2]; · iexact H2
    isplitl [H3]; · iexact H3
    isplitl [H4]; · iexact H4
    isplitl [H5]; · iexact H5
    isplitl [H6]; · iexact H6
    iexists _; iexact H7
  | succ n =>
    rw [show PhiS m c (⟨n + 1, hn⟩ : Fin cfg0.N).val (Nat.le_of_lt hn) = iprop(iprop(owns (c : Thread nD τ) scK fullShare (keysAt m c n (Nat.lt_of_succ_lt hn)) ∗ owns (c : Thread nD τ) scV fullShare (valsAt m c n (Nat.lt_of_succ_lt hn))) ∗ (∃ r, prngReg c r)) from rfl]
    iintro ⟨⟨⟨H8, H9⟩, Hg⟩, Ho, ⟨%d0, H2⟩, ⟨%d1, H3⟩, ⟨%d2, H4⟩, ⟨%d3, H5⟩, ⟨%d4, H6⟩, ⟨%d5, H7⟩⟩
    iapply (body_at m c ⟨n + 1, hn⟩ (keysAt m c n (Nat.lt_of_succ_lt hn)) (valsAt m c n (Nat.lt_of_succ_lt hn)) rfl rfl)
    isplitl [H8 H9 Hg]
    · isplitl [H8 H9]
      · isplitl [H8]; · iexact H8
        iexact H9
      iexact Hg
    isplitl [Ho]; · iexact Ho
    isplitl [H2]; · iexact H2
    isplitl [H3]; · iexact H3
    isplitl [H4]; · iexact H4
    isplitl [H5]; · iexact H5
    isplitl [H6]; · iexact H6
    iexists _; iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, show PhiS m c 0 (Nat.zero_le _) = Pipeline.ΦA spec0 c from rfl]

theorem hout (c : Dev nD) : (dats m 0 c).Φ (Fin.last cfg0.N) ⊢ Pipeline.ΦA spec0 c := by
  rw [show (dats m 0 c).Φ (Fin.last cfg0.N) = PhiS m c (67 + 1) (le_of_eq N_0.symm) from rfl, PhiA_eq]
  unfold PhiS
  iintro ⟨⟨H8, H9⟩, Hg⟩
  isplitl [H8 H9]
  · isplitl [H8]
    · iexists _; iexact H8
    iexists _; iexact H9
  iexact Hg

set_option backward.isDefEq.respectTransparency.types false in
/-- Every execution of the program ends, with every array at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Block.lean ====
module

public import proofs.«01_k».proof.Proof.HeadVal
public import proofs.«01_k».proof.Proof.RunFrame

@[expose] public section

/-!
# A block of results

The eight heads' blocks a block of queries stores are the tiles of one function of the position.
-/

set_option maxRecDepth 16384

noncomputable section

namespace Cert.KernelIdeal.Body

open Cert.Attn Cert.KernelIdeal Cert.KernelIdeal.Gen Idealize.ShloMosaic Idealize.ShloMosaic.TcCoe Idealize.SL.Sem

section
variable (i : grid0.Coords) (arg2 : Memref sig .tc .vmem S1x128x2048 .f32) (harg2 : arg2.IsWhole) (arg5 : Memref sig .tc .vmem S4x128 .f32) (harg5 : arg5.IsWhole) (arg6 : Memref sig .tc .vmem S1x256 .f32) (harg6 : arg6.IsWhole)
  (KB : Vec Ideal S8x2304x128 .bf16) (VB : Vec Ideal S4x2304x256 .bf16) (x0 : Vec Ideal S1x128x2048 .f32) (x3 : Vec Ideal S4x128 .f32) (x4 : Vec Ideal S1x256 .f32)
  (zq : ℕ → ℕ → ℝ) (kr vr : ℕ → ℕ → ℝ) (l : ℝ)

/-- The block's element at a position. -/
def blockG (y : S1x128x2048.Idx) : EReal :=
  outv (zq (y 1).val) kr vr l (x4 (ix2 0 ⟨(y 2).val % 256, Nat.mod_lt _ (by decide)⟩)) (128 * (i 1).val + (y 1).val) ((y 2).val / 512) ((y 2).val % 512 / 256) ((y 2).val % 256)

theorem whole3 : View.readAt (Elt Ideal) arg5.view (Rect.unit (s := S4x128) ![0, 0] S4x128.size inb_S4x128_S4x128_0_0).toLoadRect (harg5.unread x3) = x3 := by
  funext x
  rw [harg5.readAt_unread]
  refine congrArg x3 (funext fun a => Fin.ext ?_)
  fin_cases a <;> show 0 + 1 * _ = _ <;> omega

theorem whole4 : View.readAt (Elt Ideal) arg6.view (Rect.unit (s := S1x256) ![0, 0] S1x256.size inb_S1x256_S1x256_0_0).toLoadRect (harg6.unread x4) = x4 := by
  funext x
  rw [harg6.readAt_unread]
  refine congrArg x4 (funext fun a => Fin.ext ?_)
  fin_cases a <;> show 0 + 1 * _ = _ <;> omega

variable (hx : ∀ (q : Fin 128) (x : Fin 2048), x0 (ix3 0 q x) = ((zq q.val x.val : ℝ) : EReal))
include hx in
theorem tile_at (o : ℕ) (inb : ∀ a, ![0, 0, o] a + S1x128x128.size a ≤ S1x128x2048.size a) (q : Fin 128) (d : Fin 128) :
    (View.readAt (Elt Ideal) arg2.view (Rect.unit (s := S1x128x2048) ![0, 0, o] S1x128x128.size inb).toLoadRect (harg2.unread x0) : S1x128x128.Idx → Elt Ideal .f32) (ix3 0 q d)
      = ((zq q.val (o + d.val) : ℝ) : EReal) := by
  have ho : o + 128 ≤ 2048 := inb 2
  rw [harg2.readAt_unread, ← hx q ⟨o + d.val, by omega⟩]
  refine congrArg x0 (funext fun a => Fin.ext ?_)
  fin_cases a
  · show 0 + 1 * 0 = 0; omega
  · show 0 + 1 * q.val = q.val; omega
  · show o + 1 * d.val = o + d.val; omega

/-- A stored block is its tile of `blockG`. -/
theorem piece_at (P : FVec Ideal S1x128x256 .f32) (g h : ℕ) (hg : g < 4) (hh : h < 2) (o : ℕ) (ho : o = 512 * g + 256 * h) (inb : ∀ a, ![0, 0, o] a + S1x128x256.size a ≤ S1x128x2048.size a)
    (hP : ∀ (q : Fin 128) (e : Fin 256), P (ix3 0 q e) = outv (zq q.val) kr vr l (x4 (ix2 0 e)) (128 * (i 1).val + q.val) g h e.val) (x : S1x128x256.Idx) :
    P x = blockG i x4 zq kr vr l ((Rect.unit (s := S1x128x2048) ![0, 0, o] S1x128x256.size inb).emb x) := by
  idx_vars x
  obtain rfl : x0 = 0 := Subsingleton.elim _ _
  rw [hP]
  unfold blockG
  have e1 : (((Rect.unit (s := S1x128x2048) ![0, 0, o] S1x128x256.size inb).emb (ix3 0 x1 x2)) 1).val = x1.val := by
    show 0 + 1 * x1.val = x1.val; omega
  have e2 : (((Rect.unit (s := S1x128x2048) ![0, 0, o] S1x128x256.size inb).emb (ix3 0 x1 x2)) 2).val = o + x2.val := by
    show o + 1 * x2.val = o + x2.val; omega
  simp only [e1, e2]
  simp only [show (o + x2.val) % 256 = x2.val by omega, show (o + x2.val) / 512 = g by omega, show (o + x2.val) % 512 / 256 = h by omega]

variable (hK : ∀ (s : Fin 8) (k : Fin 2304) (d : Fin 128), KB (ix3 s k d) = ((kr k.val (s.val * 128 + d.val) : ℝ) : EReal))
  (hV : ∀ (s : Fin 4) (k : Fin 2304) (e : Fin 256), VB (ix3 s k e) = ((vr k.val (256 * s.val + e.val) : ℝ) : EReal))
  (hl : k0_pay33 x3 (ix2 0 0) = (l : EReal))

/-- The queries of one head and component, of a block. -/
abbrev tile (o : ℕ) (inb : ∀ a, ![0, 0, o] a + S1x128x128.size a ≤ S1x128x2048.size a) : Vec Ideal S1x128x128 .f32 :=
  View.readAt (Elt Ideal) arg2.view (Rect.unit (s := S1x128x2048) ![0, 0, o] S1x128x128.size inb).toLoadRect (harg2.unread x0)

theorem st0_eq : st0 i arg2 harg2 KB VB x0 = steps KB VB 0 1 0 (k0_pay34 (tile arg2 harg2 x0 0 inb_S1x128x2048_S1x128x128_0_0_0) (tile arg2 harg2 x0 256 inb_S1x128x2048_S1x128x128_0_0_256)) (k0_pay35 (tile arg2 harg2 x0 128 inb_S1x128x2048_S1x128x128_0_0_128) (tile arg2 harg2 x0 384 inb_S1x128x2048_S1x128x128_0_0_384)) init ((i 1).val / 2) := by
  unfold st0; rw [(trips_eq i).1]; rfl
theorem st1_eq : st1 i arg2 harg2 KB VB x0 = steps KB VB 2 3 1 (k0_pay34 (tile arg2 harg2 x0 512 inb_S1x128x2048_S1x128x128_0_0_512) (tile arg2 harg2 x0 768 inb_S1x128x2048_S1x128x128_0_0_768)) (k0_pay35 (tile arg2 harg2 x0 640 inb_S1x128x2048_S1x128x128_0_0_640) (tile arg2 harg2 x0 896 inb_S1x128x2048_S1x128x128_0_0_896)) init ((i 1).val / 2) := by
  unfold st1; rw [(trips_eq i).2.1]; rfl
theorem st2_eq : st2 i arg2 harg2 KB VB x0 = steps KB VB 4 5 2 (k0_pay34 (tile arg2 harg2 x0 1024 inb_S1x128x2048_S1x128x128_0_0_1024) (tile arg2 harg2 x0 1280 inb_S1x128x2048_S1x128x128_0_0_1280)) (k0_pay35 (tile arg2 harg2 x0 1152 inb_S1x128x2048_S1x128x128_0_0_1152) (tile arg2 harg2 x0 1408 inb_S1x128x2048_S1x128x128_0_0_1408)) init ((i 1).val / 2) := by
  unfold st2; rw [(trips_eq i).2.2.1]; rfl
theorem st3_eq : st3 i arg2 harg2 KB VB x0 = steps KB VB 6 7 3 (k0_pay34 (tile arg2 harg2 x0 1536 inb_S1x128x2048_S1x128x128_0_0_1536) (tile arg2 harg2 x0 1792 inb_S1x128x2048_S1x128x128_0_0_1792)) (k0_pay35 (tile arg2 harg2 x0 1664 inb_S1x128x2048_S1x128x128_0_0_1664) (tile arg2 harg2 x0 1920 inb_S1x128x2048_S1x128x128_0_0_1920)) init ((i 1).val / 2) := by
  unfold st3; rw [(trips_eq i).2.2.2]; rfl

include hx hK hV hl in
theorem blockOut_at (y : S1x128x2048.Idx) :
    blockOut i arg2 harg2 arg5 harg5 arg6 harg6 KB VB x0 x3 x4 y = blockG i x4 zq kr vr l y := by
  refine View.canon_apply_of_pieces (blockG i x4 zq kr vr l) (outPieces i arg2 harg2 arg5 harg5 arg6 harg6 KB VB x0 x3 x4) ?_ y (cover7 i arg2 harg2 arg5 harg5 arg6 harg6 KB VB x0 x3 x4 y)
  unfold outPieces pieces7
  rw [whole3, whole4, st0_eq, st1_eq, st2_eq, st3_eq]
  simp only [List.forall_mem_cons]
  have t := tile_at arg2 harg2 x0 zq hx
  refine ⟨?_, ?_, ?_, ?_, ?_, ?_, ?_, ?_, by simp⟩
  · refine piece_at i x4 zq kr vr l _ 3 1 (by omega) (by omega) _ rfl _ fun q e => ?_
    rw [piece7]
    exact head1_at i 3 _ _ _ _ KB VB 6 7 3 zq kr vr (t _ _) (t _ _) (t _ _) (t _ _) (hK 6) (hK 7) (hV 3) _ l hl x4 q e
  · refine piece_at i x4 zq kr vr l _ 3 0 (by omega) (by omega) _ rfl _ fun q e => ?_
    rw [piece6]
    exact head0_at i 3 _ _ _ _ KB VB 6 7 3 zq kr vr (t _ _) (t _ _) (t _ _) (t _ _) (hK 6) (hK 7) (hV 3) _ l hl x4 q e
  · refine piece_at i x4 zq kr vr l _ 2 1 (by omega) (by omega) _ rfl _ fun q e => ?_
    rw [piece5]
    exact head1_at i 2 _ _ _ _ KB VB 4 5 2 zq kr vr (t _ _) (t _ _) (t _ _) (t _ _) (hK 4) (hK 5) (hV 2) _ l hl x4 q e
  · refine piece_at i x4 zq kr vr l _ 2 0 (by omega) (by omega) _ rfl _ fun q e => ?_
    rw [piece4]
    exact head0_at i 2 _ _ _ _ KB VB 4 5 2 zq kr vr (t _ _) (t _ _) (t _ _) (t _ _) (hK 4) (hK 5) (hV 2) _ l hl x4 q e
  · refine piece_at i x4 zq kr vr l _ 1 1 (by omega) (by omega) _ rfl _ fun q e => ?_
    rw [piece3]
    exact head1_at i 1 _ _ _ _ KB VB 2 3 1 zq kr vr (t _ _) (t _ _) (t _ _) (t _ _) (hK 2) (hK 3) (hV 1) _ l hl x4 q e
  · refine piece_at i x4 zq kr vr l _ 1 0 (by omega) (by omega) _ rfl _ fun q e => ?_
    rw [piece2]
    exact head0_at i 1 _ _ _ _ KB VB 2 3 1 zq kr vr (t _ _) (t _ _) (t _ _) (t _ _) (hK 2) (hK 3) (hV 1) _ l hl x4 q e
  · refine piece_at i x4 zq kr vr l _ 0 1 (by omega) (by omega) _ rfl _ fun q e => ?_
    rw [piece1]
    exact head1_at i 0 _ _ _ _ KB VB 0 1 0 zq kr vr (t _ _) (t _ _) (t _ _) (t _ _) (hK 0) (hK 1) (hV 0) _ l hl x4 q e
  · refine piece_at i x4 zq kr vr l _ 0 0 (by omega) (by omega) _ rfl _ fun q e => ?_
    rw [piece0]
    exact head0_at i 0 _ _ _ _ KB VB 0 1 0 zq kr vr (t _ _) (t _ _) (t _ _) (t _ _) (hK 0) (hK 1) (hV 0) _ l hl x4 q e
end

end Cert.KernelIdeal.Body

end
-- ==== Proof.RefVal.lean ====
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.AttnRef

open Cert.Attn Cert.ReferenceIdeal Cert.ReferenceIdeal.Gen Cert.ReferenceIdeal.Value Idealize.ShloMosaic Idealize.ShloMosaic.TcCoe Idealize.SL.Sem

/-- The masked scores. -/
def rS (z : FVec Ideal S4x2176x6144 .f32) : FVec Ideal S4x4x2x2x2176x2176 .f32 :=
  select (broadcastInDim S4x4x2x2x2176x2176 ![4, 5] bcast_S2176x2176_S4x4x2x2x2176x2176_4_5 (cmpi .sle (broadcastInDim S2176x2176 ![0, 1] bcast_S1x2176_S2176x2176_0_1 (broadcastInDim S1x2176 ![1] bcast_S2176_S1x2176_1 (iotaInDim S2176 32 0))) (broadcastInDim S2176x2176 ![0, 1] bcast_S2176x1_S2176x2176_0_1 (broadcastInDim S2176x1 ![0] bcast_S2176_S2176x1_0 (iotaInDim S2176 32 0))))) (mulf (transpose S4x4x2x2x2176x2176 [0, 1, 5, 2, 4, 3] (Host.dotGeneral dot_S4x2176x4x2x128_S4x2176x4x2x2x128_S4x4x2x2176x2176x2_4_5_1_13_023_024 none (shapeCast _ (extractStridedSlice S4x2176x1024 ![0, 0, 4096] z slices_S4x2176x6144_S4x2176x1024_0_0_4096) shapeCasts_S4x2176x1024_S4x2176x4x2x128) (shapeCast _ (extractStridedSlice S4x2176x2048 ![0, 0, 0] z slices_S4x2176x6144_S4x2176x2048_0_0_0) shapeCasts_S4x2176x2048_S4x2176x4x2x2x128)) transposes_S4x4x2x2176x2176x2_S4x4x2x2x2176x2176_0_1_5_2_4_3) (broadcastInDim S4x4x2x2x2176x2176 ![] bcast_S_S4x4x2x2x2176x2176 (constant S_ .f32 0x3DB504F3#32))) (broadcastInDim S4x4x2x2x2176x2176 ![] bcast_S_S4x4x2x2x2176x2176 (id (constant S_ .f32 0xFF800000#32)))

/-- Each row's maximum. -/
def rM (S : FVec Ideal S4x4x2x2x2176x2176 .f32) : FVec Ideal S4x4x2x2x2176 .f32 :=
  maximumf (broadcastInDim S4x4x2x2x2176 ![] bcast_S_S4x4x2x2x2176 (constant S_ .f32 0xFF800000#32)) (Host.reduce FloatOps.maximumf S (constant S_ .f32 0xFF800000#32) reducesTo_S4x4x2x2x2176x2176_S4x4x2x2x2176_d5 h_S_)

/-- Each row's sum. -/
def rW (E : FVec Ideal S4x4x2x2x2176x2176 .f32) : FVec Ideal S4x4x2x2x2176 .f32 :=
  Host.reduceAdd E (constant S_ .f32 0x00000000#32) reducesTo_S4x4x2x2x2176x2176_S4x4x2x2x2176_d5 h_S_

/-- The exponentials below the row's maximum. -/
def rE (S : FVec Ideal S4x4x2x2x2176x2176 .f32) : FVec Ideal S4x4x2x2x2176x2176 .f32 :=
  Host.exp (subf S (broadcastInDim S4x4x2x2x2176x2176 ![0, 1, 2, 3, 4, 5] bcast_S4x4x2x2x2176x1_S4x4x2x2x2176x2176_0_1_2_3_4_5 (broadcastInDim S4x4x2x2x2176x1 ![0, 1, 2, 3, 4] bcast_S4x4x2x2x2176_S4x4x2x2x2176x1_0_1_2_3_4 (rM S))))

/-- The weights of the softmax. -/
def rP (E : FVec Ideal S4x4x2x2x2176x2176 .f32) : FVec Ideal S4x4x2x2x2176x2176 .f32 :=
  Host.divf E (broadcastInDim S4x4x2x2x2176x2176 ![0, 1, 2, 3, 4, 5] bcast_S4x4x2x2x2176x1_S4x4x2x2x2176x2176_0_1_2_3_4_5 (broadcastInDim S4x4x2x2x2176x1 ![0, 1, 2, 3, 4] bcast_S4x4x2x2x2176_S4x4x2x2x2176x1_0_1_2_3_4 (rW E)))

/-- The factor of the second component. -/
def rL (p : FVec Ideal S4x128 .f32) : FVec Ideal S_ .f32 :=
  addf (subf (Host.exp (Host.reduceAdd (mulf (shapeCast _ (extractStridedSlice S1x128 ![0, 0] p slices_S4x128_S1x128_0_0) shapeCasts_S1x128_S128) (shapeCast _ (extractStridedSlice S1x128 ![1, 0] p slices_S4x128_S1x128_1_0) shapeCasts_S1x128_S128)) (constant S_ .f32 0x00000000#32) reducesTo_S128_S_d0 h_S_)) (Host.exp (Host.reduceAdd (mulf (shapeCast _ (extractStridedSlice S1x128 ![2, 0] p slices_S4x128_S1x128_2_0) shapeCasts_S1x128_S128) (shapeCast _ (extractStridedSlice S1x128 ![3, 0] p slices_S4x128_S1x128_3_0) shapeCasts_S1x128_S128)) (constant S_ .f32 0x00000000#32) reducesTo_S128_S_d0 h_S_))) (constant S_ .f32 0x3EB60549#32)

/-- The difference of the two components' weights. -/
def rA (P : FVec Ideal S4x4x2x2x2176x2176 .f32) (l : FVec Ideal S_ .f32) : FVec Ideal S4x4x2x2176x2176 .f32 :=
  subf (shapeCast _ (extractStridedSlice S4x4x2x1x2176x2176 ![0, 0, 0, 0, 0, 0] P slices_S4x4x2x2x2176x2176_S4x4x2x1x2176x2176_0_0_0_0_0_0) shapeCasts_S4x4x2x1x2176x2176_S4x4x2x2176x2176) (mulf (broadcastInDim S4x4x2x2176x2176 ![] bcast_S_S4x4x2x2176x2176 l) (shapeCast _ (extractStridedSlice S4x4x2x1x2176x2176 ![0, 0, 0, 1, 0, 0] P slices_S4x4x2x2x2176x2176_S4x4x2x1x2176x2176_0_0_0_1_0_0) shapeCasts_S4x4x2x1x2176x2176_S4x4x2x2176x2176))

/-- The weighted values. -/
def rO (A : FVec Ideal S4x4x2x2176x2176 .f32) (z : FVec Ideal S4x2176x6144 .f32) : FVec Ideal S4x2176x4x2x256 .f32 :=
  transpose S4x2176x4x2x256 [0, 4, 1, 3, 2] (Host.dotGeneral dot_S4x2176x4x256_S4x4x2x2176x2176_S4x4x256x2x2176_1_4_3_23_02_01 none (shapeCast _ (extractStridedSlice S4x2176x1024 ![0, 0, 5120] z slices_S4x2176x6144_S4x2176x1024_0_0_5120) shapeCasts_S4x2176x1024_S4x2176x4x256) A) transposes_S4x4x256x2x2176_S4x2176x4x2x256_0_4_1_3_2

/-- The greatest element of a row, read along one axis. -/
theorem max_row {s t u : Shape} {a : Fin s.rank} (x : s.Idx → EReal) (init : u.Idx → EReal) (h' : s.ReducesTo [a] t) (h : s.Reduces [a] t)
    (hu : 0 < u.numel) (j : t.Idx) {n : ℕ} (hn : s.size a = n) (f : Fin n → EReal) (hf : ∀ k, x (h.lift j (Fin.cast hn.symm k)) = f k)
    (hi : init (Shape.Idx.first hu) = ⊥) :
    max (⊥ : EReal) (Host.reduce (FloatOps.maximumf (F := Ideal) (φ := FTy.f32)) x init h' hu j) = Finset.fold max ⊥ f Finset.univ := by
  subst hn
  rw [max_eq_right bot_le, Host.reduce_eq_fold_single _ _ _ _ h, hi]
  exact congrArg (fun f => Finset.fold max (⊥ : EReal) f Finset.univ) (funext hf)

/-- The sum of a row, read along one axis. -/
theorem sum_row {s t u : Shape} {a : Fin s.rank} (x : FVec Ideal s .f32) (init : FVec Ideal u .f32) (h' : s.ReducesTo [a] t) (h : s.Reduces [a] t)
    (hu : 0 < u.numel) (j : t.Idx) {n : ℕ} (hn : s.size a = n) (f : Fin n → EReal) (hf : ∀ k, x (h.lift j (Fin.cast hn.symm k)) = f k)
    (hi : init (Shape.Idx.first hu) = (0 : EReal)) :
    Host.reduceAdd x init h' hu j = ∑ k, f k := by
  subst hn
  rw [ValueIdx.hostReduceAdd_apply]
  show (init (Shape.Idx.first hu) : EReal) + ∑ i ∈ Finset.univ.filter (fun i => h'.drop i = j), x i = _
  rw [hi, zero_add, Shape.ReducesTo.drop_eq_drop h' h, h.sum_filter_drop_single]
  exact Finset.sum_congr rfl fun k _ => hf k

theorem reducesRow : S4x4x2x2x2176x2176.Reduces [5] S4x4x2x2x2176 := by decide

theorem lift_row (b : Fin 4) (g : Fin 4) (h c : Fin 2) (q k : Fin 2176) :
    reducesRow.lift (ix5 b g h c q : S4x4x2x2x2176.Idx) (Fin.cast rfl k) = (ix6 b g h c q k : S4x4x2x2x2176x2176.Idx) := by
  funext a
  apply Fin.ext
  fin_cases a <;> rfl

theorem maxf_apply {s : Shape} (a b : FVec Ideal s .f32) (j : s.Idx) : maximumf a b j = (max (a j) (b j) : EReal) := rfl

theorem const_apply (s : Shape) (w : BitVec 32) (j : s.Idx) : constant (F := Ideal) s .f32 w j = Ideal.ofBits FTy.f32 w := rfl

theorem rM_apply (S : FVec Ideal S4x4x2x2x2176x2176 .f32) (b : Fin 4) (g : Fin 4) (h c : Fin 2) (q : Fin 2176) :
    rM S (ix5 b g h c q) = Finset.fold max ⊥ (fun k : Fin 2176 => S (ix6 b g h c q k)) Finset.univ := by
  have e := max_row (n := 2176) S (constant (F := Ideal) S_ .f32 0xFF800000#32) reducesTo_S4x4x2x2x2176x2176_S4x4x2x2x2176_d5 reducesRow h_S_ (ix5 b g h c q) rfl
    (fun k : Fin 2176 => S (ix6 b g h c q k)) (fun k => congrArg S (lift_row b g h c q k)) (show Ideal.ofBits FTy.f32 4286578688#32 = ⊥ from ofBits_neg_inf)
  rw [rM, maxf_apply, ValueIdx.broadcastInDim_scalar_apply, const_apply, ofBits_neg_inf]
  exact e

theorem rW_apply (S : FVec Ideal S4x4x2x2x2176x2176 .f32) (b : Fin 4) (g : Fin 4) (h c : Fin 2) (q : Fin 2176) :
    rW S (ix5 b g h c q) = ∑ k : Fin 2176, S (ix6 b g h c q k) :=
  sum_row (n := 2176) S (constant S_ .f32 0x00000000#32) reducesTo_S4x4x2x2x2176x2176_S4x4x2x2x2176_d5 reducesRow h_S_ (ix5 b g h c q) rfl
    (fun k : Fin 2176 => S (ix6 b g h c q k)) (fun k => congrArg S (lift_row b g h c q k)) Ideal.ofBits_zero_f32

theorem rS_apply (z : FVec Ideal S4x2176x6144 .f32) (b : Fin 4) (g : Fin 4) (h c : Fin 2) (q k : Fin 2176) :
    rS z (ix6 b g h c q k) = Scalar.select (IntOp.cmpi CmpIPredicate.sle (BitVec.ofNat 32 k.val) (BitVec.ofNat 32 q.val))
      ((∑ x : Fin 128, z (ix3 b k ⟨4096 + (g.val * 256 + c.val * 128 + x.val), by omega⟩) * z (ix3 b q ⟨g.val * 512 + h.val * 256 + c.val * 128 + x.val, by omega⟩))
        * Ideal.ofBits FTy.f32 1035273459#32) ⊥ := by
  pointwise [rS]
  rfl

theorem rE_apply (S : FVec Ideal S4x4x2x2x2176x2176 .f32) (b : Fin 4) (g : Fin 4) (h c : Fin 2) (q k : Fin 2176) :
    rE S (ix6 b g h c q k) = Ideal.exp (S (ix6 b g h c q k) - rM S (ix5 b g h c q)) := by
  pointwise [rE]

theorem rP_apply (S : FVec Ideal S4x4x2x2x2176x2176 .f32) (b : Fin 4) (g : Fin 4) (h c : Fin 2) (q k : Fin 2176) :
    rP S (ix6 b g h c q k) = Ideal.div (S (ix6 b g h c q k)) (rW S (ix5 b g h c q)) := by
  pointwise [rP]

theorem rA_apply (P : FVec Ideal S4x4x2x2x2176x2176 .f32) (l : FVec Ideal S_ .f32) (b : Fin 4) (g : Fin 4) (h : Fin 2) (q k : Fin 2176) :
    rA P l (ix5 b g h q k) = P (ix6 b g h 0 q k) - l ix0 * P (ix6 b g h 1 q k) := by
  pointwise [rA]

theorem rO_apply (A : FVec Ideal S4x4x2x2176x2176 .f32) (z : FVec Ideal S4x2176x6144 .f32) (b : Fin 4) (g : Fin 4) (h : Fin 2) (q : Fin 2176) (e : Fin 256) :
    rO A z (ix5 b q g h e) = ∑ x : Fin 2176, z (ix3 b x ⟨5120 + (g.val * 256 + e.val), by omega⟩) * A (ix5 b g h q x) := by
  pointwise [rO]

theorem rL_apply (p : FVec Ideal S4x128 .f32) : rL p ix0
    = Ideal.exp (∑ x : Fin 128, p (ix2 0 x) * p (ix2 1 x)) - Ideal.exp (∑ x : Fin 128, p (ix2 2 x) * p (ix2 3 x)) + Ideal.ofBits FTy.f32 1052116297#32 := by
  pointwise [rL]

end Cert.ReferenceIdeal.AttnRef

end
-- ==== Proof.RefRow.lean ====
module

public import proofs.«01_k».proof.Proof.RefVal
public import Idealize.ShloMosaic.Lib.WordCmp

@[expose] public section

/-!
# An element of the reference's result

The two softmaxes of a row are the weighted means over the keys up to the row's own position, and what the
reference ends with is the same function of the arguments as a block of the kernel's results.
-/

set_option maxRecDepth 16384

noncomputable section

namespace Cert.ReferenceIdeal.AttnRef

open Cert.Attn Cert.ReferenceIdeal Cert.ReferenceIdeal.Gen Idealize.ShloMosaic Idealize.ShloMosaic.TcCoe Idealize.SL.Sem

/-- The sum of a head's squares. -/
def rQ (O : FVec Ideal S4x2176x4x2x256 .f32) : FVec Ideal S4x2176x4x2 .f32 :=
  Host.reduceAdd (mulf O O) (constant S_ .f32 0x00000000#32) reducesTo_S4x2176x4x2x256_S4x2176x4x2_d4 h_S_

/-- The normalised heads. -/
def rN (O : FVec Ideal S4x2176x4x2x256 .f32) (gn : FVec Ideal S256 .f32) : FVec Ideal S4x2176x4x2x256 .f32 :=
  mulf (mulf (mulf O (broadcastInDim S4x2176x4x2x256 ![0, 1, 2, 3, 4] bcast_S4x2176x4x2x1_S4x2176x4x2x256_0_1_2_3_4 (Host.rsqrt (addf (Host.divf (broadcastInDim S4x2176x4x2x1 ![0, 1, 2, 3] bcast_S4x2176x4x2_S4x2176x4x2x1_0_1_2_3 (rQ O)) (broadcastInDim S4x2176x4x2x1 ![] bcast_S_S4x2176x4x2x1 (constant S_ .f32 0x43800000#32))) (broadcastInDim S4x2176x4x2x1 ![] bcast_S_S4x2176x4x2x1 (constant S_ .f32 0x358637BD#32)))))) (broadcastInDim S4x2176x4x2x256 ![0, 1, 2, 3, 4] bcast_S1x1x1x1x256_S4x2176x4x2x256_0_1_2_3_4 (broadcastInDim S1x1x1x1x256 ![4] bcast_S256_S1x1x1x1x256_4 gn))) (broadcastInDim S4x2176x4x2x256 ![] bcast_S_S4x2176x4x2x256 (constant S_ .f32 0x3F24FD5C#32))

/-- The reference's result, by its steps. -/
def rOut (z : FVec Ideal S4x2176x6144 .f32) (p : FVec Ideal S4x128 .f32) (gn : FVec Ideal S256 .f32) : FVec Ideal S4x2176x2048 .f32 :=
  shapeCast _ (rN (rO (rA (rP (rE (rS z))) (rL p)) z) gn) shapeCasts_S4x2176x4x2x256_S4x2176x2048

theorem res_eq (m : (ℓ : Loc nD τ sig) → Buf (Elt Ideal) ℓ) (c : Dev nD) :
    Value.res_main_v68 (F := Ideal) m c = rOut (m ((c.tc : Thread nD τ).loc main_arg0)) (m ((c.tc : Thread nD τ).loc main_arg1)) (m ((c.tc : Thread nD τ).loc main_arg2)) := by
  unfold Value.res_main_v68 rOut rN rQ rO rA rP rE rW rM rL rS
  rfl

theorem reducesHead : S4x2176x4x2x256.Reduces [4] S4x2176x4x2 := by decide

theorem lift_head (b : Fin 4) (q : Fin 2176) (g : Fin 4) (h : Fin 2) (e : Fin 256) :
    reducesHead.lift (ix4 b q g h : S4x2176x4x2.Idx) (Fin.cast rfl e) = (ix5 b q g h e : S4x2176x4x2x256.Idx) := by
  funext a
  apply Fin.ext
  fin_cases a <;> rfl

theorem rQ_apply (O : FVec Ideal S4x2176x4x2x256 .f32) (b : Fin 4) (q : Fin 2176) (g : Fin 4) (h : Fin 2) :
    rQ O (ix4 b q g h) = ∑ e : Fin 256, O (ix5 b q g h e) * O (ix5 b q g h e) :=
  sum_row (n := 256) (mulf O O) (constant S_ .f32 0x00000000#32) reducesTo_S4x2176x4x2x256_S4x2176x4x2_d4 reducesHead h_S_ (ix4 b q g h) rfl
    (fun e : Fin 256 => O (ix5 b q g h e) * O (ix5 b q g h e)) (fun e => congrArg (mulf O O) (lift_head b q g h e)) Ideal.ofBits_zero_f32

theorem rN_apply (O : FVec Ideal S4x2176x4x2x256 .f32) (gn : FVec Ideal S256 .f32) (b : Fin 4) (q : Fin 2176) (g : Fin 4) (h : Fin 2) (e : Fin 256) :
    rN O gn (ix5 b q g h e) = O (ix5 b q g h e) * Ideal.rsqrt (Ideal.div (rQ O (ix4 b q g h)) (Ideal.ofBits FTy.f32 0x43800000#32) + Ideal.ofBits FTy.f32 0x358637BD#32)
      * gn (ix1 e) * Ideal.ofBits FTy.f32 0x3F24FD5C#32 := by
  pointwise [rN]

theorem flat_apply (X : FVec Ideal S4x2176x4x2x256 .f32) (b : Fin 4) (q : Fin 2176) (x : Fin 2048) :
    (shapeCast S4x2176x2048 X shapeCasts_S4x2176x4x2x256_S4x2176x2048 : FVec Ideal S4x2176x2048 .f32) (ix3 b q x)
      = X (ix5 b q ⟨x.val / 512, by omega⟩ ⟨x.val % 512 / 256, by omega⟩ ⟨x.val % 256, by omega⟩) := by
  pointwise []
  congr 2
  exact Fin.ext (show x.val / 256 % 2 = x.val % 512 / 256 by omega)

section
variable (z : FVec Ideal S4x2176x6144 .f32) (zr : ℕ → ℕ → ℕ → ℝ)
  (hz : ∀ (b : Fin 4) (t : Fin 2176) (x : Fin 6144), z (ix3 b t x) = ((zr b.val t.val x.val : ℝ) : EReal))

/-- A row's scores. -/
abbrev rowSc (b g h c q k : ℕ) : ℝ := sc (zr b q) (fun k x => zr b k (4096 + x)) g h c k

include hz in
theorem score_row (b : Fin 4) (g : Fin 4) (h c : Fin 2) (q k : Fin 2176) :
    Score (rS z (ix6 b g h c q k)) (if k.val ≤ q.val then Real.exp (rowSc zr b.val g.val h.val c.val q.val k.val) else 0) := by
  rw [rS_apply]
  by_cases hk : k.val ≤ q.val
  · rw [(WordCmp.cmpi_sle_ofNat_eq_one_iff (by omega) (by omega)).mpr hk, if_pos hk]
    refine .inl ⟨_, ?_, rfl⟩
    show (∑ x : Fin 128, z (ix3 b k ⟨4096 + (g.val * 256 + c.val * 128 + x.val), by omega⟩) * z (ix3 b q ⟨g.val * 512 + h.val * 256 + c.val * 128 + x.val, by omega⟩))
        * Ideal.ofBits FTy.f32 1035273459#32 = _
    unfold rowSc sc
    rw [scale_eq, EReal.coe_mul, coe_sum]
    congr 1
    refine Finset.sum_congr rfl fun x _ => ?_
    rw [hz, hz, ← EReal.coe_mul, mul_comm]
    congr 3 <;> ring_nf
  · rw [(WordCmp.cmpi_sle_ofNat_eq_zero_iff (by omega) (by omega)).mpr hk, if_neg hk]
    exact .inr ⟨rfl, rfl⟩

include hz in
theorem weight_row (b : Fin 4) (g : Fin 4) (h c : Fin 2) (q k : Fin 2176) :
    rP (rE (rS z)) (ix6 b g h c q k)
      = (((if k.val ≤ q.val then Real.exp (rowSc zr b.val g.val h.val c.val q.val k.val) else 0) / wsum (rowSc zr b.val g.val h.val c.val q.val) q.val : ℝ) : EReal) := by
  have hW : (∑ t : Fin 2176, if t.val ≤ q.val then Real.exp (rowSc zr b.val g.val h.val c.val q.val t.val) else 0) = wsum (rowSc zr b.val g.val h.val c.val q.val) q.val := by
    rw [← Finset.sum_range fun t => if t ≤ q.val then Real.exp (rowSc zr b.val g.val h.val c.val q.val t) else 0, sum_trunc _ q.isLt]
    rfl
  have h1 : ∃ t : Fin 2176, rS z (ix6 b g h c q t) ≠ ⊥ := by
    refine ⟨q, fun e => ?_⟩
    rcases score_row z zr hz b g h c q q with ⟨s, hs, _⟩ | ⟨_, h0⟩
    · exact EReal.coe_ne_bot s (hs.symm.trans e)
    · rw [if_pos le_rfl] at h0
      exact absurd h0 (Real.exp_pos _).ne'
  have s := softmax_real (fun t : Fin 2176 => rS z (ix6 b g h c q t)) _ (score_row z zr hz b g h c q) h1 (by rw [hW]; exact wsum_pos _ _) k
  rw [hW] at s
  rw [rP_apply, rE_apply, rW_apply, rM_apply]
  simp only [rE_apply, rM_apply]
  exact s

/-- The weighted values of a row, over the numbers. -/
theorem mean_row (s0 s1 v : ℕ → ℝ) (l : ℝ) (q : Fin 2176) :
    ∑ x : Fin 2176, v x.val * ((if x.val ≤ q.val then Real.exp (s0 x.val) else 0) / wsum s0 q.val - l * ((if x.val ≤ q.val then Real.exp (s1 x.val) else 0) / wsum s1 q.val))
      = xsum s0 v q.val / wsum s0 q.val - l * (xsum s1 v q.val / wsum s1 q.val) := by
  have hX : ∀ s : ℕ → ℝ, xsum s v q.val = ∑ x : Fin 2176, v x.val * (if x.val ≤ q.val then Real.exp (s x.val) else 0) := by
    intro s
    rw [← Finset.sum_range fun t => v t * (if t ≤ q.val then Real.exp (s t) else 0)]
    unfold xsum
    rw [← sum_trunc _ q.isLt]
    refine Finset.sum_congr rfl fun k _ => ?_
    split <;> ring
  rw [hX, hX, Finset.sum_div, Finset.sum_div, Finset.mul_sum, ← Finset.sum_sub_distrib]
  exact Finset.sum_congr rfl fun x _ => by ring

variable (p : FVec Ideal S4x128 .f32) (l : ℝ) (hl : rL p ix0 = ((l : ℝ) : EReal))

include hz hl in
theorem rO_row (b : Fin 4) (q : Fin 2176) (g : Fin 4) (h : Fin 2) (e : Fin 256) :
    rO (rA (rP (rE (rS z))) (rL p)) z (ix5 b q g h e)
      = ((dif (zr b.val q.val) (fun k x => zr b.val k (4096 + x)) (fun k x => zr b.val k (5120 + x)) l q.val g.val h.val e.val : ℝ) : EReal) := by
  rw [rO_apply]
  unfold dif att
  rw [← mean_row, coe_sum]
  refine Finset.sum_congr rfl fun x _ => ?_
  rw [rA_apply, weight_row z zr hz, weight_row z zr hz, hl, hz, ← EReal.coe_mul, ← EReal.coe_sub, ← EReal.coe_mul]
  have ev : 5120 + (g.val * 256 + e.val) = 5120 + (256 * g.val + e.val) := by ring
  simp only [ev]
  rfl

/-- The result at a position. -/
def outF (gn : FVec Ideal S256 .f32) (b q x : ℕ) : EReal :=
  outv (zr b q) (fun k x => zr b k (4096 + x)) (fun k x => zr b k (5120 + x)) l (gn (ix1 ⟨x % 256, Nat.mod_lt _ (by decide)⟩)) q (x / 512) (x % 512 / 256) (x % 256)

include hz hl in
theorem rOut_at (gn : FVec Ideal S256 .f32) (b : Fin 4) (q : Fin 2176) (x : Fin 2048) : rOut z p gn (ix3 b q x) = outF zr l gn b.val q.val x.val := by
  unfold rOut
  rw [flat_apply, rN_apply, rQ_apply]
  simp only [rO_row z zr hz p l hl]
  rfl

end

end Cert.ReferenceIdeal.AttnRef

end
-- ==== Proof.AttnFinal.lean ====
module

public import proofs.«01_k».proof.Proof.Block
public import proofs.«01_k».proof.Proof.RefRow
public import Idealize.ShloMosaic.Lib.Claim

@[expose] public section

/-!
# The kernel's result

The scratch buffers at every point hold the keys and values of the point's batch, so each point's block of results
is its tile of the function the reference computes.
-/

set_option maxRecDepth 16384

noncomputable section

namespace Cert.KernelIdeal.Body

open Cert.Attn Cert.KernelIdeal Cert.KernelIdeal.Gen Idealize.ShloMosaic Idealize.ShloMosaic.TcCoe Idealize.SL.Sem
open Cert.ReferenceIdeal.AttnRef (rL rOut rOut_at outF)

theorem idx : ∀ t : Fin cfg0.N, win0_0.index t = ![t.val / 17, t.val % 17, 0] ∧ win0_1.index t = ![t.val / 17, 0, 4] ∧ win0_2.index t = ![t.val / 17, 0, 5]
    ∧ win0_3.index t = ![0, 0] ∧ win0_4.index t = ![0, 0] ∧ win0_5.index t = ![t.val / 17, t.val % 17, 0] :=
  (by decide +kernel : ∀ t : Fin grid0.N, _)

theorem pos : ∀ t : Fin cfg0.N, ((grid0.coords t) 1).val = t.val % 17 :=
  (by decide +kernel : ∀ t : Fin grid0.N, _)

theorem batch_lt (t : Fin cfg0.N) : t.val / 17 < 4 := by
  have h : t.val < 68 := t.isLt
  omega

theorem lam_eq (x : FVec Ideal S4x128 .f32) : k0_pay33 x (ix2 0 0) = rL x ix0 := by
  pointwise [k0_pay33, rL]

section
variable (m : (ℓ : Loc nD τ sig) → Buf (Elt Ideal) ℓ) (c : Dev nD)

theorem queries_at (t : Fin cfg0.N) (q : Fin 128) (x : Fin 2048) : (iblk m c 0 t : S1x128x2048.Idx → EReal) (ix3 0 q x)
    = (m ((c : Thread nD τ).loc main_arg0) : S4x2176x6144.Idx → EReal) (ix3 ⟨t.val / 17, batch_lt t⟩ ⟨128 * (t.val % 17) + q.val, by omega⟩ ⟨x.val, by omega⟩) := by
  blk_point [iblk, V, idx t]

theorem keys_at (t : Fin cfg0.N) (k : Fin 2176) (x : Fin 1024) : (iblk m c 1 t : S1x2176x1024.Idx → EReal) (ix3 0 k x)
    = (m ((c : Thread nD τ).loc main_arg0) : S4x2176x6144.Idx → EReal) (ix3 ⟨t.val / 17, batch_lt t⟩ k ⟨4096 + x.val, by omega⟩) := by
  blk_point [iblk, V, idx t]

theorem values_at (t : Fin cfg0.N) (k : Fin 2176) (x : Fin 1024) : (iblk m c 2 t : S1x2176x1024.Idx → EReal) (ix3 0 k x)
    = (m ((c : Thread nD τ).loc main_arg0) : S4x2176x6144.Idx → EReal) (ix3 ⟨t.val / 17, batch_lt t⟩ k ⟨5120 + x.val, by omega⟩) := by
  blk_point [iblk, V, idx t]

theorem params_at (t : Fin cfg0.N) (a : Fin 4) (b : Fin 128) : (iblk m c 3 t : S4x128.Idx → EReal) (ix2 a b)
    = (m ((c : Thread nD τ).loc main_arg1) : S4x128.Idx → EReal) (ix2 a b) := by
  blk_point [iblk, V, idx t]

theorem gain_at (t : Fin cfg0.N) (e : Fin 256) : (iblk m c 4 t : S1x256.Idx → EReal) (ix2 0 e)
    = (m ((c : Thread nD τ).loc main_arg2) : S256.Idx → EReal) (ix1 e) := by
  blk_point [iblk, V, idx t]

theorem place_at (t : Fin cfg0.N) (G : S4x2176x2048.Idx → EReal) (y1 : Fin 128) (y2 : Fin 2048) :
    G (((cfg0.win 5).blk t).view.emb (ix3 0 y1 y2)) = G (ix3 ⟨t.val / 17, batch_lt t⟩ ⟨128 * (t.val % 17) + y1.val, by omega⟩ y2) := by
  blk_point [idx t]

variable (zr : ℕ → ℕ → ℕ → ℝ)
  (hz : ∀ (b : Fin 4) (t : Fin 2176) (x : Fin 6144), (m ((c : Thread nD τ).loc main_arg0) : S4x2176x6144.Idx → EReal) (ix3 b t x) = ((zr b.val t.val x.val : ℝ) : EReal))
  (h0 : ∀ b t x, 2176 ≤ t → zr b t x = 0)

include hz h0 in
theorem fillK_at (t : Fin cfg0.N) (s : Fin 8) (k : Fin 2304) (d : Fin 128) :
    (fillK (iblk m c 1 t) : S8x2304x128.Idx → EReal) (ix3 s k d) = ((zr (t.val / 17) k.val (4096 + (s.val * 128 + d.val)) : ℝ) : EReal) := by
  by_cases hk : k.val < 2176
  · refine (dif_pos hk).trans ?_
    refine (keys_at m c t ⟨k.val, hk⟩ ⟨128 * s.val + d.val, by omega⟩).trans ?_
    refine (hz _ _ _).trans ?_
    show ((zr (t.val / 17) k.val (4096 + (128 * s.val + d.val)) : ℝ) : EReal) = _
    rw [mul_comm 128 s.val]
  · refine (dif_neg hk).trans ?_
    rw [h0 _ _ _ (by omega)]
    exact Ideal.ofBits_zero .bf16

include hz h0 in
theorem fillV_at (t : Fin cfg0.N) (s : Fin 4) (k : Fin 2304) (e : Fin 256) :
    (fillV (iblk m c 2 t) : S4x2304x256.Idx → EReal) (ix3 s k e) = ((zr (t.val / 17) k.val (5120 + (256 * s.val + e.val)) : ℝ) : EReal) := by
  by_cases hk : k.val < 2176
  · refine (dif_pos hk).trans ?_
    refine (values_at m c t ⟨k.val, hk⟩ ⟨256 * s.val + e.val, by omega⟩).trans ?_
    rw [hz]
  · refine (dif_neg hk).trans ?_
    rw [h0 _ _ _ (by omega)]
    exact Ideal.ofBits_zero .bf16

include hz h0 in
theorem keysAt_at (s : Fin 8) (k : Fin 2304) (d : Fin 128) : ∀ (n : ℕ) (hn : n < cfg0.N),
    (keysAt m c n hn : S8x2304x128.Idx → EReal) (ix3 s k d) = ((zr (n / 17) k.val (4096 + (s.val * 128 + d.val)) : ℝ) : EReal)
  | 0, hn => fillK_at m c zr hz h0 ⟨0, hn⟩ s k d
  | n + 1, hn => by
    have hp := pos ⟨n + 1, hn⟩
    show (fillIfK (grid0.coords ⟨n + 1, hn⟩) (keysAt m c n (Nat.lt_of_succ_lt hn)) (iblk m c 1 ⟨n + 1, hn⟩) : S8x2304x128.Idx → EReal) (ix3 s k d) = _
    unfold fillIfK
    by_cases h : ((grid0.coords (⟨n + 1, hn⟩ : Fin cfg0.N)) 1).val = 0
    · rw [if_pos h]
      exact fillK_at m c zr hz h0 ⟨n + 1, hn⟩ s k d
    · rw [if_neg h, keysAt_at s k d n (Nat.lt_of_succ_lt hn)]
      have e : (n + 1) / 17 = n / 17 := by
        rw [hp] at h
        simp only at h
        omega
      rw [e]

include hz h0 in
theorem valsAt_at (s : Fin 4) (k : Fin 2304) (d : Fin 256) : ∀ (n : ℕ) (hn : n < cfg0.N),
    (valsAt m c n hn : S4x2304x256.Idx → EReal) (ix3 s k d) = ((zr (n / 17) k.val (5120 + (256 * s.val + d.val)) : ℝ) : EReal)
  | 0, hn => fillV_at m c zr hz h0 ⟨0, hn⟩ s k d
  | n + 1, hn => by
    have hp := pos ⟨n + 1, hn⟩
    show (fillIfV (grid0.coords ⟨n + 1, hn⟩) (valsAt m c n (Nat.lt_of_succ_lt hn)) (iblk m c 2 ⟨n + 1, hn⟩) : S4x2304x256.Idx → EReal) (ix3 s k d) = _
    unfold fillIfV
    by_cases h : ((grid0.coords (⟨n + 1, hn⟩ : Fin cfg0.N)) 1).val = 0
    · rw [if_pos h]
      exact fillV_at m c zr hz h0 ⟨n + 1, hn⟩ s k d
    · rw [if_neg h, valsAt_at s k d n (Nat.lt_of_succ_lt hn)]
      have e : (n + 1) / 17 = n / 17 := by
        rw [hp] at h
        simp only at h
        omega
      rw [e]

variable (l : ℝ) (hl : rL (m ((c : Thread nD τ).loc main_arg1)) ix0 = ((l : ℝ) : EReal))

include hz h0 hl in
theorem outAt_at (t : Fin cfg0.N) (y1 : Fin 128) (y2 : Fin 2048) :
    (outAt m c t : S1x128x2048.Idx → EReal) (ix3 0 y1 y2)
      = outF zr l (m ((c : Thread nD τ).loc main_arg2)) (t.val / 17) (128 * (t.val % 17) + y1.val) y2.val := by
  have hp : iblk m c 3 t = m ((c : Thread nD τ).loc main_arg1) := by
    funext y
    have e : y = ix2 (y 0) (y 1) := by
      funext a; fin_cases a <;> rfl
    rw [e]
    exact params_at m c t (y 0) (y 1)
  have b := blockOut_at (grid0.coords t) (ms0 t) (hs0 t) (ms3 t) (hs3 t) (ms4 t) (hs4 t) (keysAt m c t.val t.isLt) (valsAt m c t.val t.isLt)
    (iblk m c 0 t) (iblk m c 3 t) (iblk m c 4 t) (fun q x => zr (t.val / 17) (128 * (t.val % 17) + q) x) (fun k x => zr (t.val / 17) k (4096 + x)) (fun k x => zr (t.val / 17) k (5120 + x)) l
    (fun q x => (queries_at m c t q x).trans (hz _ _ _))
    (fun s k d => keysAt_at m c zr hz h0 s k d t.val t.isLt) (fun s k e => valsAt_at m c zr hz h0 s k e t.val t.isLt)
    ((lam_eq _).trans (by rw [hp]; exact hl)) (ix3 0 y1 y2)
  refine b.trans ?_
  unfold blockG outF
  rw [pos t]
  refine congrArg (fun g => outv _ _ _ l g _ _ _ _) ?_
  exact gain_at m c t _

/-- The result array is any function that each point's block is a tile of. -/
theorem final_of (G : FVec Ideal S4x2176x2048 .f32)
    (hG : ∀ (t : Fin cfg0.N) (y1 : Fin 128) (y2 : Fin 2048), (outAt m c t : S1x128x2048.Idx → EReal) (ix3 0 y1 y2)
      = G (ix3 ⟨t.val / 17, batch_lt t⟩ ⟨128 * (t.val % 17) + y1.val, by omega⟩ y2)) :
    (dats m 0 c).arrAt 5 (cfgs 0).N = G := by
  refine (dats m 0 c).arrAt_eq_of_covers 5 _ (by decide +kernel) fun t _ y => ?_
  blk_simp
  rw [after_5]
  have e : y = (ix3 0 (y 1) (y 2) : S1x128x2048.Idx) := by
    funext a; apply Fin.ext; fin_cases a
    · have : (y 0).val < 1 := (y 0).isLt
      show (y 0).val = 0; omega
    · rfl
    · rfl
  rw [e]
  exact (hG t (y 1) (y 2)).trans (place_at t G (y 1) (y 2)).symm

include hz h0 hl in
theorem final : (dats m 0 c).arrAt 5 (cfgs 0).N
    = rOut (m ((c : Thread nD τ).loc main_arg0)) (m ((c : Thread nD τ).loc main_arg1)) (m ((c : Thread nD τ).loc main_arg2)) :=
  final_of m c _ fun t y1 y2 => (outAt_at m c zr hz h0 l hl t y1 y2).trans
    (rOut_at (m ((c : Thread nD τ).loc main_arg0)) zr hz (m ((c : Thread nD τ).loc main_arg1)) l hl (m ((c : Thread nD τ).loc main_arg2)) ⟨t.val / 17, batch_lt t⟩ ⟨128 * (t.val % 17) + y1.val, by omega⟩ y2).symm

end

end Cert.KernelIdeal.Body

end
-- ==== Proof.AttnClaim.lean ====
module

public import proofs.«01_k».proof.Defs
public import proofs.«01_k».proof.Proof.AttnFinal
public import Idealize.ShloMosaic.Lib.Claim

@[expose] public section

/-!
# The attention's claim

Where the arguments are numbers, kernel and reference end with the same array over the extended reals.
-/

set_option maxRecDepth 16384

noncomputable section

namespace Cert.Proof

open Idealize.ShloMosaic Idealize.ShloMosaic.TcCoe Idealize.SL.Sem
open Cert.ReferenceIdeal.AttnRef (rL rL_apply rOut res_eq)

/-- The side conditions the precondition states. -/
instance finiteFacts : Cert.Pre_finite.Facts where
  shapeCasts_S4x2176x6144_S4x2176x48x128 := by decide
  bcast_S_S4x2176x48x128 := by decide
  bcast_S4x128_S4x1x1x128_0_3 := by decide
  bcast_S_S4x1x1x128 := by decide
  bcast_S4x1x1x128_S4x2176x48x128_0_1_2_3 := by decide

theorem real_of_abs_lt {x : EReal} (h : max x (-x) < ⊤) : x = ((x.toReal : ℝ) : EReal) := by
  refine (EReal.coe_toReal ?_ ?_).symm
  · rintro rfl
    simp at h
  · rintro rfl
    simp at h

theorem finite_at (z : FVec Ideal Cert.Pre_finite.S4x2176x6144 .f32) (p : FVec Ideal Cert.Pre_finite.S4x128 .f32) (g : FVec Ideal Cert.Pre_finite.S256 .f32)
    (hp : Cert.Pre_finite.fn z p g = fun _ => 1#1) (b : Fin 4) (t : Fin 2176) (h : Fin 48) (d : Fin 128) :
    (max (z (ix3 b t ⟨h.val * 128 + d.val, by omega⟩) : EReal) (-z (ix3 b t ⟨h.val * 128 + d.val, by omega⟩)) < ⊤)
      ∧ max (p (ix2 b d) : EReal) (-p (ix2 b d)) < ⊤ := by
  have e : Cert.Pre_finite.fn z p g (ix4 b t h d)
      = IntOp.andi (BitVec.ofBool (decide (max (z (ix3 b t ⟨h.val * 128 + d.val, by omega⟩) : EReal) (-z (ix3 b t ⟨h.val * 128 + d.val, by omega⟩)) < ⊤)))
        (BitVec.ofBool (decide (max (p (ix2 b d) : EReal) (-p (ix2 b d)) < ⊤))) := by
    pointwise [Cert.Pre_finite.fn]
    rfl
  rw [hp] at e
  by_cases h1 : max (z (ix3 b t ⟨h.val * 128 + d.val, by omega⟩) : EReal) (-z (ix3 b t ⟨h.val * 128 + d.val, by omega⟩)) < ⊤ <;>
    by_cases h2 : max (p (ix2 b d) : EReal) (-p (ix2 b d)) < ⊤ <;> simp only [h1, h2, decide_true, decide_false] at e
  · exact ⟨h1, h2⟩
  all_goals exact absurd e (by decide)

/-- The factor of the second component is a number. -/
theorem rL_real (p : FVec Ideal Cert.Pre_finite.S4x128 .f32) (hp : ∀ a b, ∃ r : ℝ, p (ix2 a b) = (r : EReal)) : ∃ l : ℝ, rL p ix0 = (l : EReal) := by
  choose r hr using hp
  obtain ⟨k, hk⟩ : ∃ k : ℝ, Ideal.ofBits FTy.f32 1052116297#32 = k := ⟨_, rfl⟩
  rw [rL_apply, hk]
  simp only [hr, ← EReal.coe_mul, ← Cert.Attn.coe_sum, Ideal.exp_coe, ← EReal.coe_sub, ← EReal.coe_add]
  exact ⟨_, rfl⟩

/-- The entries as numbers, zero outside the array. -/
def entries (z : FVec Ideal Cert.Pre_finite.S4x2176x6144 .f32) (b t x : ℕ) : ℝ :=
  if h : b < 4 ∧ t < 2176 ∧ x < 6144 then (z (ix3 ⟨b, h.1⟩ ⟨t, h.2.1⟩ ⟨x, h.2.2⟩) : EReal).toReal else 0

theorem attn_value (m : (ℓ : Loc Cert.KernelIdeal.nD Cert.KernelIdeal.τ Cert.KernelIdeal.sig) → Buf (Elt Ideal) ℓ) (c : Dev Cert.KernelIdeal.nD)
    (hp : Cert.Pre_KernelIdeal_finite m) :
    (Cert.KernelIdeal.Body.dats m 0 c).arrAt 5 (Cert.KernelIdeal.cfgs 0).N
      = rOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  have f := finite_at _ _ _ (hp c)
  obtain ⟨l, hl⟩ := rL_real _ fun a b => ⟨_, real_of_abs_lt (f a 0 0 b).2⟩
  refine Cert.KernelIdeal.Body.final m c (entries (m ((c.tc : Thread Cert.KernelIdeal.nD Cert.KernelIdeal.τ).loc Cert.KernelIdeal.main_arg0))) (fun b t x => ?_) (fun b t x h => ?_) l hl
  · have e : (entries (m ((c.tc : Thread Cert.KernelIdeal.nD Cert.KernelIdeal.τ).loc Cert.KernelIdeal.main_arg0)) b.val t.val x.val)
        = ((m ((c.tc : Thread Cert.KernelIdeal.nD Cert.KernelIdeal.τ).loc Cert.KernelIdeal.main_arg0) : Cert.Pre_finite.S4x2176x6144.Idx → EReal) (ix3 b t x)).toReal := dif_pos ⟨b.isLt, t.isLt, x.isLt⟩
    rw [e]
    refine real_of_abs_lt ?_
    have ex : x = ⟨x.val / 128 * 128 + x.val % 128, by omega⟩ := Fin.ext (by simp only; omega)
    have := (f b t ⟨x.val / 128, by omega⟩ ⟨x.val % 128, by omega⟩).1
    rw [ex]
    exact this
  · exact dif_neg fun h' => by omega

theorem algebraicAttn : Cert.algebraic_KernelIdeal_ReferenceIdeal_pre_finite := by
  pair_intro
  · run_from Cert.KernelIdeal.Body.run_main m g
  · run_from Cert.ReferenceIdeal.Value.run m' g'
    rw [attn_value m c hpre, res_eq, (hagree c).1, (hagree c).2.1, (hagree c).2.2]

theorem frame_ref : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

theorem preservesAttn : Cert.preserves_Kernel_KernelIdeal :=
  IdealRules.named_const.statement Cert.KernelIdeal.κ "mask" .f32 0xF149F2CA#32 ⊥ rfl

end Cert.Proof

end
-- ==== Proof.OutValue.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Kernel2Ideal.OutProj

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, 0] ∧ win0_1.index t = ![t.val / 4, 1] ∧ win0_2.index t = ![0, t.val % 4]
    ∧ win0_3.index t = ![t.val / 4, t.val % 4] ∧ win0_4.index t = ![t.val / 4, t.val % 4] :=
  (by decide +kernel : ∀ t : Fin grid0.N, _)

theorem out_A (c : Dev nD) (t : Fin cfg0.N) (h0 : t.val % 4 = 0) :
    (outsAt0 m c t.val t.isLt).1 = k0_pay2 (iblk m c 3 t) (k0_pay1 (iblk m c 1 t) (iblk m c 0 t)) (iblk m c 2 t) := by
  rw [outsAt0_A m c t h0]
  frame_out

theorem scr_A (c : Dev nD) (t : Fin cfg0.N) (h0 : t.val % 4 = 0) :
    (outsAt0 m c t.val t.isLt).2 = k0_pay1 (iblk m c 1 t) (iblk m c 0 t) := by
  rw [outsAt0_A m c t h0]
  frame_out

theorem out_B (c : Dev nD) (t : Fin cfg0.N) (h0 : ¬ t.val % 4 = 0) :
    (outsAt0 m c t.val t.isLt).1 = k0_pay2 (iblk m c 3 t) (outsAt0 m c (t.val - 1) (by have := t.isLt; omega)).2 (iblk m c 2 t) := by
  rw [outsAt0_B m c t h0]
  frame_out
  exact congrArg (fun v => k0_pay2 (iblk m c 3 t) v (iblk m c 2 t)) ((Memref.isWhole_whole cc0_scratch0).read_unread _)

theorem scr_B (c : Dev nD) (t : Fin cfg0.N) (h0 : ¬ t.val % 4 = 0) :
    (outsAt0 m c t.val t.isLt).2 = (outsAt0 m c (t.val - 1) (by have := t.isLt; omega)).2 := by
  rw [outsAt0_B m c t h0]
  unfold sout0_B_0
  dsimp only

theorem scr (c : Dev nD) : ∀ (q k : ℕ) (hk : k < 4) (h : 4 * q + k < cfg0.N) (h' : 4 * q < cfg0.N),
    (outsAt0 m c (4 * q + k) h).2 = k0_pay1 (iblk m c 1 ⟨4 * q, h'⟩) (iblk m c 0 ⟨4 * q, h'⟩)
  | q, 0, _, _, h' => scr_A m c ⟨4 * q, h'⟩ (by simp only; omega)
  | q, k + 1, hk, h, h' => (scr_B m c ⟨4 * q + (k + 1), h⟩ (by simp only; omega)).trans (scr c q k (by omega) _ h')

/-- the first point of a row block -/
def head (t : Fin cfg0.N) : Fin cfg0.N := ⟨4 * (t.val / 4), by have := t.isLt; omega⟩

theorem out_eq (c : Dev nD) (t : Fin cfg0.N) :
    (outsAt0 m c t.val t.isLt).1 = k0_pay2 (iblk m c 3 t) (k0_pay1 (iblk m c 1 (head t)) (iblk m c 0 (head t))) (iblk m c 2 t) := by
  by_cases h0 : t.val % 4 = 0
  · have e : head t = t := Fin.ext (show 4 * (t.val / 4) = t.val by omega)
    rw [out_A m c t h0, e]
  · rw [out_B m c t h0]
    have e : ∀ h, (outsAt0 m c (t.val - 1) h).2 = k0_pay1 (iblk m c 1 (head t)) (iblk m c 0 (head t)) := by
      have e1 : t.val - 1 = 4 * (t.val / 4) + (t.val % 4 - 1) := by omega
      rw [e1]
      intro h
      exact scr m c (t.val / 4) (t.val % 4 - 1) (by omega) h (head t).isLt
    rw [e]

/-- What the call computes: the residual plus the gated rows times the output matrix. -/
def REF (o : FVec Ideal S8704x2048 .f32) (z : FVec Ideal S8704x6144 .f32) (w : FVec Ideal S2048x2048 .f32) (x : FVec Ideal S8704x2048 .f32) :
    FVec Ideal S8704x2048 .f32 :=
  addf x (Host.dotGeneral Cert.Reference2Ideal.dot_S8704x2048_S2048x2048_S8704x2048_1_0_0_1_n_n none (mulf o (mulf (extractStridedSlice S8704x2048 ![0, 2048] z Cert.Reference2Ideal.Gen.slices_S8704x6144_S8704x2048_0_2048) (Host.divf (broadcastInDim S8704x2048 ![] Cert.Reference2Ideal.Gen.bcast_S_S8704x2048 (constant Cert.Reference2Ideal.S_ .f32 0x3F800000#32)) (addf (broadcastInDim S8704x2048 ![] Cert.Reference2Ideal.Gen.bcast_S_S8704x2048 (constant Cert.Reference2Ideal.S_ .f32 0x3F800000#32)) (Host.exp (Host.negf (extractStridedSlice S8704x2048 ![0, 2048] z Cert.Reference2Ideal.Gen.slices_S8704x6144_S8704x2048_0_2048))))))) w)

theorem point (c : Dev nD) (t : Fin cfg0.N) (y : S544x512.Idx) :
    k0_pay2 (iblk m c 3 t) (k0_pay1 (iblk m c 1 (head t)) (iblk m c 0 (head t))) (iblk m c 2 t) y
      = REF (m ((c : Thread nD τ).loc main_arg0)) (m ((c : Thread nD τ).loc main_arg1)) (m ((c : Thread nD τ).loc main_arg2))
          (m ((c : Thread nD τ).loc main_arg3)) (((cfg0.win 4).blk t).view.emb y) := by
  have hh : (head t).val = 4 * (t.val / 4) := rfl
  pointwise [k0_pay1, k0_pay2, REF]
  unfold Ideal.logistic
  blk_point [iblk, V, idx t, idx (head t), hh]

theorem final (c : Dev nD) : (dats m 0 c).arrAt 4 (cfgs 0).N
    = REF (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4, out_eq]
  exact point m c t y

end Cert.Kernel2Ideal.OutProj

end
-- ==== Proof.OutClaim.lean ====
module

public import proofs.«01_k».proof.Defs
public import proofs.«01_k».proof.Proof.OutValue
public import Idealize.ShloMosaic.Lib.Claim

@[expose] public section

set_option maxRecDepth 16384

noncomputable section

namespace Cert.Proof

open Idealize.ShloMosaic Idealize.ShloMosaic.TcCoe Idealize.SL.Sem

/-- The output projection: kernel and reference end with the same array over the reals. -/
theorem algebraicOut : Cert.algebraic_Kernel2Ideal_Reference2Ideal := by
  pair_intro
  · run_from Cert.Kernel2Ideal.Gen.run_main m g
  · run_from Cert.Reference2Ideal.Value.run m' g'
    exact (Cert.Kernel2Ideal.OutProj.final m c).symm

end Cert.Proof

end
-- ==== Proof.InLaunch.lean ====
module

public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Kernel3Ideal.InProj

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The block of each window at every point: 24 points per block of 1088 rows, two of which make one prompt. -/
theorem idx : ∀ t : Fin cfg0.N, win0_0.index t = ![t.val / 24, 0] ∧ win0_1.index t = ![0, 0] ∧ win0_2.index t = ![0, t.val % 24]
    ∧ win0_3.index t = ![0, t.val / 24 % 2, 0] ∧ win0_4.index t = ![1, t.val / 24 % 2, 0] ∧ win0_5.index t = ![2, t.val / 24 % 2, 0]
    ∧ win0_6.index t = ![t.val / 24, t.val % 24] :=
  (by decide +kernel : ∀ t : Fin grid0.N, _)

/-- The points whose columns are rotated: the queries' and the keys'. -/
def Rot (n : ℕ) : Prop := n < 8 ∨ (16 ≤ n ∧ n < 20)

/-- One row of 128 columns rotated: the columns times the cosines, the columns 16 to the left and 16 to the right
    times the two tables of sines. -/
def rot (v a b d : Fin 128 → EReal) (j : Fin 128) : EReal :=
  v j * a j + v ⟨(j.val + 112) % 128, Nat.mod_lt _ (by decide)⟩ * b j + v ⟨(j.val + 16) % 128, Nat.mod_lt _ (by decide)⟩ * d j

/-- A rotated block at row `r` and column `p` of its 256. -/
def rotated (h : Vec Ideal S1088x2048 .bf16) (w : Vec Ideal S2048x256 .bf16) (a b d : Vec Ideal S1x1088x128 .f32) (y : S1088x256.Idx) : EReal :=
  rot (fun j => k0_pay2 (F := Ideal) h w (ix2 (y 0) ⟨128 * ((y 1).val / 128) + j.val, by have : (y 1).val < 256 := (y 1).isLt; show _ < 256; omega⟩))
    (fun j => a (ix3 0 (y 0) j)) (fun j => b (ix3 0 (y 0) j)) (fun j => d (ix3 0 (y 0) j)) ⟨(y 1).val % 128, Nat.mod_lt _ (by decide)⟩

theorem pay6_apply (h : Vec Ideal S1088x2048 .bf16) (w : Vec Ideal S2048x256 .bf16) (a b d : Vec Ideal S1x1088x128 .f32) (x : S1088x128.Idx)
    (y : S1088x256.Idx) (h0 : (y 0).val = (x 0).val) (h1 : (y 1).val = (x 1).val) : k0_pay6 (F := Ideal) h w a b d x = rotated h w a b d y := by
  unfold k0_pay6 rotated rot
  generalize k0_pay2 h w = z
  pointwise [k0_pay3, k0_pay4, k0_pay5]
  have l1 : (x 1).val < 128 := (x 1).isLt
  have e0 : y 0 = x 0 := Fin.ext h0
  have e1 : (⟨(y 1).val % 128, Nat.mod_lt _ (by decide)⟩ : Fin 128) = x 1 := Fin.ext (by show (y 1).val % 128 = (x 1).val; omega)
  rw [e0]
  refine congrArg₂ (· + ·) (congrArg₂ (· + ·) (congrArg₂ (· * ·) (congrArg z (congrArg (ix2 _) (Fin.ext ?_))) (congrArg a (congrArg (ix3 0 _) e1.symm)))
    (congrArg₂ (· * ·) (congrArg z (congrArg (ix2 _) (Fin.ext ?_))) (congrArg b (congrArg (ix3 0 _) e1.symm))))
    (congrArg₂ (· * ·) (congrArg z (congrArg (ix2 _) (Fin.ext ?_))) (congrArg d (congrArg (ix3 0 _) e1.symm))) <;> (dsimp only; omega)

theorem pay7_apply (h : Vec Ideal S1088x2048 .bf16) (w : Vec Ideal S2048x256 .bf16) (a b d : Vec Ideal S1x1088x128 .f32) (x : S1088x128.Idx)
    (y : S1088x256.Idx) (h0 : (y 0).val = (x 0).val) (h1 : (y 1).val = 128 + (x 1).val) : k0_pay7 (F := Ideal) h w a b d x = rotated h w a b d y := by
  unfold k0_pay7 rotated rot
  generalize k0_pay2 h w = z
  pointwise [k0_pay3, k0_pay4, k0_pay5]
  have l1 : (x 1).val < 128 := (x 1).isLt
  have e0 : y 0 = x 0 := Fin.ext h0
  have e1 : (⟨(y 1).val % 128, Nat.mod_lt _ (by decide)⟩ : Fin 128) = x 1 := Fin.ext (by show (y 1).val % 128 = (x 1).val; omega)
  rw [e0]
  refine congrArg₂ (· + ·) (congrArg₂ (· + ·) (congrArg₂ (· * ·) (congrArg z (congrArg (ix2 _) (Fin.ext ?_))) (congrArg a (congrArg (ix3 0 _) e1.symm)))
    (congrArg₂ (· * ·) (congrArg z (congrArg (ix2 _) (Fin.ext ?_))) (congrArg b (congrArg (ix3 0 _) e1.symm))))
    (congrArg₂ (· * ·) (congrArg z (congrArg (ix2 _) (Fin.ext ?_))) (congrArg d (congrArg (ix3 0 _) e1.symm))) <;> (dsimp only; omega)

theorem scr_A (c : Dev nD) (t : Fin cfg0.N) (h0 : t.val % 24 = 0) :
    (outsAt0 m c t.val t.isLt).2 = k0_pay1 (iblk m c 0 t) (iblk m c 1 t) := by
  rw [outsAt0_A m c t h0 (by omega) (by omega)]
  frame_out

theorem scr_BC (c : Dev nD) (t : Fin cfg0.N) (h0 : ¬ t.val % 24 = 0) :
    (outsAt0 m c t.val t.isLt).2 = (outsAt0 m c (t.val - 1) (by have := t.isLt; omega)).2 := by
  by_cases h1 : Rot (t.val % 24)
  · rw [outsAt0_B m c t h0 (by unfold Rot at h1; omega) (by unfold Rot at h1; omega)]
    unfold sout0_B_0
    dsimp only
  · rw [outsAt0_C m c t h0 (by unfold Rot at h1; omega) (by unfold Rot at h1; omega)]
    unfold sout0_C_0
    dsimp only

theorem scr (c : Dev nD) : ∀ (q k : ℕ) (hk : k < 24) (h : 24 * q + k < cfg0.N) (h' : 24 * q < cfg0.N),
    (outsAt0 m c (24 * q + k) h).2 = k0_pay1 (iblk m c 0 ⟨24 * q, h'⟩) (iblk m c 1 ⟨24 * q, h'⟩)
  | q, 0, _, _, h' => scr_A m c ⟨24 * q, h'⟩ (by simp only; omega)
  | q, k + 1, hk, h, h' => (scr_BC m c ⟨24 * q + (k + 1), h⟩ (by simp only; omega)).trans (scr c q k (by omega) _ h')

/-- the first point of a row block -/
def head (t : Fin cfg0.N) : Fin cfg0.N := ⟨24 * (t.val / 24), by have := t.isLt; omega⟩

/-- The normalised rows every point of a row block multiplies. -/
def rows (c : Dev nD) (t : Fin cfg0.N) : Vec Ideal S1088x2048 .bf16 := k0_pay1 (F := Ideal) (iblk m c 0 (head t)) (iblk m c 1 (head t))

theorem before_eq (c : Dev nD) (t : Fin cfg0.N) (h0 : ¬ t.val % 24 = 0) (h) : (outsAt0 m c (t.val - 1) h).2 = rows m c t := by
  revert h
  have e1 : t.val - 1 = 24 * (t.val / 24) + (t.val % 24 - 1) := by omega
  rw [e1]
  intro h
  exact scr m c (t.val / 24) (t.val % 24 - 1) (by omega) h (head t).isLt

theorem out_C (c : Dev nD) (t : Fin cfg0.N) (h1 : ¬ Rot (t.val % 24)) :
    (outsAt0 m c t.val t.isLt).1 = k0_pay2 (rows m c t) (iblk m c 2 t) := by
  unfold Rot at h1
  rw [outsAt0_C m c t (by omega) (by omega) (by omega), before_eq m c t (by omega)]
  frame_out
  exact congrArg (fun v => k0_pay2 v (iblk m c 2 t)) ((Memref.isWhole_whole cc0_scratch0).read_unread _)

theorem out_A (c : Dev nD) (t : Fin cfg0.N) (ht : t.val % 24 = 0) (y : S1088x256.Idx) :
    (outsAt0 m c t.val t.isLt).1 y = rotated (rows m c t) (iblk m c 2 t) (iblk m c 3 t) (iblk m c 4 t) (iblk m c 5 t) y := by
  have e : head t = t := Fin.ext (show 24 * (t.val / 24) = t.val by omega)
  rw [outsAt0_A m c t ht (by omega) (by omega)]
  unfold rows
  rw [e]
  frame_out
  canon_tiles x h
  · exact pay7_apply _ _ _ _ _ _ _ h0 h1
  · exact pay6_apply _ _ _ _ _ _ _ h0 h1

theorem out_B (c : Dev nD) (t : Fin cfg0.N) (ht : ¬ t.val % 24 = 0) (hR : Rot (t.val % 24)) (y : S1088x256.Idx) :
    (outsAt0 m c t.val t.isLt).1 y = rotated (rows m c t) (iblk m c 2 t) (iblk m c 3 t) (iblk m c 4 t) (iblk m c 5 t) y := by
  unfold Rot at hR
  rw [outsAt0_B m c t ht (by omega) (by omega), before_eq m c t ht]
  frame_out
  have er := (Memref.isWhole_whole cc0_scratch0).read_unread (rows m c t)
  canon_tiles x h
  · exact (congrArg (fun v => k0_pay7 (F := Ideal) v (iblk m c 2 t) (iblk m c 3 t) (iblk m c 4 t) (iblk m c 5 t) x) er).trans (pay7_apply _ _ _ _ _ _ _ h0 h1)
  · exact (congrArg (fun v => k0_pay6 (F := Ideal) v (iblk m c 2 t) (iblk m c 3 t) (iblk m c 4 t) (iblk m c 5 t) x) er).trans (pay6_apply _ _ _ _ _ _ _ h0 h1)

end Cert.Kernel3Ideal.InProj

end
-- ==== Proof.InTables.lean ====
module

public import proofs.«01_k».proof.Proof.InLaunch
public import Idealize.ShloMosaic.Lib.StableHlo.ReadAt

@[expose] public section

set_option maxRecDepth 16384

noncomputable section

namespace Cert.Rope

open Idealize.ShloMosaic

/-- The angle of pair `k` at position `r`: the position times the base to the power `-k/16`. -/
def ang (r k : ℕ) : EReal :=
  (FloatOps.sitofp (F := Ideal) .f32 (BitVec.ofNat 32 r) : EReal) * Ideal.pow (Ideal.ofBits .f32 1223959552#32)
    (-(FloatOps.sitofp (F := Ideal) .f32 (BitVec.ofNat 32 k) : EReal) * Ideal.ofBits .f32 1031798784#32)

/-- The rotary embedding of one head at position `r`: the first 16 columns and the next 16 turned into each other, the rest kept. -/
def rope (r : ℕ) (v : Fin 128 → EReal) (j : Fin 128) : EReal :=
  if h : j.val < 16 then v j * Ideal.cos (ang r j.val) - v ⟨j.val + 16, by omega⟩ * Ideal.sin (ang r j.val)
  else if j.val < 32 then v ⟨j.val - 16, by omega⟩ * Ideal.sin (ang r (j.val - 16)) + v j * Ideal.cos (ang r (j.val - 16))
  else v j

/-- The table of cosines, with ones past the rotated columns. -/
def cosT (r : ℕ) (j : Fin 128) : EReal :=
  if j.val < 16 then Ideal.cos (ang r j.val) else if j.val < 32 then Ideal.cos (ang r (j.val - 16)) else 1

/-- The table of sines that multiplies the columns 16 to the left. -/
def leftT (r : ℕ) (j : Fin 128) : EReal :=
  if j.val < 16 then 0 else if j.val < 32 then Ideal.sin (ang r (j.val - 16)) else 0

/-- The table of sines that multiplies the columns 16 to the right. -/
def rightT (r : ℕ) (j : Fin 128) : EReal :=
  if j.val < 16 then -Ideal.sin (ang r j.val) else 0

/-- The place of an output column among the columns of the given weights: the gate comes last there, second here. -/
def perm (j : Fin 6144) : Fin 6144 :=
  ⟨if j.val < 2048 then j.val else if j.val < 4096 then j.val + 2048 else j.val - 2048, by have := j.isLt; split_ifs <;> omega⟩

/-- The call's result at row `i` and column `j` from the rows times the weights: queries and keys rotated, gate and values as they are. -/
def G (z : Fin 8704 → Fin 6144 → EReal) (i : Fin 8704) (j : Fin 6144) : EReal :=
  if j.val < 2048 ∨ (4096 ≤ j.val ∧ j.val < 5120) then
    rope (i.val % 2176) (fun k => z i (perm ⟨128 * (j.val / 128) + k.val, by have := j.isLt; have := k.isLt; omega⟩)) ⟨j.val % 128, Nat.mod_lt _ (by decide)⟩
  else z i (perm j)

end Cert.Rope

namespace Cert.Kernel3Ideal.InProj

open Cert.Kernel3Ideal Cert.Kernel3Ideal.Gen Idealize.ShloMosaic Idealize.ShloMosaic.TcCoe Idealize.SL.Sem
open Idealize.ShloMosaic.Pipeline (Dat)
open Cert.Rope

/-- Over the reals the two rotated products with their zeros are the rotary embedding. -/
theorem rot_eq (r : ℕ) (v : Fin 128 → EReal) (j : Fin 128) : rot v (cosT r) (leftT r) (rightT r) j = rope r v j := by
  have hj := j.isLt
  unfold rot cosT leftT rightT rope
  by_cases h1 : j.val < 16
  · have e : (⟨(j.val + 16) % 128, Nat.mod_lt _ (by decide)⟩ : Fin 128) = ⟨j.val + 16, by omega⟩ := Fin.ext (by show (j.val + 16) % 128 = j.val + 16; omega)
    simp only [h1, ↓reduceIte, ↓reduceDIte, mul_zero, add_zero, mul_neg, e, sub_eq_add_neg]
  · by_cases h2 : j.val < 32
    · have e : (⟨(j.val + 112) % 128, Nat.mod_lt _ (by decide)⟩ : Fin 128) = ⟨j.val - 16, by omega⟩ := Fin.ext (by show (j.val + 112) % 128 = j.val - 16; omega)
      simp only [h1, h2, ↓reduceIte, ↓reduceDIte, mul_zero, add_zero, e]
      exact add_comm _ _
    · simp only [h1, h2, ↓reduceIte, ↓reduceDIte, mul_zero, add_zero, mul_one]

variable (m : (ℓ : Loc nD τ sig) → Buf (Elt Ideal) ℓ)

theorem weights (c : Dev nD) (r : Fin 2048) (j : Fin 6144) : (V m c main_v67 (ix2 r j) : EReal) = m ((c : Thread nD τ).loc main_arg2) (ix2 r (perm j)) := by
  unfold V
  after_reads_at
  after_reads_at
  have hj := j.isLt
  unfold perm
  by_cases h1 : j.val < 2048
  · simp only [h1, ↓reduceIte, ↓reduceDIte]
  · by_cases h2 : j.val < 4096
    · have h3 : j.val - 2048 < 2048 := by omega
      simp only [h1, h2, h3, ↓reduceIte, ↓reduceDIte]
      exact congrArg (fun i => m ((c : Thread nD τ).loc main_arg2) (ix2 r i)) (Fin.ext (by show 4096 + (j.val - 2048) = j.val + 2048; omega))
    · have h3 : ¬ j.val - 2048 < 2048 := by omega
      by_cases h4 : j.val - 2048 - 2048 < 1024
      · simp only [h1, h2, h3, h4, ↓reduceIte, ↓reduceDIte]
        exact congrArg (fun i => m ((c : Thread nD τ).loc main_arg2) (ix2 r i)) (Fin.ext (by show 2048 + (j.val - 2048 - 2048) = j.val - 2048; omega))
      · simp only [h1, h2, h3, h4, ↓reduceIte, ↓reduceDIte]
        exact congrArg (fun i => m ((c : Thread nD τ).loc main_arg2) (ix2 r i)) (Fin.ext (by show 3072 + (j.val - 2048 - 2048 - 1024) = j.val - 2048; omega))

theorem tab_cos (c : Dev nD) (r : Fin 2176) (j : Fin 128) : (V m c main_v61 (ix3 0 r j) : EReal) = cosT r.val j := by
  unfold V
  after_reads_at
  after_reads_at
  after_reads_at
  unfold cosT ang
  by_cases h1 : j.val < 16
  · simp only [h1, ↓reduceIte, ↓reduceDIte]
  · by_cases h2 : j.val < 32
    · have h3 : j.val - 16 < 16 := by omega
      simp only [h1, h2, h3, ↓reduceIte, ↓reduceDIte]
    · have h3 : ¬ j.val - 16 < 16 := by omega
      simp only [h1, h2, h3, ↓reduceIte, ↓reduceDIte]

theorem tab_left (c : Dev nD) (r : Fin 2176) (j : Fin 128) : (V m c main_v61 (ix3 1 r j) : EReal) = leftT r.val j := by
  unfold V
  after_reads_at
  after_reads_at
  after_reads_at
  unfold leftT ang
  by_cases h1 : j.val < 16
  · simp only [h1, ↓reduceIte, ↓reduceDIte]
  · by_cases h2 : j.val < 32
    · have h3 : j.val - 16 < 16 := by omega
      simp only [h1, h2, h3, ↓reduceIte, ↓reduceDIte]
    · have h3 : ¬ j.val - 16 < 16 := by omega
      simp only [h1, h2, h3, ↓reduceIte, ↓reduceDIte]

theorem tab_right (c : Dev nD) (r : Fin 2176) (j : Fin 128) : (V m c main_v61 (ix3 2 r j) : EReal) = rightT r.val j := by
  unfold V
  after_reads_at
  after_reads_at
  after_reads_at
  unfold rightT ang
  by_cases h1 : j.val < 16
  · simp only [h1, ↓reduceIte, ↓reduceDIte]
  · simp only [h1, ↓reduceIte, ↓reduceDIte]

end Cert.Kernel3Ideal.InProj

end
-- ==== Proof.InRef.lean ====
module

public import proofs.«01_k».proof.Proof.InTables
public import proofs.«01_k».proof.Proof.Gen.Reference3Ideal.Run

@[expose] public section

set_option maxRecDepth 16384

noncomputable section

namespace Cert.Reference3Ideal.InProj

open Cert.Reference3Ideal Cert.Reference3Ideal.Gen Cert.Rope Idealize.ShloMosaic Idealize.ShloMosaic.TcCoe Idealize.SL.Sem

/-- The normalised rows times the weights, in the weights' own order of columns. -/
def Z (x : FVec Ideal S8704x2048 .f32) (g : FVec Ideal S2048 .f32) (w : FVec Ideal S2048x6144 .f32) : FVec Ideal S8704x6144 .f32 :=
  Host.dotGeneral dot_S8704x2048_S2048x6144_S8704x6144_1_0_0_1_n_n none
    (mulf (mulf x (broadcastInDim S8704x2048 ![0, 1] bcast_S8704x1_S8704x2048_0_1 (Host.rsqrt (addf
      (Host.divf (broadcastInDim S8704x1 ![0] bcast_S8704_S8704x1_0 (Host.reduceAdd (mulf x x) (constant S_ .f32 0x00000000#32) reducesTo_S8704x2048_S8704_d1 h_S_))
        (broadcastInDim S8704x1 ![] bcast_S_S8704x1 (constant S_ .f32 0x45000000#32)))
      (broadcastInDim S8704x1 ![] bcast_S_S8704x1 (constant S_ .f32 0x358637BD#32))))))
      (broadcastInDim S8704x2048 ![0, 1] bcast_S1x2048_S8704x2048_0_1 (broadcastInDim S1x2048 ![1] bcast_S2048_S1x2048_1 g))) w

/-- The angles as the reference lays them out. -/
def angs : FVec Ideal S2176x1x16 .f32 :=
  shapeCast _ (mulf (broadcastInDim S2176x16 ![0, 1] bcast_S2176x1_S2176x16_0_1 (broadcastInDim S2176x1 ![0] bcast_S2176_S2176x1_0 (sitofp .f32 (iotaInDim S2176 32 0))))
    (broadcastInDim S2176x16 ![0, 1] bcast_S1x16_S2176x16_0_1 (broadcastInDim S1x16 ![1] bcast_S16_S1x16_1
      (Host.powf (broadcastInDim S16 ![] bcast_S_S16 (constant S_ .f32 0x48F42400#32))
        (mulf (Host.negf (sitofp .f32 (iotaInDim S16 32 0))) (broadcastInDim S16 ![] bcast_S_S16 (constant S_ .f32 0x3D800000#32))))))) shapeCasts_S2176x16_S2176x1x16

/-- The queries rotated. -/
def ropeQ (q : FVec Ideal S4x2176x16x128 .f32) : FVec Ideal S4x2176x16x128 .f32 :=
  let a := extractStridedSlice S4x2176x16x16 ![0, 0, 0, 0] q slices_S4x2176x16x128_S4x2176x16x16_0_0_0_0
  let b := extractStridedSlice S4x2176x16x16 ![0, 0, 0, 16] q slices_S4x2176x16x128_S4x2176x16x16_0_0_0_16
  let co := broadcastInDim S4x2176x16x16 ![0, 1, 2, 3] bcast_S1x2176x1x16_S4x2176x16x16_0_1_2_3 (broadcastInDim S1x2176x1x16 ![1, 2, 3] bcast_S2176x1x16_S1x2176x1x16_1_2_3 (Host.cos angs))
  let si := broadcastInDim S4x2176x16x16 ![0, 1, 2, 3] bcast_S1x2176x1x16_S4x2176x16x16_0_1_2_3 (broadcastInDim S1x2176x1x16 ![1, 2, 3] bcast_S2176x1x16_S1x2176x1x16_1_2_3 (Host.sin angs))
  concatenate S4x2176x16x128 3 [⟨S4x2176x16x16, subf (mulf a co) (mulf b si)⟩, ⟨S4x2176x16x16, addf (mulf a si) (mulf b co)⟩,
    ⟨S4x2176x16x96, extractStridedSlice S4x2176x16x96 ![0, 0, 0, 32] q slices_S4x2176x16x128_S4x2176x16x96_0_0_0_32⟩] concatenates_S4x2176x16x16_S4x2176x16x16_S4x2176x16x96_S4x2176x16x128_d3

/-- The keys rotated. -/
def ropeK (q : FVec Ideal S4x2176x8x128 .f32) : FVec Ideal S4x2176x8x128 .f32 :=
  let a := extractStridedSlice S4x2176x8x16 ![0, 0, 0, 0] q slices_S4x2176x8x128_S4x2176x8x16_0_0_0_0
  let b := extractStridedSlice S4x2176x8x16 ![0, 0, 0, 16] q slices_S4x2176x8x128_S4x2176x8x16_0_0_0_16
  let co := broadcastInDim S4x2176x8x16 ![0, 1, 2, 3] bcast_S1x2176x1x16_S4x2176x8x16_0_1_2_3 (broadcastInDim S1x2176x1x16 ![1, 2, 3] bcast_S2176x1x16_S1x2176x1x16_1_2_3 (Host.cos angs))
  let si := broadcastInDim S4x2176x8x16 ![0, 1, 2, 3] bcast_S1x2176x1x16_S4x2176x8x16_0_1_2_3 (broadcastInDim S1x2176x1x16 ![1, 2, 3] bcast_S2176x1x16_S1x2176x1x16_1_2_3 (Host.sin angs))
  concatenate S4x2176x8x128 3 [⟨S4x2176x8x16, subf (mulf a co) (mulf b si)⟩, ⟨S4x2176x8x16, addf (mulf a si) (mulf b co)⟩,
    ⟨S4x2176x8x96, extractStridedSlice S4x2176x8x96 ![0, 0, 0, 32] q slices_S4x2176x8x128_S4x2176x8x96_0_0_0_32⟩] concatenates_S4x2176x8x16_S4x2176x8x16_S4x2176x8x96_S4x2176x8x128_d3

/-- The columns in the order the layer reads them: rotated queries, gate, rotated keys, values. -/
def REF (z : FVec Ideal S8704x6144 .f32) : FVec Ideal S8704x6144 .f32 :=
  concatenate S8704x6144 1
    [⟨S8704x2048, shapeCast S8704x2048 (ropeQ (shapeCast S4x2176x16x128 (extractStridedSlice S8704x2048 ![0, 0] z slices_S8704x6144_S8704x2048_0_0) shapeCasts_S8704x2048_S4x2176x16x128)) shapeCasts_S4x2176x16x128_S8704x2048⟩,
      ⟨S8704x2048, extractStridedSlice S8704x2048 ![0, 4096] z slices_S8704x6144_S8704x2048_0_4096⟩,
      ⟨S8704x1024, shapeCast S8704x1024 (ropeK (shapeCast S4x2176x8x128 (extractStridedSlice S8704x1024 ![0, 2048] z slices_S8704x6144_S8704x1024_0_2048) shapeCasts_S8704x1024_S4x2176x8x128)) shapeCasts_S4x2176x8x128_S8704x1024⟩,
      ⟨S8704x1024, extractStridedSlice S8704x1024 ![0, 3072] z slices_S8704x6144_S8704x1024_0_3072⟩]
    concatenates_S8704x2048_S8704x2048_S8704x1024_S8704x1024_S8704x6144_d1

theorem res_eq (m : (ℓ : Loc nD τ sig) → Buf (Elt Ideal) ℓ) (c : Dev nD) : Value.res_main_v89 m c
    = REF (Z (m ((c : Thread nD τ).loc main_arg0)) (m ((c : Thread nD τ).loc main_arg1)) (m ((c : Thread nD τ).loc main_arg2))) := by
  unfold Value.res_main_v89
  rfl

theorem angs_apply (r : Fin 2176) (k : Fin 16) : angs (ix3 r 0 k) = ang r.val k.val := by
  pointwise [angs]
  rfl

/-- The three pieces of a rotated head, joined. -/
theorem pieces (v : Fin 128 → EReal) (j : Fin 128) (co si : ℕ → EReal) :
    (if h : j.val < 16 then v j * co j.val - v ⟨16 + j.val, by omega⟩ * si j.val
      else if h2 : j.val - 16 < 16 then v ⟨j.val - 16, by omega⟩ * si (j.val - 16) + v ⟨16 + (j.val - 16), by omega⟩ * co (j.val - 16)
      else v ⟨32 + (j.val - 16 - 16), by omega⟩)
    = if h : j.val < 16 then v j * co j.val - v ⟨j.val + 16, by omega⟩ * si j.val
      else if j.val < 32 then v ⟨j.val - 16, by omega⟩ * si (j.val - 16) + v j * co (j.val - 16)
      else v j := by
  by_cases h1 : j.val < 16
  · simp only [h1, ↓reduceDIte, Nat.add_comm]
  · by_cases h2 : j.val < 32
    · have h3 : j.val - 16 < 16 := by omega
      have e : (⟨16 + (j.val - 16), by omega⟩ : Fin 128) = j := Fin.ext (by show 16 + (j.val - 16) = j.val; omega)
      simp only [h1, h2, h3, ↓reduceDIte, ↓reduceIte, e]
    · have h3 : ¬ j.val - 16 < 16 := by omega
      have e : (⟨32 + (j.val - 16 - 16), by omega⟩ : Fin 128) = j := Fin.ext (by show 32 + (j.val - 16 - 16) = j.val; omega)
      simp only [h1, h2, h3, ↓reduceDIte, ↓reduceIte, e]

theorem ropeQ_apply (q : FVec Ideal S4x2176x16x128 .f32) (b : Fin 4) (r : Fin 2176) (h : Fin 16) (j : Fin 128) :
    ropeQ q (ix4 b r h j) = rope r.val (fun k => q (ix4 b r h k)) j := by
  unfold ropeQ rope
  have e := angs_apply
  generalize angs = A at e ⊢
  pointwise
  simp only [e]
  exact pieces (fun k => q (ix4 b r h k)) j (fun k => Ideal.cos (ang r.val k)) (fun k => Ideal.sin (ang r.val k))

theorem ropeK_apply (q : FVec Ideal S4x2176x8x128 .f32) (b : Fin 4) (r : Fin 2176) (h : Fin 8) (j : Fin 128) :
    ropeK q (ix4 b r h j) = rope r.val (fun k => q (ix4 b r h k)) j := by
  unfold ropeK rope
  have e := angs_apply
  generalize angs = A at e ⊢
  pointwise
  simp only [e]
  exact pieces (fun k => q (ix4 b r h k)) j (fun k => Ideal.cos (ang r.val k)) (fun k => Ideal.sin (ang r.val k))

theorem headQ (z : FVec Ideal S8704x6144 .f32) (b : Fin 4) (r : Fin 2176) (h : Fin 16) (k : Fin 128) :
    shapeCast S4x2176x16x128 (extractStridedSlice S8704x2048 ![0, 0] z slices_S8704x6144_S8704x2048_0_0) shapeCasts_S8704x2048_S4x2176x16x128 (ix4 b r h k)
      = z (ix2 ⟨2176 * b.val + r.val, by omega⟩ ⟨128 * h.val + k.val, by omega⟩) := by
  pointwise
  refine congrArg z (congrArg₂ ix2 (Fin.ext ?_) (Fin.ext ?_)) <;> (dsimp only; omega)

theorem headK (z : FVec Ideal S8704x6144 .f32) (b : Fin 4) (r : Fin 2176) (h : Fin 8) (k : Fin 128) :
    shapeCast S4x2176x8x128 (extractStridedSlice S8704x1024 ![0, 2048] z slices_S8704x6144_S8704x1024_0_2048) shapeCasts_S8704x1024_S4x2176x8x128 (ix4 b r h k)
      = z (ix2 ⟨2176 * b.val + r.val, by omega⟩ ⟨2048 + 128 * h.val + k.val, by omega⟩) := by
  pointwise
  refine congrArg z (congrArg₂ ix2 (Fin.ext ?_) (Fin.ext ?_)) <;> (dsimp only; omega)

theorem REF_apply (z : FVec Ideal S8704x6144 .f32) (i : Fin 8704) (j : Fin 6144) :
    REF z (ix2 i j) = G (fun a b => z (ix2 a b)) i j := by
  have hj := j.isLt
  have hi := i.isLt
  have eq := fun b r h j => (ropeQ_apply (shapeCast S4x2176x16x128 (extractStridedSlice S8704x2048 ![0, 0] z slices_S8704x6144_S8704x2048_0_0) shapeCasts_S8704x2048_S4x2176x16x128) b r h j)
  have ek := fun b r h j => (ropeK_apply (shapeCast S4x2176x8x128 (extractStridedSlice S8704x1024 ![0, 2048] z slices_S8704x6144_S8704x1024_0_2048) shapeCasts_S8704x1024_S4x2176x8x128) b r h j)
  simp only [headQ] at eq
  simp only [headK] at ek
  unfold REF
  generalize ropeQ _ = q at eq ⊢
  generalize ropeK _ = k at ek ⊢
  pointwise
  simp only [eq, ek]
  unfold G
  by_cases h1 : j.val < 2048
  · simp only [h1, ↓reduceDIte, ↓reduceIte, true_or]
    refine congrArg (fun v => rope (i.val % 2176) v _) (funext fun c => congrArg z (congrArg₂ ix2 (Fin.ext ?_) (Fin.ext ?_)))
    · dsimp only; omega
    · have := c.isLt
      unfold perm
      dsimp only
      split_ifs <;> omega
  · by_cases h2 : j.val < 4096
    · have h3 : j.val - 2048 < 2048 := by omega
      have h4 : ¬ (j.val < 2048 ∨ (4096 ≤ j.val ∧ j.val < 5120)) := by omega
      rw [if_neg h4]
      simp only [h1, h3, ↓reduceDIte]
      refine congrArg z (congrArg (ix2 i) (Fin.ext ?_))
      unfold perm
      dsimp only
      split_ifs <;> omega
    · have h3 : ¬ j.val - 2048 < 2048 := by omega
      by_cases h5 : j.val < 5120
      · have h4 : j.val < 2048 ∨ (4096 ≤ j.val ∧ j.val < 5120) := by omega
        have h6 : j.val - 2048 - 2048 < 1024 := by omega
        rw [if_pos h4]
        simp only [h1, h3, h6, ↓reduceDIte]
        have ej : (⟨(j.val - 2048 - 2048) % 128, Nat.mod_lt _ (by decide)⟩ : Fin 128) = ⟨j.val % 128, Nat.mod_lt _ (by decide)⟩ :=
          Fin.ext (by show (j.val - 2048 - 2048) % 128 = j.val % 128; omega)
        refine congrArg₂ (fun v a => rope (i.val % 2176) v a) (funext fun c => congrArg z (congrArg₂ ix2 (Fin.ext ?_) (Fin.ext ?_))) ej
        · dsimp only; omega
        · have := c.isLt
          unfold perm
          dsimp only
          split_ifs <;> omega
      · have h4 : ¬ (j.val < 2048 ∨ (4096 ≤ j.val ∧ j.val < 5120)) := by omega
        have h6 : ¬ j.val - 2048 - 2048 < 1024 := by omega
        rw [if_neg h4]
        simp only [h1, h3, h6, ↓reduceDIte]
        refine congrArg z (congrArg (ix2 i) (Fin.ext ?_))
        unfold perm
        dsimp only
        split_ifs <;> omega

end Cert.Reference3Ideal.InProj

end
-- ==== Proof.InValue.lean ====
module

public import proofs.«01_k».proof.Proof.InRef

@[expose] public section

set_option maxRecDepth 16384

noncomputable section

namespace Cert.Kernel3Ideal.InProj

open Cert.Kernel3Ideal Cert.Kernel3Ideal.Gen Cert.Rope Idealize.ShloMosaic Idealize.ShloMosaic.TcCoe Idealize.SL.Sem
open Idealize.ShloMosaic.Pipeline (Dat)

/-- One entry of the product: the kernel's block and the reference's whole matrix read the same rows, gains and weights. -/
theorem product (X : Vec Ideal S1088x2048 .f32) (g1 : Vec Ideal S1x2048 .f32) (w1 : Vec Ideal S2048x256 .bf16)
    (x : FVec Ideal S8704x2048 .f32) (g : FVec Ideal S2048 .f32) (w : FVec Ideal S2048x6144 .f32)
    (r : Fin 1088) (q : Fin 256) (i : Fin 8704) (j : Fin 6144)
    (hx : ∀ k : Fin 2048, X (ix2 r k) = x (ix2 i k)) (hg : ∀ k : Fin 2048, g1 (ix2 0 k) = g (ix1 k)) (hw : ∀ k : Fin 2048, (w1 (ix2 k q) : EReal) = w (ix2 k j)) :
    k0_pay2 (F := Ideal) (k0_pay1 (F := Ideal) X g1) w1 (ix2 r q) = Cert.Reference3Ideal.InProj.Z x g w (ix2 i j) := by
  pointwise [k0_pay1, k0_pay2, Cert.Reference3Ideal.InProj.Z]
  simp only [hx, hg, hw]

variable (m : (ℓ : Loc nD τ sig) → Buf (Elt Ideal) ℓ)

/-- The reference's product at this program's arguments. -/
def Zm (c : Dev nD) : FVec Ideal S8704x6144 .f32 :=
  Cert.Reference3Ideal.InProj.Z (m ((c : Thread nD τ).loc main_arg0)) (m ((c : Thread nD τ).loc main_arg1)) (m ((c : Thread nD τ).loc main_arg2))

theorem rows_at (c : Dev nD) (t : Fin cfg0.N) (r : Fin 1088) (k : Fin 2048) (i : Fin 8704) (hi : i.val = 1088 * (t.val / 24) + r.val) :
    (iblk m c 0 (head t) (ix2 r k) : EReal) = m ((c : Thread nD τ).loc main_arg0) (ix2 i k) := by
  have hh : (head t).val = 24 * (t.val / 24) := rfl
  blk_point [iblk, V, idx (head t), hh]

theorem gain_at (c : Dev nD) (t : Fin cfg0.N) (k : Fin 2048) :
    (iblk m c 1 t (ix2 0 k) : EReal) = m ((c : Thread nD τ).loc main_arg1) (ix1 k) := by
  blk_simp [iblk]
  unfold V
  after_reads_at
  blk_ext [idx t]

theorem weights_at (c : Dev nD) (t : Fin cfg0.N) (k : Fin 2048) (q : Fin 256) (j : Fin 6144) (hj : j.val = 256 * (t.val % 24) + q.val) :
    (iblk m c 2 t (ix2 k q) : EReal) = m ((c : Thread nD τ).loc main_arg2) (ix2 k (perm j)) := by
  rw [← weights m c k j]
  blk_simp [iblk]
  generalize V m c main_v67 = F
  blk_ext [idx t]

theorem cos_at (c : Dev nD) (t : Fin cfg0.N) (r : Fin 1088) (j : Fin 128) (i : Fin 8704) (hi : i.val = 1088 * (t.val / 24) + r.val) :
    (iblk m c 3 t (ix3 0 r j) : EReal) = cosT (i.val % 2176) j := by
  rw [← tab_cos m c ⟨i.val % 2176, Nat.mod_lt _ (by decide)⟩ j]
  blk_simp [iblk]
  generalize V m c main_v61 = F
  blk_ext [idx t]

theorem left_at (c : Dev nD) (t : Fin cfg0.N) (r : Fin 1088) (j : Fin 128) (i : Fin 8704) (hi : i.val = 1088 * (t.val / 24) + r.val) :
    (iblk m c 4 t (ix3 0 r j) : EReal) = leftT (i.val % 2176) j := by
  rw [← tab_left m c ⟨i.val % 2176, Nat.mod_lt _ (by decide)⟩ j]
  blk_simp [iblk]
  generalize V m c main_v61 = F
  blk_ext [idx t]

theorem right_at (c : Dev nD) (t : Fin cfg0.N) (r : Fin 1088) (j : Fin 128) (i : Fin 8704) (hi : i.val = 1088 * (t.val / 24) + r.val) :
    (iblk m c 5 t (ix3 0 r j) : EReal) = rightT (i.val % 2176) j := by
  rw [← tab_right m c ⟨i.val % 2176, Nat.mod_lt _ (by decide)⟩ j]
  blk_simp [iblk]
  generalize V m c main_v61 = F
  blk_ext [idx t]

theorem product_at (c : Dev nD) (t : Fin cfg0.N) (r : Fin 1088) (q : Fin 256) (i : Fin 8704) (j : Fin 6144)
    (hi : i.val = 1088 * (t.val / 24) + r.val) (hj : j.val = 256 * (t.val % 24) + q.val) :
    k0_pay2 (F := Ideal) (rows m c t) (iblk m c 2 t) (ix2 r q) = Zm m c (ix2 i (perm j)) :=
  product _ _ _ _ _ _ r q i (perm j) (fun k => rows_at m c t r k i hi) (fun k => gain_at m c (head t) k) (fun k => weights_at m c t k q j hj)

/-- What a point leaves in its block: the call's result at the block's rows and columns. -/
theorem out_at (c : Dev nD) (t : Fin cfg0.N) (r : Fin 1088) (q : Fin 256) (i : Fin 8704) (j : Fin 6144)
    (hi : i.val = 1088 * (t.val / 24) + r.val) (hj : j.val = 256 * (t.val % 24) + q.val) :
    ((outsAt0 m c t.val t.isLt).1 (ix2 r q) : EReal) = G (fun a b => Zm m c (ix2 a b)) i j := by
  have hq := q.isLt
  unfold G
  by_cases hR : Rot (t.val % 24)
  · have hc : j.val < 2048 ∨ (4096 ≤ j.val ∧ j.val < 5120) := by unfold Rot at hR; omega
    rw [if_pos hc]
    have e : ((outsAt0 m c t.val t.isLt).1 (ix2 r q) : EReal)
        = rotated (rows m c t) (iblk m c 2 t) (iblk m c 3 t) (iblk m c 4 t) (iblk m c 5 t) (ix2 r q) := by
      by_cases h0 : t.val % 24 = 0
      · exact out_A m c t h0 _
      · exact out_B m c t h0 hR _
    rw [e, ← rot_eq]
    unfold rotated
    have e1 : (⟨q.val % 128, Nat.mod_lt _ (by decide)⟩ : Fin 128) = ⟨j.val % 128, Nat.mod_lt _ (by decide)⟩ :=
      Fin.ext (by show q.val % 128 = j.val % 128; omega)
    have ev : (fun k : Fin 128 => (k0_pay2 (F := Ideal) (rows m c t) (iblk m c 2 t) (ix2 r ⟨128 * (q.val / 128) + k.val, by have := k.isLt; omega⟩) : EReal))
        = fun k => Zm m c (ix2 i (perm ⟨128 * (j.val / 128) + k.val, by have := j.isLt; have := k.isLt; omega⟩)) :=
      funext fun k => product_at m c t r _ i _ hi (by show 128 * (j.val / 128) + k.val = 256 * (t.val % 24) + (128 * (q.val / 128) + k.val); omega)
    have ea : (fun k : Fin 128 => (iblk m c 3 t (ix3 0 r k) : EReal)) = cosT (i.val % 2176) := funext fun k => cos_at m c t r k i hi
    have eb : (fun k : Fin 128 => (iblk m c 4 t (ix3 0 r k) : EReal)) = leftT (i.val % 2176) := funext fun k => left_at m c t r k i hi
    have ed : (fun k : Fin 128 => (iblk m c 5 t (ix3 0 r k) : EReal)) = rightT (i.val % 2176) := funext fun k => right_at m c t r k i hi
    exact (congrArg₂ (fun v x => rot v _ _ _ x) ev e1).trans
      ((congrArg (fun a => rot _ a _ _ _) ea).trans ((congrArg (fun a => rot _ _ a _ _) eb).trans (congrArg (fun a => rot _ _ _ a _) ed)))
  · have hc : ¬ (j.val < 2048 ∨ (4096 ≤ j.val ∧ j.val < 5120)) := by unfold Rot at hR; omega
    rw [if_neg hc, out_C m c t hR]
    exact product_at m c t r q i j hi hj

theorem place_at (t : Fin cfg0.N) (F : S8704x6144.Idx → EReal) (r : Fin 1088) (q : Fin 256) (i : Fin 8704) (j : Fin 6144)
    (hi : i.val = 1088 * (t.val / 24) + r.val) (hj : j.val = 256 * (t.val % 24) + q.val) :
    F (((cfg0.win 6).blk t).view.emb (ix2 r q)) = F (ix2 i j) := by
  blk_point [idx t]

/-- The result array is any function that each point's block is a tile of. -/
theorem final_of (c : Dev nD) (F : FVec Ideal S8704x6144 .f32)
    (hF : ∀ (t : Fin cfg0.N) (r : Fin 1088) (q : Fin 256) (i : Fin 8704) (j : Fin 6144), i.val = 1088 * (t.val / 24) + r.val → j.val = 256 * (t.val % 24) + q.val →
      ((outsAt0 m c t.val t.isLt).1 (ix2 r q) : EReal) = F (ix2 i j)) :
    (dats m 0 c).arrAt 6 (cfgs 0).N = F := by
  refine (dats m 0 c).arrAt_eq_of_covers 6 _ (by decide +kernel) fun t _ y => ?_
  blk_simp
  rw [after0_6]
  have e : y = (ix2 (y 0) (y 1) : S1088x256.Idx) := by
    funext a; apply Fin.ext; fin_cases a <;> rfl
  have ht : t.val < 192 := t.isLt
  have l0 : (y 0).val < 1088 := (y 0).isLt
  have l1 : (y 1).val < 256 := (y 1).isLt
  rw [e]
  exact (hF t (y 0) (y 1) ⟨1088 * (t.val / 24) + (y 0).val, by omega⟩ ⟨256 * (t.val % 24) + (y 1).val, by omega⟩ rfl rfl).trans
    (place_at t F (y 0) (y 1) _ _ rfl rfl).symm

theorem final (c : Dev nD) : (dats m 0 c).arrAt 6 (cfgs 0).N = Cert.Reference3Ideal.InProj.REF (Zm m c) :=
  final_of m c _ fun t r q i j hi hj => (out_at m c t r q i j hi hj).trans (Cert.Reference3Ideal.InProj.REF_apply (Zm m c) i j).symm

end Cert.Kernel3Ideal.InProj

end
-- ==== Proof.InCache.lean ====
module

public import proofs.«01_k».proof.Proof.InValue
public import Idealize.ShloMosaic.Lib.StableHlo.ReadAt

@[expose] public section

set_option maxRecDepth 16384

noncomputable section

namespace Cert.Reference3Ideal.InProj

open Cert.Reference3Ideal Cert.Reference3Ideal.Gen Cert.Rope Idealize.ShloMosaic Idealize.ShloMosaic.TcCoe Idealize.SL.Sem

/-- The rotated keys as the reference returns them: the real tokens, two heads to a group. -/
def splitK (k : FVec Ideal S4x2176x8x128 .f32) : FVec Ideal S4x2064x4x2x128 .f32 :=
  extractStridedSlice S4x2064x4x2x128 ![0, 0, 0, 0, 0] (shapeCast S4x2176x4x2x128 k shapeCasts_S4x2176x8x128_S4x2176x4x2x128) slices_S4x2176x4x2x128_S4x2064x4x2x128_0_0_0_0_0

theorem splitK_apply (k : FVec Ideal S4x2176x8x128 .f32) (b : Fin 4) (r : Fin 2064) (h : Fin 4) (p : Fin 2) (j : Fin 128) :
    splitK k (ix5 b r h p j) = k (ix4 b ⟨r.val, by omega⟩ ⟨h.val * 2 + p.val, by omega⟩ j) := by
  unfold splitK
  pointwise

/-- The reference's keys from the whole product. -/
def cacheK (z : FVec Ideal S8704x6144 .f32) : FVec Ideal S4x2064x4x2x128 .f32 :=
  splitK (ropeK (shapeCast S4x2176x8x128 (extractStridedSlice S8704x1024 ![0, 2048] z slices_S8704x6144_S8704x1024_0_2048) shapeCasts_S8704x1024_S4x2176x8x128))

/-- The values as the reference returns them. -/
def cacheV (z : FVec Ideal S8704x6144 .f32) : FVec Ideal S4x2064x4x256 .f32 :=
  extractStridedSlice S4x2064x4x256 ![0, 0, 0, 0]
    (shapeCast S4x2176x4x256 (extractStridedSlice S8704x1024 ![0, 3072] z slices_S8704x6144_S8704x1024_0_3072) shapeCasts_S8704x1024_S4x2176x4x256)
    slices_S4x2176x4x256_S4x2064x4x256_0_0_0_0

theorem cacheV_apply (z : FVec Ideal S8704x6144 .f32) (b : Fin 4) (r : Fin 2064) (h : Fin 4) (j : Fin 256) :
    cacheV z (ix4 b r h j) = z (ix2 ⟨b.val * 2176 + r.val, by omega⟩ ⟨3072 + (h.val * 256 + j.val), by omega⟩) := by
  unfold cacheV
  pointwise

theorem resK_eq (m : (ℓ : Loc nD τ sig) → Buf (Elt Ideal) ℓ) (c : Dev nD) : Value.res_main_v91 m c
    = cacheK (Z (m ((c : Thread nD τ).loc main_arg0)) (m ((c : Thread nD τ).loc main_arg1)) (m ((c : Thread nD τ).loc main_arg2))) := by
  unfold Value.res_main_v91
  rfl

/-- The key columns of the joined array are the rotated keys, head by head. -/
theorem REF_key (z : FVec Ideal S8704x6144 .f32) (b : Fin 4) (r : Fin 2064) (h : Fin 4) (p : Fin 2) (j : Fin 128) :
    REF z (ix2 ⟨b.val * 2176 + r.val, by omega⟩ ⟨4096 + (h.val * 256 + p.val * 128 + j.val), by omega⟩) = cacheK z (ix5 b r h p j) := by
  unfold cacheK
  rw [splitK_apply, ropeK_apply, REF_apply]
  simp only [headK]
  unfold G
  rw [if_pos (by right; dsimp only; omega)]
  have e1 : (b.val * 2176 + r.val) % 2176 = r.val := by omega
  have e2 : (⟨(4096 + (h.val * 256 + p.val * 128 + j.val)) % 128, Nat.mod_lt _ (by decide)⟩ : Fin 128) = j := Fin.ext (by dsimp only; omega)
  dsimp only
  rw [e1]
  refine congrArg₂ (fun v a => rope r.val v a) (funext fun c => congrArg z (congrArg₂ ix2 (Fin.ext ?_) (Fin.ext ?_))) e2
  · dsimp only; omega
  · have := c.isLt
    unfold perm
    dsimp only
    split_ifs <;> omega

/-- The value columns of the joined array are the values. -/
theorem REF_value (z : FVec Ideal S8704x6144 .f32) (b : Fin 4) (r : Fin 2064) (h : Fin 4) (j : Fin 256) :
    REF z (ix2 ⟨b.val * 2176 + r.val, by omega⟩ ⟨5120 + (h.val * 256 + j.val), by omega⟩) = cacheV z (ix4 b r h j) := by
  rw [cacheV_apply, REF_apply]
  unfold G
  rw [if_neg (by dsimp only; omega)]
  refine congrArg z (congrArg (ix2 _) (Fin.ext ?_))
  unfold perm
  dsimp only
  split_ifs <;> omega

end Cert.Reference3Ideal.InProj

namespace Cert.Kernel3Ideal.InProj

open Cert.Kernel3Ideal Cert.Kernel3Ideal.Gen Cert.Rope Idealize.ShloMosaic Idealize.ShloMosaic.TcCoe Idealize.SL.Sem
open Idealize.ShloMosaic.Pipeline (Dat)
open Cert.Reference3Ideal.InProj (REF REF_key REF_value cacheK cacheV)

/-- What the kernel's host lines keep for the keys: the key columns of the real tokens. -/
def keptK (z : FVec Ideal S8704x6144 .f32) : FVec Ideal S4x2064x4x2x128 .f32 :=
  shapeCast S4x2064x4x2x128 (extractStridedSlice S4x2064x1024 ![0, 0, 4096] (shapeCast S4x2176x6144 z shapeCasts_S8704x6144_S4x2176x6144) slices_S4x2176x6144_S4x2064x1024_0_0_4096)
    shapeCasts_S4x2064x1024_S4x2064x4x2x128

/-- What the kernel's host lines keep for the values: the value columns of the real tokens. -/
def keptV (z : FVec Ideal S8704x6144 .f32) : FVec Ideal S4x2064x4x256 .f32 :=
  shapeCast S4x2064x4x256 (extractStridedSlice S4x2064x1024 ![0, 0, 5120] (shapeCast S4x2176x6144 z shapeCasts_S8704x6144_S4x2176x6144) slices_S4x2176x6144_S4x2064x1024_0_0_5120)
    shapeCasts_S4x2064x1024_S4x2064x4x256

theorem keptK_apply (z : FVec Ideal S8704x6144 .f32) (b : Fin 4) (r : Fin 2064) (h : Fin 4) (p : Fin 2) (j : Fin 128) :
    keptK z (ix5 b r h p j) = z (ix2 ⟨b.val * 2176 + r.val, by omega⟩ ⟨4096 + (h.val * 256 + p.val * 128 + j.val), by omega⟩) := by
  unfold keptK
  pointwise

theorem keptV_apply (z : FVec Ideal S8704x6144 .f32) (b : Fin 4) (r : Fin 2064) (h : Fin 4) (j : Fin 256) :
    keptV z (ix4 b r h j) = z (ix2 ⟨b.val * 2176 + r.val, by omega⟩ ⟨5120 + (h.val * 256 + j.val), by omega⟩) := by
  unfold keptV
  pointwise

theorem keptK_REF (z : FVec Ideal S8704x6144 .f32) : keptK (REF z) = cacheK z := by
  funext y
  rw [eq_ix5 y]
  exact (keptK_apply _ _ _ _ _ _).trans (REF_key z _ _ _ _ _)

theorem keptV_REF (z : FVec Ideal S8704x6144 .f32) : keptV (REF z) = cacheV z := by
  funext y
  rw [eq_ix4 y]
  exact (keptV_apply _ _ _ _ _).trans (REF_value z _ _ _ _)

/-- The lines after the launch, from any contents: the keys. -/
theorem afterK (W : Valuation τ sig (Elt Ideal)) : StableHlo.after ([hostOps1].flatten) W (Proc.devRef .tc main_v72) = keptK (W (Proc.devRef .tc main_v69)) := by
  generalize hz : keptK (W (Proc.devRef .tc main_v69)) = k
  after_reads_at
  rw [← hz]
  funext y
  exact (keptK_apply _ (y 0) (y 1) (y 2) (y 3) (y 4)).symm.trans (congrArg (keptK _) (ix5_eta y))

/-- The lines after the launch, from any contents: the values. -/
theorem afterV (W : Valuation τ sig (Elt Ideal)) : StableHlo.after ([hostOps1].flatten) W (Proc.devRef .tc main_v74) = keptV (W (Proc.devRef .tc main_v69)) := by
  generalize hz : keptV (W (Proc.devRef .tc main_v69)) = k
  after_reads_at
  rw [← hz]
  funext y
  exact (keptV_apply _ (y 0) (y 1) (y 2) (y 3)).symm.trans (congrArg (keptV _) (ix4_eta y))

variable (m : (ℓ : Loc nD τ sig) → Buf (Elt Ideal) ℓ)

/-- After the launch the projection's array holds its last contents. -/
theorem kept (c : Dev nD) : Pipeline.withArrays (cfgs 0).spec c (V0 m c) (fun w => (dats m 0 c).arrAt w (cfgs 0).N) (Proc.tc.devRef main_v69)
    = REF (Zm m c) :=
  ((dats m 0 c).withArrays_arrAt sharedIn0 (V0 m c) (A_eq m c) 6).trans (final m c)

theorem finalK (c : Dev nD) : Pipeline.afterTail₀ cfgs (dats m) 0 (V0 m) [hostOps1] c main_v72 = cacheK (Zm m c) := by
  unfold Pipeline.afterTail₀
  exact (afterK _).trans ((congrArg keptK (kept m c)).trans (keptK_REF _))

theorem finalV (c : Dev nD) : Pipeline.afterTail₀ cfgs (dats m) 0 (V0 m) [hostOps1] c main_v74 = cacheV (Zm m c) := by
  unfold Pipeline.afterTail₀
  exact (afterV _).trans ((congrArg keptV (kept m c)).trans (keptV_REF _))

end Cert.Kernel3Ideal.InProj

end
-- ==== Proof.InClaim.lean ====
module

public import proofs.«01_k».proof.Defs
public import proofs.«01_k».proof.Proof.InCache
public import Idealize.ShloMosaic.Lib.Claim

@[expose] public section

set_option maxRecDepth 16384

noncomputable section

namespace Cert.Proof

open Idealize.ShloMosaic Idealize.ShloMosaic.TcCoe Idealize.SL.Sem

/-- The input projection: kernel and reference end with the same array, and the same keys and values, over the reals. -/
theorem algebraicIn : Cert.algebraic_Kernel3Ideal_Reference3Ideal := by
  pair_intro
  · run_from Cert.Kernel3Ideal.Gen.run_main m g
    · exact Cert.Kernel3Ideal.Gen.W_main_arg1 m _ c
    · exact Cert.Kernel3Ideal.Gen.W_main_arg2 m _ c
  · run_from Cert.Reference3Ideal.Value.run m' g'
    · rw [Cert.Kernel3Ideal.InProj.final m c, Cert.Reference3Ideal.InProj.res_eq, (hagree c).1, (hagree c).2.1, (hagree c).2.2]
      rfl
    · rw [Cert.Kernel3Ideal.InProj.finalK m c, Cert.Reference3Ideal.InProj.resK_eq, (hagree c).1, (hagree c).2.1, (hagree c).2.2]
      rfl
    · exact (Cert.Kernel3Ideal.InProj.finalV m c).symm

end Cert.Proof

end
-- ==== Proof.AInLaunch.lean ====
module

public import proofs.«01_k».proof.Proof.InLaunch
public import proofs.«01_k».proof.Proof.Gen.Kernel4Ideal.Frame

@[expose] public section

set_option maxRecDepth 16384

noncomputable section

namespace Cert.Kernel4Ideal.InProj

open Cert.Kernel4Ideal Cert.Kernel4Ideal.Gen Idealize.ShloMosaic Idealize.ShloMosaic.TcCoe Idealize.SL.Sem
open Idealize.ShloMosaic.Pipeline (Dat)
open Cert.Kernel3Ideal.InProj (rotated pay6_apply pay7_apply)

variable (m : (ℓ : Loc nD τ sig) → Buf (Elt Ideal) ℓ)

/-- Which of the three groups of tables a column block reads: the first for heads of 128 columns, the second for heads
    of 64 columns, the third where only the first 64 columns of 128 are a head. -/
def kind (n : ℕ) : ℕ := 3 * (n / 20 + n / 24)

/-- The block of each window at every point: 25 points per block of 1088 rows, two of which make one prompt. -/
theorem idx : ∀ t : Fin cfg0.N, win0_0.index t = ![t.val / 25, 0] ∧ win0_1.index t = ![0, 0] ∧ win0_2.index t = ![0, t.val % 25]
    ∧ win0_3.index t = ![kind (t.val % 25), t.val / 25 % 2, 0] ∧ win0_4.index t = ![kind (t.val % 25) + 1, t.val / 25 % 2, 0]
    ∧ win0_5.index t = ![kind (t.val % 25) + 2, t.val / 25 % 2, 0] ∧ win0_6.index t = ![t.val / 25, t.val % 25] :=
  (by decide +kernel : ∀ t : Fin grid0.N, _)

/-- The points whose columns are rotated as heads of 128: the queries' and the keys'. -/
def Rot (n : ℕ) : Prop := n < 8 ∨ n = 16 ∨ n = 17

/-- One row of 128 columns rotated by 8 columns instead of 16. -/
def rot8 (v a b d : Fin 128 → EReal) (j : Fin 128) : EReal :=
  v j * a j + v ⟨(j.val + 120) % 128, Nat.mod_lt _ (by decide)⟩ * b j + v ⟨(j.val + 8) % 128, Nat.mod_lt _ (by decide)⟩ * d j

/-- A block rotated by 8 columns, at row `r` and column `p` of its 256. -/
def rotated8 (h : Vec Ideal S1088x2048 .bf16) (w : Vec Ideal S2048x256 .bf16) (a b d : Vec Ideal S1x1088x128 .f32) (y : S1088x256.Idx) : EReal :=
  rot8 (fun j => k0_pay2 (F := Ideal) h w (ix2 (y 0) ⟨128 * ((y 1).val / 128) + j.val, by have : (y 1).val < 256 := (y 1).isLt; show _ < 256; omega⟩))
    (fun j => a (ix3 0 (y 0) j)) (fun j => b (ix3 0 (y 0) j)) (fun j => d (ix3 0 (y 0) j)) ⟨(y 1).val % 128, Nat.mod_lt _ (by decide)⟩

theorem pay11_apply (h : Vec Ideal S1088x2048 .bf16) (w : Vec Ideal S2048x256 .bf16) (a b d : Vec Ideal S1x1088x128 .f32) (x : S1088x128.Idx)
    (y : S1088x256.Idx) (h0 : (y 0).val = (x 0).val) (h1 : (y 1).val = (x 1).val) : k0_pay11 (F := Ideal) h w a b d x = rotated8 h w a b d y := by
  unfold k0_pay11 rotated8 rot8
  generalize k0_pay2 h w = z
  pointwise [k0_pay8, k0_pay9, k0_pay10]
  have l1 : (x 1).val < 128 := (x 1).isLt
  have e0 : y 0 = x 0 := Fin.ext h0
  have e1 : (⟨(y 1).val % 128, Nat.mod_lt _ (by decide)⟩ : Fin 128) = x 1 := Fin.ext (by show (y 1).val % 128 = (x 1).val; omega)
  rw [e0]
  refine congrArg₂ (· + ·) (congrArg₂ (· + ·) (congrArg₂ (· * ·) (congrArg z (congrArg (ix2 _) (Fin.ext ?_))) (congrArg a (congrArg (ix3 0 _) e1.symm)))
    (congrArg₂ (· * ·) (congrArg z (congrArg (ix2 _) (Fin.ext ?_))) (congrArg b (congrArg (ix3 0 _) e1.symm))))
    (congrArg₂ (· * ·) (congrArg z (congrArg (ix2 _) (Fin.ext ?_))) (congrArg d (congrArg (ix3 0 _) e1.symm))) <;> (dsimp only; omega)

theorem pay12_apply (h : Vec Ideal S1088x2048 .bf16) (w : Vec Ideal S2048x256 .bf16) (a b d : Vec Ideal S1x1088x128 .f32) (x : S1088x128.Idx)
    (y : S1088x256.Idx) (h0 : (y 0).val = (x 0).val) (h1 : (y 1).val = 128 + (x 1).val) : k0_pay12 (F := Ideal) h w a b d x = rotated8 h w a b d y := by
  unfold k0_pay12 rotated8 rot8
  generalize k0_pay2 h w = z
  pointwise [k0_pay8, k0_pay9, k0_pay10]
  have l1 : (x 1).val < 128 := (x 1).isLt
  have e0 : y 0 = x 0 := Fin.ext h0
  have e1 : (⟨(y 1).val % 128, Nat.mod_lt _ (by decide)⟩ : Fin 128) = x 1 := Fin.ext (by show (y 1).val % 128 = (x 1).val; omega)
  rw [e0]
  refine congrArg₂ (· + ·) (congrArg₂ (· + ·) (congrArg₂ (· * ·) (congrArg z (congrArg (ix2 _) (Fin.ext ?_))) (congrArg a (congrArg (ix3 0 _) e1.symm)))
    (congrArg₂ (· * ·) (congrArg z (congrArg (ix2 _) (Fin.ext ?_))) (congrArg b (congrArg (ix3 0 _) e1.symm))))
    (congrArg₂ (· * ·) (congrArg z (congrArg (ix2 _) (Fin.ext ?_))) (congrArg d (congrArg (ix3 0 _) e1.symm))) <;> (dsimp only; omega)

theorem scr_A (c : Dev nD) (t : Fin cfg0.N) (h0 : t.val % 25 = 0) :
    (outsAt0 m c t.val t.isLt).2 = k0_pay1 (iblk m c 0 t) (iblk m c 1 t) := by
  rw [outsAt0_A m c t h0 (by omega) (by omega) (by omega)]
  frame_out

theorem scr_rest (c : Dev nD) (t : Fin cfg0.N) (h0 : ¬ t.val % 25 = 0) :
    (outsAt0 m c t.val t.isLt).2 = (outsAt0 m c (t.val - 1) (by have := t.isLt; omega)).2 := by
  by_cases h1 : Rot (t.val % 25)
  · unfold Rot at h1
    rw [outsAt0_B m c t h0 (by omega) (by omega) (by omega)]
    unfold sout0_B_0
    dsimp only
  · unfold Rot at h1
    by_cases h2 : 20 ≤ t.val % 25
    · rw [outsAt0_D m c t h0 (by omega) (by omega) (by omega)]
      unfold sout0_D_0
      dsimp only
    · rw [outsAt0_C m c t h0 (by omega) (by omega) (by omega)]
      unfold sout0_C_0
      dsimp only

theorem scr (c : Dev nD) : ∀ (q k : ℕ) (hk : k < 25) (h : 25 * q + k < cfg0.N) (h' : 25 * q < cfg0.N),
    (outsAt0 m c (25 * q + k) h).2 = k0_pay1 (iblk m c 0 ⟨25 * q, h'⟩) (iblk m c 1 ⟨25 * q, h'⟩)
  | q, 0, _, _, h' => scr_A m c ⟨25 * q, h'⟩ (by simp only; omega)
  | q, k + 1, hk, h, h' => (scr_rest m c ⟨25 * q + (k + 1), h⟩ (by simp only; omega)).trans (scr c q k (by omega) _ h')

/-- the first point of a row block -/
def head (t : Fin cfg0.N) : Fin cfg0.N := ⟨25 * (t.val / 25), by have := t.isLt; omega⟩

/-- The normalised rows every point of a row block multiplies. -/
def rows (c : Dev nD) (t : Fin cfg0.N) : Vec Ideal S1088x2048 .bf16 := k0_pay1 (F := Ideal) (iblk m c 0 (head t)) (iblk m c 1 (head t))

theorem before_eq (c : Dev nD) (t : Fin cfg0.N) (h0 : ¬ t.val % 25 = 0) (h) : (outsAt0 m c (t.val - 1) h).2 = rows m c t := by
  revert h
  have e1 : t.val - 1 = 25 * (t.val / 25) + (t.val % 25 - 1) := by omega
  rw [e1]
  intro h
  exact scr m c (t.val / 25) (t.val % 25 - 1) (by omega) h (head t).isLt

theorem out_C (c : Dev nD) (t : Fin cfg0.N) (h1 : ¬ Rot (t.val % 25)) (h2 : t.val % 25 < 20) :
    (outsAt0 m c t.val t.isLt).1 = k0_pay2 (rows m c t) (iblk m c 2 t) := by
  unfold Rot at h1
  rw [outsAt0_C m c t (by omega) (by omega) (by omega) (by omega), before_eq m c t (by omega)]
  frame_out
  exact congrArg (fun v => k0_pay2 v (iblk m c 2 t)) ((Memref.isWhole_whole cc0_scratch0).read_unread _)

theorem out_A (c : Dev nD) (t : Fin cfg0.N) (ht : t.val % 25 = 0) (y : S1088x256.Idx) :
    (outsAt0 m c t.val t.isLt).1 y = rotated (rows m c t) (iblk m c 2 t) (iblk m c 3 t) (iblk m c 4 t) (iblk m c 5 t) y := by
  have e : head t = t := Fin.ext (show 25 * (t.val / 25) = t.val by omega)
  rw [outsAt0_A m c t ht (by omega) (by omega) (by omega)]
  unfold rows
  rw [e]
  frame_out
  canon_tiles x h
  · exact pay7_apply _ _ _ _ _ _ _ h0 h1
  · exact pay6_apply _ _ _ _ _ _ _ h0 h1

theorem out_B (c : Dev nD) (t : Fin cfg0.N) (ht : ¬ t.val % 25 = 0) (hR : Rot (t.val % 25)) (y : S1088x256.Idx) :
    (outsAt0 m c t.val t.isLt).1 y = rotated (rows m c t) (iblk m c 2 t) (iblk m c 3 t) (iblk m c 4 t) (iblk m c 5 t) y := by
  unfold Rot at hR
  rw [outsAt0_B m c t ht (by omega) (by omega) (by omega), before_eq m c t ht]
  frame_out
  have er := (Memref.isWhole_whole cc0_scratch0).read_unread (rows m c t)
  canon_tiles x h
  · exact (congrArg (fun v => k0_pay7 (F := Ideal) v (iblk m c 2 t) (iblk m c 3 t) (iblk m c 4 t) (iblk m c 5 t) x) er).trans (pay7_apply _ _ _ _ _ _ _ h0 h1)
  · exact (congrArg (fun v => k0_pay6 (F := Ideal) v (iblk m c 2 t) (iblk m c 3 t) (iblk m c 4 t) (iblk m c 5 t) x) er).trans (pay6_apply _ _ _ _ _ _ _ h0 h1)

theorem out_D (c : Dev nD) (t : Fin cfg0.N) (h2 : 20 ≤ t.val % 25) (y : S1088x256.Idx) :
    (outsAt0 m c t.val t.isLt).1 y = rotated8 (rows m c t) (iblk m c 2 t) (iblk m c 3 t) (iblk m c 4 t) (iblk m c 5 t) y := by
  rw [outsAt0_D m c t (by omega) (by omega) (by omega) (by omega), before_eq m c t (by omega)]
  frame_out
  have er := (Memref.isWhole_whole cc0_scratch0).read_unread (rows m c t)
  canon_tiles x h
  · exact (congrArg (fun v => k0_pay12 (F := Ideal) v (iblk m c 2 t) (iblk m c 3 t) (iblk m c 4 t) (iblk m c 5 t) x) er).trans (pay12_apply _ _ _ _ _ _ _ h0 h1)
  · exact (congrArg (fun v => k0_pay11 (F := Ideal) v (iblk m c 2 t) (iblk m c 3 t) (iblk m c 4 t) (iblk m c 5 t) x) er).trans (pay11_apply _ _ _ _ _ _ _ h0 h1)

end Cert.Kernel4Ideal.InProj

end
-- ==== Proof.AInTables.lean ====
module

public import proofs.«01_k».proof.Proof.AInLaunch
public import proofs.«01_k».proof.Proof.InTables

@[expose] public section

set_option maxRecDepth 16384

noncomputable section

namespace Cert.Rope

open Idealize.ShloMosaic

/-- The angle of pair `k` of a head of 64 columns at position `r`: the position times the base to the power `-k/8`. -/
def ang8 (r k : ℕ) : EReal :=
  (FloatOps.sitofp (F := Ideal) .f32 (BitVec.ofNat 32 r) : EReal) * Ideal.pow (Ideal.ofBits .f32 1223959552#32)
    (-(FloatOps.sitofp (F := Ideal) .f32 (BitVec.ofNat 32 k) : EReal) * Ideal.ofBits .f32 1040187392#32)

/-- The rotary embedding of a head of 64 columns at position `r`: the first 8 columns and the next 8 turned into each other, the rest kept. -/
def rope8 (r : ℕ) (v : Fin 64 → EReal) (j : Fin 64) : EReal :=
  if h : j.val < 8 then v j * Ideal.cos (ang8 r j.val) - v ⟨j.val + 8, by omega⟩ * Ideal.sin (ang8 r j.val)
  else if j.val < 16 then v ⟨j.val - 8, by omega⟩ * Ideal.sin (ang8 r (j.val - 8)) + v j * Ideal.cos (ang8 r (j.val - 8))
  else v j

/-- Rotating zeros gives zeros. -/
theorem rope8_zero (r : ℕ) (j : Fin 64) : rope8 r (fun _ => 0) j = 0 := by
  unfold rope8
  split_ifs <;> simp only [zero_mul, sub_zero, add_zero]

/-- The table of cosines for heads of 64 columns within 128, of which the first `n` columns are heads. -/
def cosT8 (n r : ℕ) (j : Fin 128) : EReal :=
  if j.val < n then if j.val % 64 < 8 then Ideal.cos (ang8 r (j.val % 64)) else if j.val % 64 < 16 then Ideal.cos (ang8 r (j.val % 64 - 8)) else 1 else 1

/-- The table of sines that multiplies the columns 8 to the left. -/
def leftT8 (n r : ℕ) (j : Fin 128) : EReal :=
  if j.val < n then if j.val % 64 < 8 then 0 else if j.val % 64 < 16 then Ideal.sin (ang8 r (j.val % 64 - 8)) else 0 else 0

/-- The table of sines that multiplies the columns 8 to the right. -/
def rightT8 (n r : ℕ) (j : Fin 128) : EReal :=
  if j.val < n then if j.val % 64 < 8 then -Ideal.sin (ang8 r (j.val % 64)) else 0 else 0

/-- The place of an output column among the columns of the given weights: the gate comes last there, second here. -/
def permA (j : ℕ) (h : j < 6224) : Fin 6224 :=
  ⟨if j < 2048 then j else if j < 4096 then j + 2128 else j - 2048, by split_ifs <;> omega⟩

/-- A row of 6224 entries in the order of the output columns, with zeros past the last. -/
def padCols (f : Fin 6224 → EReal) (j : Fin 6400) : EReal :=
  if h : j.val < 6224 then f (permA j.val h) else 0

/-- The call's result at row `i` and column `j` from the rows times the weights: queries and keys rotated as heads of 128 columns,
    the indexer's queries and key as heads of 64, gate, values and the indexer's weights as they are. -/
def GA (z : Fin 8704 → Fin 6224 → EReal) (i : Fin 8704) (j : Fin 6400) : EReal :=
  if j.val < 2048 ∨ (4096 ≤ j.val ∧ j.val < 4608) then
    rope (i.val % 2176) (fun k => padCols (z i) ⟨128 * (j.val / 128) + k.val, by have := j.isLt; have := k.isLt; omega⟩) ⟨j.val % 128, Nat.mod_lt _ (by decide)⟩
  else if 5120 ≤ j.val ∧ j.val < 6208 then
    rope8 (i.val % 2176) (fun k => padCols (z i) ⟨64 * (j.val / 64) + k.val, by have := j.isLt; have := k.isLt; omega⟩) ⟨j.val % 64, Nat.mod_lt _ (by decide)⟩
  else padCols (z i) j

end Cert.Rope

namespace Cert.Kernel4Ideal.InProj

open Cert.Kernel4Ideal Cert.Kernel4Ideal.Gen Idealize.ShloMosaic Idealize.ShloMosaic.TcCoe Idealize.SL.Sem
open Idealize.ShloMosaic.Pipeline (Dat)
open Cert.Rope

/-- Over the reals the rotated products with their zeros are the rotary embedding of the heads of 64 columns. -/
theorem rot8_eq (n r : ℕ) (v : Fin 128 → EReal) (j : Fin 128) : rot8 v (cosT8 n r) (leftT8 n r) (rightT8 n r) j
    = if j.val < n then rope8 r (fun k => v ⟨64 * (j.val / 64) + k.val, by have := j.isLt; have := k.isLt; omega⟩) ⟨j.val % 64, Nat.mod_lt _ (by decide)⟩ else v j := by
  have hj := j.isLt
  unfold rot8 cosT8 leftT8 rightT8 rope8
  by_cases h0 : j.val < n
  · have ej : (⟨64 * (j.val / 64) + j.val % 64, by omega⟩ : Fin 128) = j := Fin.ext (by show 64 * (j.val / 64) + j.val % 64 = j.val; omega)
    by_cases h1 : j.val % 64 < 8
    · have e : (⟨(j.val + 8) % 128, Nat.mod_lt _ (by decide)⟩ : Fin 128) = ⟨64 * (j.val / 64) + (j.val % 64 + 8), by omega⟩ :=
        Fin.ext (by show (j.val + 8) % 128 = 64 * (j.val / 64) + (j.val % 64 + 8); omega)
      simp only [h0, h1, ↓reduceIte, ↓reduceDIte, mul_zero, add_zero, mul_neg, e, ej, sub_eq_add_neg]
    · by_cases h2 : j.val % 64 < 16
      · have e : (⟨(j.val + 120) % 128, Nat.mod_lt _ (by decide)⟩ : Fin 128) = ⟨64 * (j.val / 64) + (j.val % 64 - 8), by omega⟩ :=
          Fin.ext (by show (j.val + 120) % 128 = 64 * (j.val / 64) + (j.val % 64 - 8); omega)
        simp only [h0, h1, h2, ↓reduceIte, ↓reduceDIte, mul_zero, add_zero, e, ej]
        exact add_comm _ _
      · simp only [h0, h1, h2, ↓reduceIte, ↓reduceDIte, mul_zero, add_zero, mul_one, ej]
  · simp only [h0, ↓reduceIte, mul_zero, add_zero, mul_one]

variable (m : (ℓ : Loc nD τ sig) → Buf (Elt Ideal) ℓ)

/-- The columns joined in the order of the output are the padded columns. -/
theorem order (f : Fin 6224 → EReal) (j : Fin 6400) :
    (if _h : j.val < 2048 then f ⟨j.val, by omega⟩
      else if _h : j.val - 2048 < 2048 then f ⟨4176 + (j.val - 2048), by omega⟩
      else if _h : j.val - 2048 - 2048 < 512 then f ⟨2048 + (j.val - 2048 - 2048), by omega⟩
      else if _h : j.val - 2048 - 2048 - 512 < 512 then f ⟨2560 + (j.val - 2048 - 2048 - 512), by omega⟩
      else if _h : j.val - 2048 - 2048 - 512 - 512 < 1024 then f ⟨3072 + (j.val - 2048 - 2048 - 512 - 512), by omega⟩
      else if _h : j.val - 2048 - 2048 - 512 - 512 - 1024 < 64 then f ⟨4096 + (j.val - 2048 - 2048 - 512 - 512 - 1024), by omega⟩
      else if _h : j.val - 2048 - 2048 - 512 - 512 - 1024 - 64 < 16 then f ⟨4160 + (j.val - 2048 - 2048 - 512 - 512 - 1024 - 64), by omega⟩
      else 0) = padCols f j := by
  have hj := j.isLt
  by_cases h : j.val < 6224
  · have e : ∀ k : Fin 6224, k.val = (if j.val < 2048 then j.val else if j.val < 4096 then j.val + 2128 else j.val - 2048) → f k = padCols f j := by
      intro k hk
      unfold padCols permA
      rw [dif_pos h]
      exact congrArg f (Fin.ext hk)
    split_ifs <;> first | (exact e _ (by dsimp only; split_ifs <;> omega)) | (exfalso; omega)
  · unfold padCols
    rw [dif_neg h]
    split_ifs <;> first | rfl | (exfalso; omega)

theorem weights (c : Dev nD) (r : Fin 2048) (j : Fin 6400) : (V m c main_v71 (ix2 r j) : EReal)
    = padCols (fun k => m ((c : Thread nD τ).loc main_arg2) (ix2 r k)) j := by
  unfold V
  after_reads_at
  after_reads_at
  exact order (fun k => m ((c : Thread nD τ).loc main_arg2) (ix2 r k)) j

theorem tab_cos (c : Dev nD) (r : Fin 2176) (j : Fin 128) : (V m c main_v61 (ix3 0 r j) : EReal) = cosT r.val j := by
  unfold V
  after_reads_at
  after_reads_at
  after_reads_at
  unfold cosT ang
  by_cases h1 : j.val < 16
  · simp only [h1, ↓reduceIte, ↓reduceDIte]
  · by_cases h2 : j.val < 32
    · have h3 : j.val - 16 < 16 := by omega
      simp only [h1, h2, h3, ↓reduceIte, ↓reduceDIte]
    · have h3 : ¬ j.val - 16 < 16 := by omega
      simp only [h1, h2, h3, ↓reduceIte, ↓reduceDIte]

theorem tab_left (c : Dev nD) (r : Fin 2176) (j : Fin 128) : (V m c main_v61 (ix3 1 r j) : EReal) = leftT r.val j := by
  unfold V
  after_reads_at
  after_reads_at
  after_reads_at
  unfold leftT ang
  by_cases h1 : j.val < 16
  · simp only [h1, ↓reduceIte, ↓reduceDIte]
  · by_cases h2 : j.val < 32
    · have h3 : j.val - 16 < 16 := by omega
      simp only [h1, h2, h3, ↓reduceIte, ↓reduceDIte]
    · have h3 : ¬ j.val - 16 < 16 := by omega
      simp only [h1, h2, h3, ↓reduceIte, ↓reduceDIte]

theorem tab_right (c : Dev nD) (r : Fin 2176) (j : Fin 128) : (V m c main_v61 (ix3 2 r j) : EReal) = rightT r.val j := by
  unfold V
  after_reads_at
  after_reads_at
  after_reads_at
  unfold rightT ang
  by_cases h1 : j.val < 16
  · simp only [h1, ↓reduceIte, ↓reduceDIte]
  · simp only [h1, ↓reduceIte, ↓reduceDIte]

/-- A row of 128 columns laid out as twice the same 64, as one function of the column's place among its 64. -/
theorem twice (A B : ℕ → EReal) (C : EReal) (j : Fin 128) :
    (if _h : j.val < 64 then (if _h : j.val < 8 then A j.val else if _h : j.val - 8 < 8 then B (j.val - 8) else C)
      else (if _h : j.val - 64 < 8 then A (j.val - 64) else if _h : j.val - 64 - 8 < 8 then B (j.val - 64 - 8) else C))
    = if j.val < 128 then if j.val % 64 < 8 then A (j.val % 64) else if j.val % 64 < 16 then B (j.val % 64 - 8) else C else C := by
  have hj := j.isLt
  have e : j.val % 64 = if j.val < 64 then j.val else j.val - 64 := by split_ifs <;> omega
  rw [e]
  split_ifs <;> first | rfl | omega

/-- A row of 128 columns of which the second 64 are all the same. -/
theorem once (A B : ℕ → EReal) (C : EReal) (j : Fin 128) :
    (if _h : j.val < 64 then (if _h : j.val < 8 then A j.val else if _h : j.val - 8 < 8 then B (j.val - 8) else C) else C)
    = if j.val < 64 then if j.val % 64 < 8 then A (j.val % 64) else if j.val % 64 < 16 then B (j.val % 64 - 8) else C else C := by
  by_cases h : j.val < 64
  · have e : j.val % 64 = j.val := Nat.mod_eq_of_lt h
    rw [e]
    split_ifs <;> first | rfl | omega
  · simp only [h, ↓reduceIte, ↓reduceDIte]

theorem tab_cos64 (c : Dev nD) (r : Fin 2176) (j : Fin 128) : (V m c main_v61 (ix3 3 r j) : EReal) = cosT8 128 r.val j := by
  unfold V
  after_reads_at
  after_reads_at
  after_reads_at
  after_reads_at
  exact twice (fun k => Ideal.cos (ang8 r.val k)) (fun k => Ideal.cos (ang8 r.val k)) 1 j

theorem tab_left64 (c : Dev nD) (r : Fin 2176) (j : Fin 128) : (V m c main_v61 (ix3 4 r j) : EReal) = leftT8 128 r.val j := by
  unfold V
  after_reads_at
  after_reads_at
  after_reads_at
  after_reads_at
  exact twice (fun _ => 0) (fun k => Ideal.sin (ang8 r.val k)) 0 j

theorem tab_right64 (c : Dev nD) (r : Fin 2176) (j : Fin 128) : (V m c main_v61 (ix3 5 r j) : EReal) = rightT8 128 r.val j := by
  unfold V
  after_reads_at
  after_reads_at
  after_reads_at
  unfold rightT8 ang8
  have hj := j.isLt
  by_cases h0 : j.val < 64
  · have e : j.val % 64 = j.val := Nat.mod_eq_of_lt h0
    by_cases h1 : j.val < 8 <;> simp only [hj, h0, h1, e, ↓reduceIte, ↓reduceDIte]
  · have e : j.val % 64 = j.val - 64 := by omega
    by_cases h1 : j.val - 64 < 8 <;> simp only [hj, h0, h1, e, ↓reduceIte, ↓reduceDIte]

theorem tab_cos1 (c : Dev nD) (r : Fin 2176) (j : Fin 128) : (V m c main_v61 (ix3 6 r j) : EReal) = cosT8 64 r.val j := by
  unfold V
  after_reads_at
  after_reads_at
  after_reads_at
  after_reads_at
  exact once (fun k => Ideal.cos (ang8 r.val k)) (fun k => Ideal.cos (ang8 r.val k)) 1 j

theorem tab_left1 (c : Dev nD) (r : Fin 2176) (j : Fin 128) : (V m c main_v61 (ix3 7 r j) : EReal) = leftT8 64 r.val j := by
  unfold V
  after_reads_at
  after_reads_at
  after_reads_at
  after_reads_at
  exact once (fun _ => 0) (fun k => Ideal.sin (ang8 r.val k)) 0 j

theorem tab_right1 (c : Dev nD) (r : Fin 2176) (j : Fin 128) : (V m c main_v61 (ix3 8 r j) : EReal) = rightT8 64 r.val j := by
  unfold V
  after_reads_at
  after_reads_at
  after_reads_at
  unfold rightT8 ang8
  by_cases h0 : j.val < 64
  · have e : j.val % 64 = j.val := Nat.mod_eq_of_lt h0
    by_cases h1 : j.val < 8 <;> simp only [h0, h1, e, ↓reduceIte, ↓reduceDIte]
  · simp only [h0, ↓reduceIte, ↓reduceDIte]

end Cert.Kernel4Ideal.InProj

end
-- ==== Proof.AInRef.lean ====
module

public import proofs.«01_k».proof.Proof.AInTables
public import proofs.«01_k».proof.Proof.InRef
public import proofs.«01_k».proof.Proof.Gen.Reference4Ideal.Run

@[expose] public section

set_option maxRecDepth 16384

noncomputable section

namespace Cert.Reference4Ideal.InProj

open Cert.Reference4Ideal Cert.Reference4Ideal.Gen Cert.Rope Idealize.ShloMosaic Idealize.ShloMosaic.TcCoe Idealize.SL.Sem
open Cert.Reference3Ideal.InProj (angs angs_apply pieces ropeQ ropeQ_apply)

/-- The normalised rows times the weights, in the weights' own order of columns. -/
def Z (x : FVec Ideal S8704x2048 .f32) (g : FVec Ideal S2048 .f32) (w : FVec Ideal S2048x6224 .f32) : FVec Ideal S8704x6224 .f32 :=
  Host.dotGeneral dot_S8704x2048_S2048x6224_S8704x6224_1_0_0_1_n_n none
    (mulf (mulf x (broadcastInDim S8704x2048 ![0, 1] bcast_S8704x1_S8704x2048_0_1 (Host.rsqrt (addf
      (Host.divf (broadcastInDim S8704x1 ![0] bcast_S8704_S8704x1_0 (Host.reduceAdd (mulf x x) (constant S_ .f32 0x00000000#32) reducesTo_S8704x2048_S8704_d1 h_S_))
        (broadcastInDim S8704x1 ![] bcast_S_S8704x1 (constant S_ .f32 0x45000000#32)))
      (broadcastInDim S8704x1 ![] bcast_S_S8704x1 (constant S_ .f32 0x358637BD#32))))))
      (broadcastInDim S8704x2048 ![0, 1] bcast_S1x2048_S8704x2048_0_1 (broadcastInDim S1x2048 ![1] bcast_S2048_S1x2048_1 g))) w

/-- The angles of the heads of 64 columns as the reference lays them out. -/
def angs8 : FVec Ideal S2176x1x8 .f32 :=
  shapeCast _ (mulf (broadcastInDim S2176x8 ![0, 1] bcast_S2176x1_S2176x8_0_1 (broadcastInDim S2176x1 ![0] bcast_S2176_S2176x1_0 (sitofp .f32 (iotaInDim S2176 32 0))))
    (broadcastInDim S2176x8 ![0, 1] bcast_S1x8_S2176x8_0_1 (broadcastInDim S1x8 ![1] bcast_S8_S1x8_1
      (Host.powf (broadcastInDim S8 ![] bcast_S_S8 (constant S_ .f32 0x48F42400#32))
        (mulf (Host.negf (sitofp .f32 (iotaInDim S8 32 0))) (broadcastInDim S8 ![] bcast_S_S8 (constant S_ .f32 0x3E000000#32))))))) shapeCasts_S2176x8_S2176x1x8

/-- The keys rotated. -/
def ropeK (q : FVec Ideal S4x2176x4x128 .f32) : FVec Ideal S4x2176x4x128 .f32 :=
  let a := extractStridedSlice S4x2176x4x16 ![0, 0, 0, 0] q slices_S4x2176x4x128_S4x2176x4x16_0_0_0_0
  let b := extractStridedSlice S4x2176x4x16 ![0, 0, 0, 16] q slices_S4x2176x4x128_S4x2176x4x16_0_0_0_16
  let co := broadcastInDim S4x2176x4x16 ![0, 1, 2, 3] bcast_S1x2176x1x16_S4x2176x4x16_0_1_2_3 (broadcastInDim S1x2176x1x16 ![1, 2, 3] bcast_S2176x1x16_S1x2176x1x16_1_2_3 (Host.cos angs))
  let si := broadcastInDim S4x2176x4x16 ![0, 1, 2, 3] bcast_S1x2176x1x16_S4x2176x4x16_0_1_2_3 (broadcastInDim S1x2176x1x16 ![1, 2, 3] bcast_S2176x1x16_S1x2176x1x16_1_2_3 (Host.sin angs))
  concatenate S4x2176x4x128 3 [⟨S4x2176x4x16, subf (mulf a co) (mulf b si)⟩, ⟨S4x2176x4x16, addf (mulf a si) (mulf b co)⟩,
    ⟨S4x2176x4x96, extractStridedSlice S4x2176x4x96 ![0, 0, 0, 32] q slices_S4x2176x4x128_S4x2176x4x96_0_0_0_32⟩] concatenates_S4x2176x4x16_S4x2176x4x16_S4x2176x4x96_S4x2176x4x128_d3

/-- The indexer's queries rotated. -/
def ropeI (q : FVec Ideal S4x2176x16x64 .f32) : FVec Ideal S4x2176x16x64 .f32 :=
  let a := extractStridedSlice S4x2176x16x8 ![0, 0, 0, 0] q slices_S4x2176x16x64_S4x2176x16x8_0_0_0_0
  let b := extractStridedSlice S4x2176x16x8 ![0, 0, 0, 8] q slices_S4x2176x16x64_S4x2176x16x8_0_0_0_8
  let co := broadcastInDim S4x2176x16x8 ![0, 1, 2, 3] bcast_S1x2176x1x8_S4x2176x16x8_0_1_2_3 (broadcastInDim S1x2176x1x8 ![1, 2, 3] bcast_S2176x1x8_S1x2176x1x8_1_2_3 (Host.cos angs8))
  let si := broadcastInDim S4x2176x16x8 ![0, 1, 2, 3] bcast_S1x2176x1x8_S4x2176x16x8_0_1_2_3 (broadcastInDim S1x2176x1x8 ![1, 2, 3] bcast_S2176x1x8_S1x2176x1x8_1_2_3 (Host.sin angs8))
  concatenate S4x2176x16x64 3 [⟨S4x2176x16x8, subf (mulf a co) (mulf b si)⟩, ⟨S4x2176x16x8, addf (mulf a si) (mulf b co)⟩,
    ⟨S4x2176x16x48, extractStridedSlice S4x2176x16x48 ![0, 0, 0, 16] q slices_S4x2176x16x64_S4x2176x16x48_0_0_0_16⟩] concatenates_S4x2176x16x8_S4x2176x16x8_S4x2176x16x48_S4x2176x16x64_d3

/-- The indexer's key rotated. -/
def ropeJ (q : FVec Ideal S4x2176x1x64 .f32) : FVec Ideal S4x2176x1x64 .f32 :=
  let a := extractStridedSlice S4x2176x1x8 ![0, 0, 0, 0] q slices_S4x2176x1x64_S4x2176x1x8_0_0_0_0
  let b := extractStridedSlice S4x2176x1x8 ![0, 0, 0, 8] q slices_S4x2176x1x64_S4x2176x1x8_0_0_0_8
  let co := broadcastInDim S4x2176x1x8 ![0, 1, 2, 3] bcast_S1x2176x1x8_S4x2176x1x8_0_1_2_3 (broadcastInDim S1x2176x1x8 ![1, 2, 3] bcast_S2176x1x8_S1x2176x1x8_1_2_3 (Host.cos angs8))
  let si := broadcastInDim S4x2176x1x8 ![0, 1, 2, 3] bcast_S1x2176x1x8_S4x2176x1x8_0_1_2_3 (broadcastInDim S1x2176x1x8 ![1, 2, 3] bcast_S2176x1x8_S1x2176x1x8_1_2_3 (Host.sin angs8))
  concatenate S4x2176x1x64 3 [⟨S4x2176x1x8, subf (mulf a co) (mulf b si)⟩, ⟨S4x2176x1x8, addf (mulf a si) (mulf b co)⟩,
    ⟨S4x2176x1x48, extractStridedSlice S4x2176x1x48 ![0, 0, 0, 16] q slices_S4x2176x1x64_S4x2176x1x48_0_0_0_16⟩] concatenates_S4x2176x1x8_S4x2176x1x8_S4x2176x1x48_S4x2176x1x64_d3

/-- The columns in the order the layer reads them: rotated queries, gate, rotated keys, values, the indexer's rotated queries and key, its weights, zeros. -/
def REF (z : FVec Ideal S8704x6224 .f32) : FVec Ideal S8704x6400 .f32 :=
  concatenate S8704x6400 1
    [⟨S8704x2048, shapeCast S8704x2048 (ropeQ (shapeCast S4x2176x16x128 (extractStridedSlice S8704x2048 ![0, 0] z slices_S8704x6224_S8704x2048_0_0) shapeCasts_S8704x2048_S4x2176x16x128)) shapeCasts_S4x2176x16x128_S8704x2048⟩,
      ⟨S8704x2048, extractStridedSlice S8704x2048 ![0, 4176] z slices_S8704x6224_S8704x2048_0_4176⟩,
      ⟨S8704x512, shapeCast S8704x512 (ropeK (shapeCast S4x2176x4x128 (extractStridedSlice S8704x512 ![0, 2048] z slices_S8704x6224_S8704x512_0_2048) shapeCasts_S8704x512_S4x2176x4x128)) shapeCasts_S4x2176x4x128_S8704x512⟩,
      ⟨S8704x512, extractStridedSlice S8704x512 ![0, 2560] z slices_S8704x6224_S8704x512_0_2560⟩,
      ⟨S8704x1024, shapeCast S8704x1024 (ropeI (shapeCast S4x2176x16x64 (extractStridedSlice S8704x1024 ![0, 3072] z slices_S8704x6224_S8704x1024_0_3072) shapeCasts_S8704x1024_S4x2176x16x64)) shapeCasts_S4x2176x16x64_S8704x1024⟩,
      ⟨S8704x64, shapeCast S8704x64 (ropeJ (shapeCast S4x2176x1x64 (extractStridedSlice S8704x64 ![0, 4096] z slices_S8704x6224_S8704x64_0_4096) shapeCasts_S8704x64_S4x2176x1x64)) shapeCasts_S4x2176x1x64_S8704x64⟩,
      ⟨S8704x16, extractStridedSlice S8704x16 ![0, 4160] z slices_S8704x6224_S8704x16_0_4160⟩,
      ⟨S8704x176, broadcastInDim S8704x176 ![] bcast_S_S8704x176 (constant S_ .f32 0x00000000#32)⟩]
    concatenates_S8704x2048_S8704x2048_S8704x512_S8704x512_S8704x1024_S8704x64_S8704x16_S8704x176_S8704x6400_d1

theorem angs8_apply (r : Fin 2176) (k : Fin 8) : angs8 (ix3 r 0 k) = ang8 r.val k.val := by
  pointwise [angs8]
  rfl

/-- The three pieces of a rotated head of 64 columns, joined. -/
theorem pieces8 (v : Fin 64 → EReal) (j : Fin 64) (co si : ℕ → EReal) :
    (if h : j.val < 8 then v j * co j.val - v ⟨8 + j.val, by omega⟩ * si j.val
      else if h2 : j.val - 8 < 8 then v ⟨j.val - 8, by omega⟩ * si (j.val - 8) + v ⟨8 + (j.val - 8), by omega⟩ * co (j.val - 8)
      else v ⟨16 + (j.val - 8 - 8), by omega⟩)
    = if h : j.val < 8 then v j * co j.val - v ⟨j.val + 8, by omega⟩ * si j.val
      else if j.val < 16 then v ⟨j.val - 8, by omega⟩ * si (j.val - 8) + v j * co (j.val - 8)
      else v j := by
  by_cases h1 : j.val < 8
  · simp only [h1, ↓reduceDIte, Nat.add_comm]
  · by_cases h2 : j.val < 16
    · have h3 : j.val - 8 < 8 := by omega
      have e : (⟨8 + (j.val - 8), by omega⟩ : Fin 64) = j := Fin.ext (by show 8 + (j.val - 8) = j.val; omega)
      simp only [h1, h2, h3, ↓reduceDIte, ↓reduceIte, e]
    · have h3 : ¬ j.val - 8 < 8 := by omega
      have e : (⟨16 + (j.val - 8 - 8), by omega⟩ : Fin 64) = j := Fin.ext (by show 16 + (j.val - 8 - 8) = j.val; omega)
      simp only [h1, h2, h3, ↓reduceDIte, ↓reduceIte, e]

theorem ropeK_apply (q : FVec Ideal S4x2176x4x128 .f32) (b : Fin 4) (r : Fin 2176) (h : Fin 4) (j : Fin 128) :
    ropeK q (ix4 b r h j) = rope r.val (fun k => q (ix4 b r h k)) j := by
  unfold ropeK rope
  have e := angs_apply
  generalize angs = A at e ⊢
  pointwise
  simp only [e]
  exact pieces (fun k => q (ix4 b r h k)) j (fun k => Ideal.cos (ang r.val k)) (fun k => Ideal.sin (ang r.val k))

theorem ropeI_apply (q : FVec Ideal S4x2176x16x64 .f32) (b : Fin 4) (r : Fin 2176) (h : Fin 16) (j : Fin 64) :
    ropeI q (ix4 b r h j) = rope8 r.val (fun k => q (ix4 b r h k)) j := by
  unfold ropeI rope8
  have e := angs8_apply
  generalize angs8 = A at e ⊢
  pointwise
  simp only [e]
  exact pieces8 (fun k => q (ix4 b r h k)) j (fun k => Ideal.cos (ang8 r.val k)) (fun k => Ideal.sin (ang8 r.val k))

theorem ropeJ_apply (q : FVec Ideal S4x2176x1x64 .f32) (b : Fin 4) (r : Fin 2176) (j : Fin 64) :
    ropeJ q (ix4 b r 0 j) = rope8 r.val (fun k => q (ix4 b r 0 k)) j := by
  unfold ropeJ rope8
  have e := angs8_apply
  generalize angs8 = A at e ⊢
  pointwise
  simp only [e]
  exact pieces8 (fun k => q (ix4 b r 0 k)) j (fun k => Ideal.cos (ang8 r.val k)) (fun k => Ideal.sin (ang8 r.val k))

theorem headQ (z : FVec Ideal S8704x6224 .f32) (b : Fin 4) (r : Fin 2176) (h : Fin 16) (k : Fin 128) :
    shapeCast S4x2176x16x128 (extractStridedSlice S8704x2048 ![0, 0] z slices_S8704x6224_S8704x2048_0_0) shapeCasts_S8704x2048_S4x2176x16x128 (ix4 b r h k)
      = z (ix2 ⟨2176 * b.val + r.val, by omega⟩ ⟨128 * h.val + k.val, by omega⟩) := by
  pointwise
  refine congrArg z (congrArg₂ ix2 (Fin.ext ?_) (Fin.ext ?_)) <;> (dsimp only; omega)

theorem headK (z : FVec Ideal S8704x6224 .f32) (b : Fin 4) (r : Fin 2176) (h : Fin 4) (k : Fin 128) :
    shapeCast S4x2176x4x128 (extractStridedSlice S8704x512 ![0, 2048] z slices_S8704x6224_S8704x512_0_2048) shapeCasts_S8704x512_S4x2176x4x128 (ix4 b r h k)
      = z (ix2 ⟨2176 * b.val + r.val, by omega⟩ ⟨2048 + 128 * h.val + k.val, by omega⟩) := by
  pointwise
  refine congrArg z (congrArg₂ ix2 (Fin.ext ?_) (Fin.ext ?_)) <;> (dsimp only; omega)

theorem headI (z : FVec Ideal S8704x6224 .f32) (b : Fin 4) (r : Fin 2176) (h : Fin 16) (k : Fin 64) :
    shapeCast S4x2176x16x64 (extractStridedSlice S8704x1024 ![0, 3072] z slices_S8704x6224_S8704x1024_0_3072) shapeCasts_S8704x1024_S4x2176x16x64 (ix4 b r h k)
      = z (ix2 ⟨2176 * b.val + r.val, by omega⟩ ⟨3072 + 64 * h.val + k.val, by omega⟩) := by
  pointwise
  refine congrArg z (congrArg₂ ix2 (Fin.ext ?_) (Fin.ext ?_)) <;> (dsimp only; omega)

theorem headJ (z : FVec Ideal S8704x6224 .f32) (b : Fin 4) (r : Fin 2176) (k : Fin 64) :
    shapeCast S4x2176x1x64 (extractStridedSlice S8704x64 ![0, 4096] z slices_S8704x6224_S8704x64_0_4096) shapeCasts_S8704x64_S4x2176x1x64 (ix4 b r 0 k)
      = z (ix2 ⟨2176 * b.val + r.val, by omega⟩ ⟨4096 + k.val, by omega⟩) := by
  pointwise
  refine congrArg z (congrArg₂ ix2 (Fin.ext ?_) (Fin.ext ?_)) <;> first | rfl | (dsimp only; omega)

theorem REF_apply (z : FVec Ideal S8704x6224 .f32) (i : Fin 8704) (j : Fin 6400) :
    REF z (ix2 i j) = GA (fun a b => z (ix2 a b)) i j := by
  have hi := i.isLt
  have hj := j.isLt
  unfold REF
  have eq : ∀ b r h k, ropeQ (shapeCast S4x2176x16x128 (extractStridedSlice S8704x2048 ![0, 0] z slices_S8704x6224_S8704x2048_0_0) shapeCasts_S8704x2048_S4x2176x16x128) (ix4 b r h k) = _ :=
    fun b r h k => (ropeQ_apply _ b r h k).trans (congrArg (fun v => rope r.val v k) (funext fun c => headQ z b r h c))
  have ek : ∀ b r h k, ropeK (shapeCast S4x2176x4x128 (extractStridedSlice S8704x512 ![0, 2048] z slices_S8704x6224_S8704x512_0_2048) shapeCasts_S8704x512_S4x2176x4x128) (ix4 b r h k) = _ :=
    fun b r h k => (ropeK_apply _ b r h k).trans (congrArg (fun v => rope r.val v k) (funext fun c => headK z b r h c))
  have ei : ∀ b r h k, ropeI (shapeCast S4x2176x16x64 (extractStridedSlice S8704x1024 ![0, 3072] z slices_S8704x6224_S8704x1024_0_3072) shapeCasts_S8704x1024_S4x2176x16x64) (ix4 b r h k) = _ :=
    fun b r h k => (ropeI_apply _ b r h k).trans (congrArg (fun v => rope8 r.val v k) (funext fun c => headI z b r h c))
  have ec : ∀ b r k, ropeJ (shapeCast S4x2176x1x64 (extractStridedSlice S8704x64 ![0, 4096] z slices_S8704x6224_S8704x64_0_4096) shapeCasts_S8704x64_S4x2176x1x64) (ix4 b r 0 k) = _ :=
    fun b r k => (ropeJ_apply _ b r k).trans (congrArg (fun v => rope8 r.val v k) (funext fun c => headJ z b r c))
  generalize ropeQ (shapeCast S4x2176x16x128 (extractStridedSlice S8704x2048 ![0, 0] z slices_S8704x6224_S8704x2048_0_0) shapeCasts_S8704x2048_S4x2176x16x128) = Q at eq ⊢
  generalize ropeK (shapeCast S4x2176x4x128 (extractStridedSlice S8704x512 ![0, 2048] z slices_S8704x6224_S8704x512_0_2048) shapeCasts_S8704x512_S4x2176x4x128) = K at ek ⊢
  generalize ropeI (shapeCast S4x2176x16x64 (extractStridedSlice S8704x1024 ![0, 3072] z slices_S8704x6224_S8704x1024_0_3072) shapeCasts_S8704x1024_S4x2176x16x64) = QI at ei ⊢
  generalize ropeJ (shapeCast S4x2176x1x64 (extractStridedSlice S8704x64 ![0, 4096] z slices_S8704x6224_S8704x64_0_4096) shapeCasts_S8704x64_S4x2176x1x64) = KI at ec ⊢
  pointwise
  simp only [eq, ek, ei, ec]
  have e0 : (⟨2176 * (i.val / 2176) + i.val % 2176, by omega⟩ : Fin 8704) = i := Fin.ext (by show 2176 * (i.val / 2176) + i.val % 2176 = i.val; omega)
  simp only [e0]
  have p1 : ∀ (a : Fin 6400) (k : Fin 6224), a.val < 6224 → k.val = (if a.val < 2048 then a.val else if a.val < 4096 then a.val + 2128 else a.val - 2048) →
      z (ix2 i k) = padCols (fun b => z (ix2 i b)) a := by
    intro a k ha hk
    unfold padCols permA
    rw [dif_pos ha]
    exact congrArg (fun b => z (ix2 i b)) (Fin.ext hk)
  have p2 : ∀ (k : Fin 6224), ¬ (j.val < 2048 ∨ (4096 ≤ j.val ∧ j.val < 4608)) → ¬ (5120 ≤ j.val ∧ j.val < 6208) → j.val < 6224 →
      k.val = (if j.val < 2048 then j.val else if j.val < 4096 then j.val + 2128 else j.val - 2048) → z (ix2 i k) = GA (fun a b => z (ix2 a b)) i j := by
    intro k n1 n2 hj' hk
    unfold GA
    rw [if_neg n1, if_neg n2]
    exact p1 j k hj' hk
  have p3 : ∀ (K : Fin 128 → Fin 6224) (p : Fin 128), j.val < 2048 ∨ (4096 ≤ j.val ∧ j.val < 4608) → p.val = j.val % 128 →
      (∀ c : Fin 128, (K c).val = (if 128 * (j.val / 128) + c.val < 2048 then 128 * (j.val / 128) + c.val else 128 * (j.val / 128) + c.val - 2048)) →
      rope (i.val % 2176) (fun c => z (ix2 i (K c))) p = GA (fun a b => z (ix2 a b)) i j := by
    intro K p h hp hK
    unfold GA
    rw [if_pos h]
    refine congrArg₂ (fun v a => rope (i.val % 2176) v a) (funext fun c => ?_) (Fin.ext hp)
    have hc := c.isLt
    refine p1 _ _ (by dsimp only; omega) ((hK c).trans ?_)
    dsimp only
    split_ifs <;> omega
  have p4 : ∀ (K : Fin 64 → Fin 6224) (p : Fin 64), 5120 ≤ j.val ∧ j.val < 6208 → p.val = j.val % 64 →
      (∀ c : Fin 64, (K c).val = 64 * (j.val / 64) + c.val - 2048) →
      rope8 (i.val % 2176) (fun c => z (ix2 i (K c))) p = GA (fun a b => z (ix2 a b)) i j := by
    intro K p h hp hK
    unfold GA
    rw [if_neg (by omega), if_pos h]
    refine congrArg₂ (fun v a => rope8 (i.val % 2176) v a) (funext fun c => ?_) (Fin.ext hp)
    have hc := c.isLt
    refine p1 _ _ (by dsimp only; omega) ((hK c).trans ?_)
    dsimp only
    split_ifs <;> omega
  by_cases h0 : j.val < 2048
  · rw [dif_pos h0]
    exact p3 _ _ (by omega) rfl (fun c => by dsimp only; split_ifs <;> omega)
  rw [dif_neg h0]
  by_cases h1 : j.val - 2048 < 2048
  · rw [dif_pos h1]
    exact p2 _ (by omega) (by omega) (by omega) (by dsimp only; split_ifs <;> omega)
  rw [dif_neg h1]
  by_cases h2 : j.val - 2048 - 2048 < 512
  · rw [dif_pos h2]
    exact p3 _ _ (by omega) (by dsimp only; omega) (fun c => by dsimp only; split_ifs <;> omega)
  rw [dif_neg h2]
  by_cases h3 : j.val - 2048 - 2048 - 512 < 512
  · rw [dif_pos h3]
    exact p2 _ (by omega) (by omega) (by omega) (by dsimp only; split_ifs <;> omega)
  rw [dif_neg h3]
  by_cases h4 : j.val - 2048 - 2048 - 512 - 512 < 1024
  · rw [dif_pos h4]
    exact p4 _ _ (by omega) (by dsimp only; omega) (fun c => by dsimp only; omega)
  rw [dif_neg h4]
  by_cases h5 : j.val - 2048 - 2048 - 512 - 512 - 1024 < 64
  · rw [dif_pos h5]
    exact p4 _ _ (by omega) (by dsimp only; omega) (fun c => by dsimp only; omega)
  rw [dif_neg h5]
  by_cases h6 : j.val - 2048 - 2048 - 512 - 512 - 1024 - 64 < 16
  · rw [dif_pos h6]
    exact p2 _ (by omega) (by omega) (by omega) (by dsimp only; split_ifs <;> omega)
  rw [dif_neg h6]
  unfold GA padCols
  rw [if_neg (by omega), if_neg (by omega), dif_neg (by omega)]

end Cert.Reference4Ideal.InProj

end
-- ==== Proof.AInValue.lean ====
module

public import proofs.«01_k».proof.Proof.AInRef

@[expose] public section

set_option maxRecDepth 16384

noncomputable section

namespace Cert.Kernel4Ideal.InProj

open Cert.Kernel4Ideal Cert.Kernel4Ideal.Gen Cert.Rope Idealize.ShloMosaic Idealize.ShloMosaic.TcCoe Idealize.SL.Sem
open Idealize.ShloMosaic.Pipeline (Dat)
open Cert.Kernel3Ideal.InProj (rot rotated rot_eq)

/-- One entry of the product: the kernel's block and the reference's whole matrix read the same rows, gains and weights,
    except past the last column, where the kernel multiplies by zeros. -/
theorem product (X : Vec Ideal S1088x2048 .f32) (g1 : Vec Ideal S1x2048 .f32) (w1 : Vec Ideal S2048x256 .bf16)
    (x : FVec Ideal S8704x2048 .f32) (g : FVec Ideal S2048 .f32) (w : FVec Ideal S2048x6224 .f32)
    (r : Fin 1088) (q : Fin 256) (i : Fin 8704) (j : Fin 6400)
    (hx : ∀ k : Fin 2048, X (ix2 r k) = x (ix2 i k)) (hg : ∀ k : Fin 2048, g1 (ix2 0 k) = g (ix1 k))
    (hw : ∀ k : Fin 2048, (w1 (ix2 k q) : EReal) = padCols (fun a => w (ix2 k a)) j) :
    k0_pay2 (F := Ideal) (k0_pay1 (F := Ideal) X g1) w1 (ix2 r q) = padCols (fun a => Cert.Reference4Ideal.InProj.Z x g w (ix2 i a)) j := by
  unfold padCols at hw ⊢
  by_cases h : j.val < 6224
  · simp only [h, ↓reduceDIte] at hw ⊢
    pointwise [k0_pay1, k0_pay2, Cert.Reference4Ideal.InProj.Z]
    simp only [hx, hg, hw]
  · simp only [h, ↓reduceDIte] at hw ⊢
    generalize k0_pay1 (F := Ideal) X g1 = Y
    pointwise [k0_pay2]
    simp only [hw, mul_zero, Finset.sum_const_zero]

variable (m : (ℓ : Loc nD τ sig) → Buf (Elt Ideal) ℓ)

/-- The reference's product at this program's arguments. -/
def Zm (c : Dev nD) : FVec Ideal Cert.Reference4Ideal.S8704x6224 .f32 :=
  Cert.Reference4Ideal.InProj.Z (m ((c : Thread nD τ).loc main_arg0)) (m ((c : Thread nD τ).loc main_arg1)) (m ((c : Thread nD τ).loc main_arg2))

theorem rows_at (c : Dev nD) (t : Fin cfg0.N) (r : Fin 1088) (k : Fin 2048) (i : Fin 8704) (hi : i.val = 1088 * (t.val / 25) + r.val) :
    (iblk m c 0 (head t) (ix2 r k) : EReal) = m ((c : Thread nD τ).loc main_arg0) (ix2 i k) := by
  have hh : (head t).val = 25 * (t.val / 25) := rfl
  blk_point [iblk, V, idx (head t), hh]

theorem gain_at (c : Dev nD) (t : Fin cfg0.N) (k : Fin 2048) :
    (iblk m c 1 t (ix2 0 k) : EReal) = m ((c : Thread nD τ).loc main_arg1) (ix1 k) := by
  blk_simp [iblk]
  unfold V
  after_reads_at
  blk_ext [idx t]

theorem weights_at (c : Dev nD) (t : Fin cfg0.N) (k : Fin 2048) (q : Fin 256) (j : Fin 6400) (hj : j.val = 256 * (t.val % 25) + q.val) :
    (iblk m c 2 t (ix2 k q) : EReal) = padCols (fun a => m ((c : Thread nD τ).loc main_arg2) (ix2 k a)) j := by
  rw [← weights m c k j]
  blk_simp [iblk]
  generalize V m c main_v71 = F
  blk_ext [idx t]

/-- A window over the tables reads the group its column block names, at the positions of its rows. -/
theorem table3 (c : Dev nD) (t : Fin cfg0.N) (r : Fin 1088) (j : Fin 128) (i : Fin 8704) (hi : i.val = 1088 * (t.val / 25) + r.val)
    (s : Fin 9) (hs : s.val = kind (t.val % 25)) :
    (iblk m c 3 t (ix3 0 r j) : EReal) = V m c main_v61 (ix3 s ⟨i.val % 2176, Nat.mod_lt _ (by decide)⟩ j) := by
  blk_simp [iblk]
  generalize V m c main_v61 = F
  blk_ext [idx t]

theorem table4 (c : Dev nD) (t : Fin cfg0.N) (r : Fin 1088) (j : Fin 128) (i : Fin 8704) (hi : i.val = 1088 * (t.val / 25) + r.val)
    (s : Fin 9) (hs : s.val = kind (t.val % 25) + 1) :
    (iblk m c 4 t (ix3 0 r j) : EReal) = V m c main_v61 (ix3 s ⟨i.val % 2176, Nat.mod_lt _ (by decide)⟩ j) := by
  blk_simp [iblk]
  generalize V m c main_v61 = F
  blk_ext [idx t]

theorem table5 (c : Dev nD) (t : Fin cfg0.N) (r : Fin 1088) (j : Fin 128) (i : Fin 8704) (hi : i.val = 1088 * (t.val / 25) + r.val)
    (s : Fin 9) (hs : s.val = kind (t.val % 25) + 2) :
    (iblk m c 5 t (ix3 0 r j) : EReal) = V m c main_v61 (ix3 s ⟨i.val % 2176, Nat.mod_lt _ (by decide)⟩ j) := by
  blk_simp [iblk]
  generalize V m c main_v61 = F
  blk_ext [idx t]

theorem product_at (c : Dev nD) (t : Fin cfg0.N) (r : Fin 1088) (q : Fin 256) (i : Fin 8704) (j : Fin 6400)
    (hi : i.val = 1088 * (t.val / 25) + r.val) (hj : j.val = 256 * (t.val % 25) + q.val) :
    k0_pay2 (F := Ideal) (rows m c t) (iblk m c 2 t) (ix2 r q) = padCols (fun a => Zm m c (ix2 i a)) j :=
  product _ _ _ _ _ _ r q i j (fun k => rows_at m c t r k i hi) (fun k => gain_at m c (head t) k) (fun k => weights_at m c t k q j hj)

/-- The blocks whose heads have 128 columns. -/
theorem out_rot (c : Dev nD) (t : Fin cfg0.N) (r : Fin 1088) (q : Fin 256) (i : Fin 8704) (j : Fin 6400)
    (hi : i.val = 1088 * (t.val / 25) + r.val) (hj : j.val = 256 * (t.val % 25) + q.val) (hR : Rot (t.val % 25)) :
    ((outsAt0 m c t.val t.isLt).1 (ix2 r q) : EReal) = GA (fun a b => Zm m c (ix2 a b)) i j := by
  have hq := q.isLt
  unfold GA
  have hc : j.val < 2048 ∨ (4096 ≤ j.val ∧ j.val < 4608) := by unfold Rot at hR; omega
  have hk : kind (t.val % 25) = 0 := by unfold Rot at hR; unfold kind; omega
  rw [if_pos hc]
  have e : ((outsAt0 m c t.val t.isLt).1 (ix2 r q) : EReal)
      = rotated (rows m c t) (iblk m c 2 t) (iblk m c 3 t) (iblk m c 4 t) (iblk m c 5 t) (ix2 r q) := by
    by_cases h0 : t.val % 25 = 0
    · exact out_A m c t h0 _
    · exact out_B m c t h0 hR _
  rw [e, ← rot_eq]
  unfold rotated
  have e1 : (⟨q.val % 128, Nat.mod_lt _ (by decide)⟩ : Fin 128) = ⟨j.val % 128, Nat.mod_lt _ (by decide)⟩ :=
    Fin.ext (by show q.val % 128 = j.val % 128; omega)
  have ev : (fun k : Fin 128 => (k0_pay2 (F := Ideal) (rows m c t) (iblk m c 2 t) (ix2 r ⟨128 * (q.val / 128) + k.val, by have := k.isLt; omega⟩) : EReal))
      = fun k => padCols (fun a => Zm m c (ix2 i a)) ⟨128 * (j.val / 128) + k.val, by have := j.isLt; have := k.isLt; omega⟩ :=
    funext fun k => product_at m c t r _ i _ hi (by show 128 * (j.val / 128) + k.val = 256 * (t.val % 25) + (128 * (q.val / 128) + k.val); omega)
  have ea : (fun k : Fin 128 => (iblk m c 3 t (ix3 0 r k) : EReal)) = cosT (i.val % 2176) :=
    funext fun k => (table3 m c t r k i hi 0 (by rw [hk]; rfl)).trans (tab_cos m c _ k)
  have eb : (fun k : Fin 128 => (iblk m c 4 t (ix3 0 r k) : EReal)) = leftT (i.val % 2176) :=
    funext fun k => (table4 m c t r k i hi 1 (by rw [hk]; rfl)).trans (tab_left m c _ k)
  have ed : (fun k : Fin 128 => (iblk m c 5 t (ix3 0 r k) : EReal)) = rightT (i.val % 2176) :=
    funext fun k => (table5 m c t r k i hi 2 (by rw [hk]; rfl)).trans (tab_right m c _ k)
  exact (congrArg₂ (fun v x => rot v _ _ _ x) ev e1).trans
    ((congrArg (fun a => rot _ a _ _ _) ea).trans ((congrArg (fun a => rot _ _ a _ _) eb).trans (congrArg (fun a => rot _ _ _ a _) ed)))

/-- The blocks whose heads have 64 columns, of which the first `n` of each 128 columns are heads. -/
theorem out_rot8 (c : Dev nD) (t : Fin cfg0.N) (r : Fin 1088) (q : Fin 256) (i : Fin 8704) (j : Fin 6400)
    (hi : i.val = 1088 * (t.val / 25) + r.val) (hj : j.val = 256 * (t.val % 25) + q.val) (h20 : 20 ≤ t.val % 25) (n : ℕ)
    (ea : (fun k : Fin 128 => (iblk m c 3 t (ix3 0 r k) : EReal)) = cosT8 n (i.val % 2176))
    (eb : (fun k : Fin 128 => (iblk m c 4 t (ix3 0 r k) : EReal)) = leftT8 n (i.val % 2176))
    (ed : (fun k : Fin 128 => (iblk m c 5 t (ix3 0 r k) : EReal)) = rightT8 n (i.val % 2176)) :
    ((outsAt0 m c t.val t.isLt).1 (ix2 r q) : EReal) = if j.val % 128 < n then
      rope8 (i.val % 2176) (fun k => padCols (fun a => Zm m c (ix2 i a)) ⟨64 * (j.val / 64) + k.val, by have := j.isLt; have := k.isLt; omega⟩) ⟨j.val % 64, Nat.mod_lt _ (by decide)⟩
      else padCols (fun a => Zm m c (ix2 i a)) j := by
  have hq := q.isLt
  have hjl := j.isLt
  have e1 : (⟨q.val % 128, Nat.mod_lt _ (by decide)⟩ : Fin 128) = ⟨j.val % 128, Nat.mod_lt _ (by decide)⟩ :=
    Fin.ext (by show q.val % 128 = j.val % 128; omega)
  have ev : (fun k : Fin 128 => (k0_pay2 (F := Ideal) (rows m c t) (iblk m c 2 t) (ix2 r ⟨128 * (q.val / 128) + k.val, by have := k.isLt; omega⟩) : EReal))
      = fun k => padCols (fun a => Zm m c (ix2 i a)) ⟨128 * (j.val / 128) + k.val, by have := j.isLt; have := k.isLt; omega⟩ :=
    funext fun k => product_at m c t r _ i _ hi (by show 128 * (j.val / 128) + k.val = 256 * (t.val % 25) + (128 * (q.val / 128) + k.val); omega)
  rw [out_D m c t h20]
  unfold rotated8
  refine (congrArg₂ (fun v x => rot8 v _ _ _ x) ev e1).trans
    ((congrArg (fun a => rot8 _ a _ _ _) ea).trans ((congrArg (fun a => rot8 _ _ a _ _) eb).trans ((congrArg (fun a => rot8 _ _ _ a _) ed).trans ?_)))
  rw [rot8_eq]
  by_cases hn : j.val % 128 < n
  · rw [if_pos hn, if_pos hn]
    refine congrArg₂ (fun v a => rope8 (i.val % 2176) v a) (funext fun k => congrArg (padCols _) (Fin.ext ?_)) (Fin.ext ?_) <;> (dsimp only; omega)
  · rw [if_neg hn, if_neg hn]
    exact congrArg (padCols _) (Fin.ext (by dsimp only; omega))

/-- What a point leaves in its block: the call's result at the block's rows and columns. -/
theorem out_at (c : Dev nD) (t : Fin cfg0.N) (r : Fin 1088) (q : Fin 256) (i : Fin 8704) (j : Fin 6400)
    (hi : i.val = 1088 * (t.val / 25) + r.val) (hj : j.val = 256 * (t.val % 25) + q.val) :
    ((outsAt0 m c t.val t.isLt).1 (ix2 r q) : EReal) = GA (fun a b => Zm m c (ix2 a b)) i j := by
  have hq := q.isLt
  by_cases hR : Rot (t.val % 25)
  · exact out_rot m c t r q i j hi hj hR
  · unfold GA
    rw [if_neg (by unfold Rot at hR; omega)]
    by_cases h20 : t.val % 25 < 20
    · rw [if_neg (by omega), out_C m c t hR h20]
      exact product_at m c t r q i j hi hj
    · by_cases h24 : t.val % 25 < 24
      · have hk : kind (t.val % 25) = 3 := by unfold kind; omega
        rw [if_pos (by omega), out_rot8 m c t r q i j hi hj (by omega) 128
          (funext fun k => (table3 m c t r k i hi 3 (by rw [hk]; rfl)).trans (tab_cos64 m c _ k))
          (funext fun k => (table4 m c t r k i hi 4 (by rw [hk]; rfl)).trans (tab_left64 m c _ k))
          (funext fun k => (table5 m c t r k i hi 5 (by rw [hk]; rfl)).trans (tab_right64 m c _ k)), if_pos (Nat.mod_lt _ (by decide))]
      · have hk : kind (t.val % 25) = 6 := by unfold kind; omega
        rw [out_rot8 m c t r q i j hi hj (by omega) 64
          (funext fun k => (table3 m c t r k i hi 6 (by rw [hk]; rfl)).trans (tab_cos1 m c _ k))
          (funext fun k => (table4 m c t r k i hi 7 (by rw [hk]; rfl)).trans (tab_left1 m c _ k))
          (funext fun k => (table5 m c t r k i hi 8 (by rw [hk]; rfl)).trans (tab_right1 m c _ k))]
        by_cases h1 : j.val < 6208
        · rw [if_pos (by omega), if_pos (by omega)]
        · rw [if_neg (by omega : ¬ (5120 ≤ j.val ∧ j.val < 6208))]
          by_cases h2 : j.val % 128 < 64
          · rw [if_pos h2]
            have ez : (fun k : Fin 64 => padCols (fun a => Zm m c (ix2 i a)) ⟨64 * (j.val / 64) + k.val, by have := j.isLt; have := k.isLt; omega⟩) = fun _ => 0 :=
              funext fun k => by
                unfold padCols
                rw [dif_neg (by dsimp only; omega)]
            rw [ez, rope8_zero]
            unfold padCols
            rw [dif_neg (by omega)]
          · rw [if_neg h2]

theorem place_at (t : Fin cfg0.N) (F : S8704x6400.Idx → EReal) (r : Fin 1088) (q : Fin 256) (i : Fin 8704) (j : Fin 6400)
    (hi : i.val = 1088 * (t.val / 25) + r.val) (hj : j.val = 256 * (t.val % 25) + q.val) :
    F (((cfg0.win 6).blk t).view.emb (ix2 r q)) = F (ix2 i j) := by
  blk_point [idx t]

/-- The result array is any function that each point's block is a tile of. -/
theorem final_of (c : Dev nD) (F : FVec Ideal S8704x6400 .f32)
    (hF : ∀ (t : Fin cfg0.N) (r : Fin 1088) (q : Fin 256) (i : Fin 8704) (j : Fin 6400), i.val = 1088 * (t.val / 25) + r.val → j.val = 256 * (t.val % 25) + q.val →
      ((outsAt0 m c t.val t.isLt).1 (ix2 r q) : EReal) = F (ix2 i j)) :
    (dats m 0 c).arrAt 6 (cfgs 0).N = F := by
  refine (dats m 0 c).arrAt_eq_of_covers 6 _ (by decide +kernel) fun t _ y => ?_
  blk_simp
  rw [after0_6]
  have e : y = (ix2 (y 0) (y 1) : S1088x256.Idx) := by
    funext a; apply Fin.ext; fin_cases a <;> rfl
  have ht : t.val < 200 := t.isLt
  have l0 : (y 0).val < 1088 := (y 0).isLt
  have l1 : (y 1).val < 256 := (y 1).isLt
  rw [e]
  exact (hF t (y 0) (y 1) ⟨1088 * (t.val / 25) + (y 0).val, by omega⟩ ⟨256 * (t.val % 25) + (y 1).val, by omega⟩ rfl rfl).trans
    (place_at t F (y 0) (y 1) _ _ rfl rfl).symm

theorem final (c : Dev nD) : (dats m 0 c).arrAt 6 (cfgs 0).N = Cert.Reference4Ideal.InProj.REF (Zm m c) :=
  final_of m c _ fun t r q i j hi hj => (out_at m c t r q i j hi hj).trans (Cert.Reference4Ideal.InProj.REF_apply (Zm m c) i j).symm

end Cert.Kernel4Ideal.InProj

end
-- ==== Proof.AInCache.lean ====
module

public import proofs.«01_k».proof.Proof.AInValue
public import Idealize.ShloMosaic.Lib.StableHlo.ReadAt

@[expose] public section

set_option maxRecDepth 16384

noncomputable section

namespace Cert.Reference4Ideal.InProj

open Cert.Reference4Ideal Cert.Reference4Ideal.Gen Cert.Rope Idealize.ShloMosaic Idealize.ShloMosaic.TcCoe Idealize.SL.Sem

/-- The real tokens of the rotated keys. -/
def realK (k : FVec Ideal S4x2176x4x128 .f32) : FVec Ideal S4x2064x4x128 .f32 :=
  extractStridedSlice S4x2064x4x128 ![0, 0, 0, 0] k slices_S4x2176x4x128_S4x2064x4x128_0_0_0_0

theorem realK_apply (k : FVec Ideal S4x2176x4x128 .f32) (b : Fin 4) (r : Fin 2064) (h : Fin 4) (j : Fin 128) :
    realK k (ix4 b r h j) = k (ix4 b ⟨r.val, by omega⟩ h j) := by
  unfold realK
  pointwise

/-- The real tokens of the indexer's rotated key. -/
def realJ (k : FVec Ideal S4x2176x1x64 .f32) : FVec Ideal S4x2064x64 .f32 :=
  extractStridedSlice S4x2064x64 ![0, 0, 0] (shapeCast S4x2176x64 k shapeCasts_S4x2176x1x64_S4x2176x64) slices_S4x2176x64_S4x2064x64_0_0_0

theorem realJ_apply (k : FVec Ideal S4x2176x1x64 .f32) (b : Fin 4) (r : Fin 2064) (j : Fin 64) :
    realJ k (ix3 b r j) = k (ix4 b ⟨r.val, by omega⟩ 0 j) := by
  unfold realJ
  pointwise

/-- The keys as the reference returns them, from the whole product. -/
def cacheK (z : FVec Ideal S8704x6224 .f32) : FVec Ideal S4x2064x4x128 .f32 :=
  realK (ropeK (shapeCast S4x2176x4x128 (extractStridedSlice S8704x512 ![0, 2048] z slices_S8704x6224_S8704x512_0_2048) shapeCasts_S8704x512_S4x2176x4x128))

/-- The values as the reference returns them. -/
def cacheV (z : FVec Ideal S8704x6224 .f32) : FVec Ideal S4x2064x4x128 .f32 :=
  extractStridedSlice S4x2064x4x128 ![0, 0, 0, 0]
    (shapeCast S4x2176x4x128 (extractStridedSlice S8704x512 ![0, 2560] z slices_S8704x6224_S8704x512_0_2560) shapeCasts_S8704x512_S4x2176x4x128)
    slices_S4x2176x4x128_S4x2064x4x128_0_0_0_0

/-- The indexer's key as the reference returns it. -/
def cacheJ (z : FVec Ideal S8704x6224 .f32) : FVec Ideal S4x2064x64 .f32 :=
  realJ (ropeJ (shapeCast S4x2176x1x64 (extractStridedSlice S8704x64 ![0, 4096] z slices_S8704x6224_S8704x64_0_4096) shapeCasts_S8704x64_S4x2176x1x64))

theorem cacheV_apply (z : FVec Ideal S8704x6224 .f32) (b : Fin 4) (r : Fin 2064) (h : Fin 4) (j : Fin 128) :
    cacheV z (ix4 b r h j) = z (ix2 ⟨b.val * 2176 + r.val, by omega⟩ ⟨2560 + (h.val * 128 + j.val), by omega⟩) := by
  unfold cacheV
  pointwise

/-- The product at the reference's own arguments. -/
def Zr (m : (ℓ : Loc nD τ sig) → Buf (Elt Ideal) ℓ) (c : Dev nD) : FVec Ideal S8704x6224 .f32 :=
  Z (m ((c : Thread nD τ).loc main_arg0)) (m ((c : Thread nD τ).loc main_arg1)) (m ((c : Thread nD τ).loc main_arg2))

theorem run13 (m : (ℓ : Loc nD τ sig) → Buf (Elt Ideal) ℓ) (c : Dev nD) : Value.res_main_v13 (StableHlo.launchContents m c) = Zr m c := rfl

theorem runK (m : (ℓ : Loc nD τ sig) → Buf (Elt Ideal) ℓ) (c : Dev nD) :
    Value.res_main_v90 (StableHlo.launchContents m c) = ropeK (shapeCast S4x2176x4x128 (extractStridedSlice S8704x512 ![0, 2048] (Zr m c) slices_S8704x6224_S8704x512_0_2048) shapeCasts_S8704x512_S4x2176x4x128) := rfl

theorem runV (m : (ℓ : Loc nD τ sig) → Buf (Elt Ideal) ℓ) (c : Dev nD) :
    Value.res_main_v16 (StableHlo.launchContents m c) = extractStridedSlice S8704x512 ![0, 2560] (Zr m c) slices_S8704x6224_S8704x512_0_2560 := rfl

theorem runJ (m : (ℓ : Loc nD τ sig) → Buf (Elt Ideal) ℓ) (c : Dev nD) :
    Value.res_main_v159 (StableHlo.launchContents m c) = ropeJ (shapeCast S4x2176x1x64 (extractStridedSlice S8704x64 ![0, 4096] (Zr m c) slices_S8704x6224_S8704x64_0_4096) shapeCasts_S8704x64_S4x2176x1x64) := rfl

/-- The key columns of the joined array are the rotated keys, head by head. -/
theorem REF_key (z : FVec Ideal S8704x6224 .f32) (b : Fin 4) (r : Fin 2064) (h : Fin 4) (j : Fin 128) :
    REF z (ix2 ⟨b.val * 2176 + r.val, by omega⟩ ⟨4096 + (h.val * 128 + j.val), by omega⟩) = cacheK z (ix4 b r h j) := by
  unfold cacheK
  rw [realK_apply, ropeK_apply, REF_apply]
  simp only [headK]
  unfold GA
  rw [if_pos (by right; dsimp only; omega)]
  have e1 : (b.val * 2176 + r.val) % 2176 = r.val := by omega
  have e2 : (⟨(4096 + (h.val * 128 + j.val)) % 128, Nat.mod_lt _ (by decide)⟩ : Fin 128) = j := Fin.ext (by dsimp only; omega)
  dsimp only
  rw [e1]
  refine congrArg₂ (fun v a => rope r.val v a) (funext fun c => ?_) e2
  have := c.isLt
  unfold padCols permA
  rw [dif_pos (by dsimp only; omega)]
  refine congrArg z (congrArg₂ ix2 (Fin.ext ?_) (Fin.ext ?_))
  · dsimp only; omega
  · dsimp only
    split_ifs <;> omega

/-- The value columns of the joined array are the values. -/
theorem REF_value (z : FVec Ideal S8704x6224 .f32) (b : Fin 4) (r : Fin 2064) (h : Fin 4) (j : Fin 128) :
    REF z (ix2 ⟨b.val * 2176 + r.val, by omega⟩ ⟨4608 + (h.val * 128 + j.val), by omega⟩) = cacheV z (ix4 b r h j) := by
  rw [cacheV_apply, REF_apply]
  unfold GA
  rw [if_neg (by dsimp only; omega), if_neg (by dsimp only; omega)]
  unfold padCols permA
  rw [dif_pos (by dsimp only; omega)]
  refine congrArg z (congrArg (ix2 _) (Fin.ext ?_))
  dsimp only
  split_ifs <;> omega

/-- The 64 columns of the indexer's key in the joined array are the rotated key. -/
theorem REF_index (z : FVec Ideal S8704x6224 .f32) (b : Fin 4) (r : Fin 2064) (j : Fin 64) :
    REF z (ix2 ⟨b.val * 2176 + r.val, by omega⟩ ⟨6144 + j.val, by omega⟩) = cacheJ z (ix3 b r j) := by
  unfold cacheJ
  rw [realJ_apply, ropeJ_apply, REF_apply]
  simp only [headJ]
  unfold GA
  rw [if_neg (by dsimp only; omega), if_pos (by dsimp only; omega)]
  have e1 : (b.val * 2176 + r.val) % 2176 = r.val := by omega
  have e2 : (⟨(6144 + j.val) % 64, Nat.mod_lt _ (by decide)⟩ : Fin 64) = j := Fin.ext (by dsimp only; omega)
  dsimp only
  rw [e1]
  refine congrArg₂ (fun v a => rope8 r.val v a) (funext fun c => ?_) e2
  have := c.isLt
  unfold padCols permA
  rw [dif_pos (by dsimp only; omega)]
  refine congrArg z (congrArg₂ ix2 (Fin.ext ?_) (Fin.ext ?_))
  · dsimp only; omega
  · dsimp only
    split_ifs <;> omega

end Cert.Reference4Ideal.InProj

namespace Cert.Kernel4Ideal.InProj

open Cert.Kernel4Ideal Cert.Kernel4Ideal.Gen Cert.Rope Idealize.ShloMosaic Idealize.ShloMosaic.TcCoe Idealize.SL.Sem
open Idealize.ShloMosaic.Pipeline (Dat)
open Cert.Reference4Ideal.InProj (REF REF_key REF_value REF_index cacheK cacheV cacheJ)

/-- What the kernel's host lines keep for the keys: the key columns of the real tokens. -/
def keptK (z : FVec Ideal S8704x6400 .f32) : FVec Ideal S4x2064x4x128 .f32 :=
  shapeCast S4x2064x4x128 (extractStridedSlice S4x2064x512 ![0, 0, 4096] (shapeCast S4x2176x6400 z shapeCasts_S8704x6400_S4x2176x6400) slices_S4x2176x6400_S4x2064x512_0_0_4096)
    shapeCasts_S4x2064x512_S4x2064x4x128

/-- What the kernel's host lines keep for the values: the value columns of the real tokens. -/
def keptV (z : FVec Ideal S8704x6400 .f32) : FVec Ideal S4x2064x4x128 .f32 :=
  shapeCast S4x2064x4x128 (extractStridedSlice S4x2064x512 ![0, 0, 4608] (shapeCast S4x2176x6400 z shapeCasts_S8704x6400_S4x2176x6400) slices_S4x2176x6400_S4x2064x512_0_0_4608)
    shapeCasts_S4x2064x512_S4x2064x4x128

/-- What the kernel's host lines keep for the indexer's key. -/
def keptJ (z : FVec Ideal S8704x6400 .f32) : FVec Ideal S4x2064x64 .f32 :=
  extractStridedSlice S4x2064x64 ![0, 0, 6144] (shapeCast S4x2176x6400 z shapeCasts_S8704x6400_S4x2176x6400) slices_S4x2176x6400_S4x2064x64_0_0_6144

theorem sliceJ_apply (f : FVec Ideal S4x2176x6400 .f32) (b : Fin 4) (r : Fin 2064) (j : Fin 64) :
    extractStridedSlice S4x2064x64 ![0, 0, 6144] f slices_S4x2176x6400_S4x2064x64_0_0_6144 (ix3 b r j) = f (ix3 b ⟨r.val, by omega⟩ ⟨6144 + j.val, by omega⟩) := by
  pointwise

theorem keptK_apply (z : FVec Ideal S8704x6400 .f32) (b : Fin 4) (r : Fin 2064) (h : Fin 4) (j : Fin 128) :
    keptK z (ix4 b r h j) = z (ix2 ⟨b.val * 2176 + r.val, by omega⟩ ⟨4096 + (h.val * 128 + j.val), by omega⟩) := by
  unfold keptK
  pointwise

theorem keptV_apply (z : FVec Ideal S8704x6400 .f32) (b : Fin 4) (r : Fin 2064) (h : Fin 4) (j : Fin 128) :
    keptV z (ix4 b r h j) = z (ix2 ⟨b.val * 2176 + r.val, by omega⟩ ⟨4608 + (h.val * 128 + j.val), by omega⟩) := by
  unfold keptV
  pointwise

theorem keptJ_apply (z : FVec Ideal S8704x6400 .f32) (b : Fin 4) (r : Fin 2064) (j : Fin 64) :
    keptJ z (ix3 b r j) = z (ix2 ⟨b.val * 2176 + r.val, by omega⟩ ⟨6144 + j.val, by omega⟩) := by
  unfold keptJ
  pointwise

theorem keptK_REF (z : FVec Ideal Cert.Reference4Ideal.S8704x6224 .f32) : keptK (REF z) = cacheK z := by
  funext y
  rw [eq_ix4 y]
  exact (keptK_apply _ _ _ _ _).trans (REF_key z _ _ _ _)

theorem keptV_REF (z : FVec Ideal Cert.Reference4Ideal.S8704x6224 .f32) : keptV (REF z) = cacheV z := by
  funext y
  rw [eq_ix4 y]
  exact (keptV_apply _ _ _ _ _).trans (REF_value z _ _ _ _)

theorem keptJ_REF (z : FVec Ideal Cert.Reference4Ideal.S8704x6224 .f32) : keptJ (REF z) = cacheJ z := by
  funext y
  rw [eq_ix3 y]
  exact (keptJ_apply _ _ _ _).trans (REF_index z _ _ _)

/-- The lines after the launch, from any contents: the keys. -/
theorem afterK (W : Valuation τ sig (Elt Ideal)) : StableHlo.after ([hostOps1].flatten) W (Proc.devRef .tc main_v76) = keptK (W (Proc.devRef .tc main_v73)) := by
  generalize hz : keptK (W (Proc.devRef .tc main_v73)) = k
  after_reads_at
  rw [← hz]
  funext y
  exact (keptK_apply _ (y 0) (y 1) (y 2) (y 3)).symm.trans (congrArg (keptK _) (ix4_eta y))

/-- The lines after the launch, from any contents: the values. -/
theorem afterV (W : Valuation τ sig (Elt Ideal)) : StableHlo.after ([hostOps1].flatten) W (Proc.devRef .tc main_v78) = keptV (W (Proc.devRef .tc main_v73)) := by
  generalize hz : keptV (W (Proc.devRef .tc main_v73)) = k
  after_reads_at
  rw [← hz]
  funext y
  exact (keptV_apply _ (y 0) (y 1) (y 2) (y 3)).symm.trans (congrArg (keptV _) (ix4_eta y))

/-- The lines after the launch, from any contents: the indexer's key. -/
theorem afterJ (W : Valuation τ sig (Elt Ideal)) : StableHlo.after ([hostOps1].flatten) W (Proc.devRef .tc main_v79) = keptJ (W (Proc.devRef .tc main_v73)) := by
  generalize hz : keptJ (W (Proc.devRef .tc main_v73)) = k
  after_reads_at
  rw [← hz]
  funext y
  exact (congrArg _ (eq_ix3 y)).trans ((sliceJ_apply _ (y 0) (y 1) (y 2)).trans ((keptJ_apply _ (y 0) (y 1) (y 2)).symm.trans (congrArg (keptJ _) (ix3_eta y))))

variable (m : (ℓ : Loc nD τ sig) → Buf (Elt Ideal) ℓ)

/-- After the launch the projection's array holds its last contents. -/
theorem kept (c : Dev nD) : Pipeline.withArrays (cfgs 0).spec c (V0 m c) (fun w => (dats m 0 c).arrAt w (cfgs 0).N) (Proc.tc.devRef main_v73)
    = REF (Zm m c) :=
  ((dats m 0 c).withArrays_arrAt sharedIn0 (V0 m c) (A_eq m c) 6).trans (final m c)

theorem finalK (c : Dev nD) : Pipeline.afterTail₀ cfgs (dats m) 0 (V0 m) [hostOps1] c main_v76 = cacheK (Zm m c) := by
  unfold Pipeline.afterTail₀
  exact (afterK _).trans ((congrArg keptK (kept m c)).trans (keptK_REF _))

theorem finalV (c : Dev nD) : Pipeline.afterTail₀ cfgs (dats m) 0 (V0 m) [hostOps1] c main_v78 = cacheV (Zm m c) := by
  unfold Pipeline.afterTail₀
  exact (afterV _).trans ((congrArg keptV (kept m c)).trans (keptV_REF _))

theorem finalJ (c : Dev nD) : Pipeline.afterTail₀ cfgs (dats m) 0 (V0 m) [hostOps1] c main_v79 = cacheJ (Zm m c) := by
  unfold Pipeline.afterTail₀
  exact (afterJ _).trans ((congrArg keptJ (kept m c)).trans (keptJ_REF _))

end Cert.Kernel4Ideal.InProj

end
-- ==== Proof.AOutValue.lean ====
module

public import proofs.«01_k».proof.Proof.Gen.Kernel5Ideal.Frame
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Kernel5Ideal.OutProj

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, 0] ∧ win0_1.index t = ![t.val / 4, 1] ∧ win0_2.index t = ![0, t.val % 4]
    ∧ win0_3.index t = ![t.val / 4, t.val % 4] ∧ win0_4.index t = ![t.val / 4, t.val % 4] :=
  (by decide +kernel : ∀ t : Fin grid0.N, _)

theorem out_A (c : Dev nD) (t : Fin cfg0.N) (h0 : t.val % 4 = 0) :
    (outsAt0 m c t.val t.isLt).1 = k0_pay2 (iblk m c 3 t) (k0_pay1 (X0_1 m c t) (iblk m c 0 t)) (iblk m c 2 t) := by
  rw [outsAt0_A m c t h0]
  frame_out

theorem scr_A (c : Dev nD) (t : Fin cfg0.N) (h0 : t.val % 4 = 0) :
    (outsAt0 m c t.val t.isLt).2 = k0_pay1 (X0_1 m c t) (iblk m c 0 t) := by
  rw [outsAt0_A m c t h0]
  frame_out

theorem out_B (c : Dev nD) (t : Fin cfg0.N) (h0 : ¬ t.val % 4 = 0) :
    (outsAt0 m c t.val t.isLt).1 = k0_pay2 (iblk m c 3 t) (outsAt0 m c (t.val - 1) (by have := t.isLt; omega)).2 (iblk m c 2 t) := by
  rw [outsAt0_B m c t h0]
  frame_out
  exact congrArg (fun v => k0_pay2 (iblk m c 3 t) v (iblk m c 2 t)) ((Memref.isWhole_whole cc0_scratch0).read_unread _)

theorem scr_B (c : Dev nD) (t : Fin cfg0.N) (h0 : ¬ t.val % 4 = 0) :
    (outsAt0 m c t.val t.isLt).2 = (outsAt0 m c (t.val - 1) (by have := t.isLt; omega)).2 := by
  rw [outsAt0_B m c t h0]
  unfold sout0_B_0
  dsimp only

theorem scr (c : Dev nD) : ∀ (q k : ℕ) (hk : k < 4) (h : 4 * q + k < cfg0.N) (h' : 4 * q < cfg0.N),
    (outsAt0 m c (4 * q + k) h).2 = k0_pay1 (X0_1 m c ⟨4 * q, h'⟩) (iblk m c 0 ⟨4 * q, h'⟩)
  | q, 0, _, _, h' => scr_A m c ⟨4 * q, h'⟩ (by simp only; omega)
  | q, k + 1, hk, h, h' => (scr_B m c ⟨4 * q + (k + 1), h⟩ (by simp only; omega)).trans (scr c q k (by omega) _ h')

/-- the first point of a row block -/
def head (t : Fin cfg0.N) : Fin cfg0.N := ⟨4 * (t.val / 4), by have := t.isLt; omega⟩

theorem out_eq (c : Dev nD) (t : Fin cfg0.N) :
    (outsAt0 m c t.val t.isLt).1 = k0_pay2 (iblk m c 3 t) (k0_pay1 (X0_1 m c (head t)) (iblk m c 0 (head t))) (iblk m c 2 t) := by
  by_cases h0 : t.val % 4 = 0
  · have e : head t = t := Fin.ext (show 4 * (t.val / 4) = t.val by omega)
    rw [out_A m c t h0, e]
  · rw [out_B m c t h0]
    have e : ∀ h, (outsAt0 m c (t.val - 1) h).2 = k0_pay1 (X0_1 m c (head t)) (iblk m c 0 (head t)) := by
      have e1 : t.val - 1 = 4 * (t.val / 4) + (t.val % 4 - 1) := by omega
      rw [e1]
      intro h
      exact scr m c (t.val / 4) (t.val % 4 - 1) (by omega) h (head t).isLt
    rw [e]

/-- What the call computes: the residual plus the gated rows times the output matrix (the gate in columns 2048 to 4095 of 6400). -/
def REF (o : FVec Ideal S8704x2048 .f32) (z : FVec Ideal S8704x6400 .f32) (w : FVec Ideal S2048x2048 .f32) (x : FVec Ideal S8704x2048 .f32) :
    FVec Ideal S8704x2048 .f32 :=
  addf x (Host.dotGeneral Cert.Reference5Ideal.dot_S8704x2048_S2048x2048_S8704x2048_1_0_0_1_n_n none (mulf o (mulf (extractStridedSlice S8704x2048 ![0, 2048] z Cert.Reference5Ideal.Gen.slices_S8704x6400_S8704x2048_0_2048) (Host.divf (broadcastInDim S8704x2048 ![] Cert.Reference5Ideal.Gen.bcast_S_S8704x2048 (constant Cert.Reference5Ideal.S_ .f32 0x3F800000#32)) (addf (broadcastInDim S8704x2048 ![] Cert.Reference5Ideal.Gen.bcast_S_S8704x2048 (constant Cert.Reference5Ideal.S_ .f32 0x3F800000#32)) (Host.exp (Host.negf (extractStridedSlice S8704x2048 ![0, 2048] z Cert.Reference5Ideal.Gen.slices_S8704x6400_S8704x2048_0_2048))))))) w)

/-- The gate block a point reads: rows of its row block, columns 2048 to 4095. -/
theorem gate_apply (c : Dev nD) (t : Fin cfg0.N) (r : Fin 544) (k : Fin 2048) (h : 544 * (t.val / 4) + r.val < 8704) :
    X0_1 m c t (ix2 r k) = m ((c : Thread nD τ).loc main_arg1) (ix2 ⟨544 * (t.val / 4) + r.val, h⟩ ⟨2048 + k.val, by omega⟩) := by
  unfold X0_1 Pipeline.Window.fill
  rw [dif_pos (moved0_1 t _)]
  blk_point [iblk, V, idx t]

theorem point (c : Dev nD) (t : Fin cfg0.N) (y : S544x512.Idx) :
    k0_pay2 (iblk m c 3 t) (k0_pay1 (X0_1 m c (head t)) (iblk m c 0 (head t))) (iblk m c 2 t) y
      = REF (m ((c : Thread nD τ).loc main_arg0)) (m ((c : Thread nD τ).loc main_arg1)) (m ((c : Thread nD τ).loc main_arg2))
          (m ((c : Thread nD τ).loc main_arg3)) (((cfg0.win 4).blk t).view.emb y) := by
  have hh : (head t).val = 4 * (t.val / 4) := rfl
  pointwise [k0_pay1, k0_pay2, REF]
  unfold Ideal.logistic
  blk_point [iblk, V, idx t, idx (head t), hh]
  all_goals
    have hr : 544 * ((head t).val / 4) + (y 0).val < 8704 := by omega
    refine (gate_apply m c (head t) (y 0) _ hr).trans (congrArg _ (congrArg (fun i => ix2 i _) ?_))
    refine Fin.ext (Eq.trans ?_ (?_ : 544 * (t.val / 4) + (y 0).val = _))
    · dsimp only; omega
    · blk_simp
      simp only [idx t]
      exact congrArg (· + (y 0).val) (Nat.mul_comm 544 (t.val / 4))

theorem final (c : Dev nD) : (dats m 0 c).arrAt 4 (cfgs 0).N
    = REF (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4, out_eq]
  exact point m c t y

end Cert.Kernel5Ideal.OutProj

end
-- ==== Proof.AClaims.lean ====
module

public import proofs.«01_k».proof.Defs
public import proofs.«01_k».proof.Proof.AInCache
public import proofs.«01_k».proof.Proof.AOutValue
public import Idealize.ShloMosaic.Lib.Claim

@[expose] public section

set_option maxRecDepth 16384

noncomputable section

namespace Cert.Proof

open Idealize.ShloMosaic Idealize.ShloMosaic.TcCoe Idealize.SL.Sem

/-- Equal arguments give equal products. -/
theorem agreeA (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' ((c.tc : Thread _ _).loc Cert.Reference4Ideal.main_arg0) = m ((c.tc : Thread _ _).loc Cert.Kernel4Ideal.main_arg0) ∧
      m' ((c.tc : Thread _ _).loc Cert.Reference4Ideal.main_arg1) = m ((c.tc : Thread _ _).loc Cert.Kernel4Ideal.main_arg1) ∧
      m' ((c.tc : Thread _ _).loc Cert.Reference4Ideal.main_arg2) = m ((c.tc : Thread _ _).loc Cert.Kernel4Ideal.main_arg2)) :
    Cert.Reference4Ideal.InProj.Zr m' c = Cert.Kernel4Ideal.InProj.Zm m c := by
  unfold Cert.Reference4Ideal.InProj.Zr
  rw [h.1, h.2.1, h.2.2]
  rfl

set_option maxHeartbeats 1600000 in
/-- The sparse layers' input projection: kernel and reference end with the same array, and the same keys, values and indexer's keys, over the reals. -/
theorem algebraicInA : Cert.algebraic_Kernel4Ideal_Reference4Ideal := by
  pair_intro
  · run_from Cert.Kernel4Ideal.Gen.run_main m g
    · exact Cert.Kernel4Ideal.Gen.W_main_arg1 m _ c
    · exact Cert.Kernel4Ideal.Gen.W_main_arg2 m _ c
  · run_from Cert.Reference4Ideal.Value.run m' g'
    · exact (show _ = Cert.Reference4Ideal.InProj.REF (Cert.Reference4Ideal.InProj.Zr m' c) from rfl).trans
        ((congrArg Cert.Reference4Ideal.InProj.REF (agreeA m m' c (hagree c))).trans (Cert.Kernel4Ideal.InProj.final m c).symm)
    · exact (congrArg Cert.Reference4Ideal.InProj.realK (Cert.Reference4Ideal.InProj.runK m' c)).trans
        ((congrArg Cert.Reference4Ideal.InProj.cacheK (agreeA m m' c (hagree c))).trans (Cert.Kernel4Ideal.InProj.finalK m c).symm)
    · rw [Cert.Reference4Ideal.InProj.runV]
      exact (congrArg Cert.Reference4Ideal.InProj.cacheV (agreeA m m' c (hagree c))).trans (Cert.Kernel4Ideal.InProj.finalV m c).symm
    · exact (congrArg Cert.Reference4Ideal.InProj.realJ (Cert.Reference4Ideal.InProj.runJ m' c)).trans
        ((congrArg Cert.Reference4Ideal.InProj.cacheJ (agreeA m m' c (hagree c))).trans (Cert.Kernel4Ideal.InProj.finalJ m c).symm)

/-- The sparse layers' output projection: kernel and reference end with the same array over the reals. -/
theorem algebraicOutA : Cert.algebraic_Kernel5Ideal_Reference5Ideal := by
  pair_intro
  · run_from Cert.Kernel5Ideal.Gen.run_main m g
  · run_from Cert.Reference5Ideal.Value.run m' g'
    exact (Cert.Kernel5Ideal.OutProj.final m c).symm

end Cert.Proof

end
-- ==== Proof.NormValue.lean ====
module

public import proofs.«01_k».proof.Proof.Gen.Kernel6Ideal.Frame
public import proofs.«01_k».proof.Proof.Gen.Reference6Ideal.Run
public import proofs.«01_k».proof.Defs
public import Idealize.ShloMosaic.Lib.Claim
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel6Ideal.Norm

open Cert.Kernel6Ideal Cert.Kernel6Ideal.Gen Idealize.ShloMosaic Idealize.ShloMosaic.TcCoe Idealize.SL.Sem
open Idealize.ShloMosaic.Pipeline (Dat)

/-- One row normalised: its entries over the root of their mean square, times the gain. -/
def normed (v g : Fin 2048 → EReal) (k : Fin 2048) : EReal :=
  v k * Ideal.rsqrt (Ideal.div (∑ j, v j * v j) (Ideal.ofBits .f32 0x45000000#32) + Ideal.ofBits .f32 0x358637BD#32) * g k

theorem pay (X : Vec Ideal S1088x2048 .f32) (g : Vec Ideal S1x2048 .f32) (r : Fin 1088) (k : Fin 2048) :
    (k0_pay1 (F := Ideal) X g (ix2 r k) : EReal) = normed (fun j => X (ix2 r j)) (fun j => g (ix2 0 j)) k := by
  pointwise [k0_pay1]
  rfl

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- What the call leaves in its result: every row normalised. -/
def G (x : FVec Ideal S8704x2048 .f32) (g : FVec Ideal S2048 .f32) : FVec Ideal S8704x2048 .f32 :=
  fun y => normed (fun j => x (ix2 (y 0) j)) (fun j => g (ix1 j)) (y 1)

theorem gain_at (c : Dev nD) (t : Fin cfg0.N) (k : Fin 2048) :
    (iblk m c 1 t (ix2 0 k) : EReal) = m ((c : Thread nD τ).loc main_arg1) (ix1 k) := by
  blk_simp [iblk]
  unfold V
  after_reads_at
  blk_ext [idx t]

theorem row_at (c : Dev nD) (t : Fin cfg0.N) (r : Fin 1088) (k : Fin 2048) (i : Fin 8704) (hi : i.val = 1088 * t.val + r.val) :
    (iblk m c 0 t (ix2 r k) : EReal) = m ((c : Thread nD τ).loc main_arg0) (ix2 i k) := by
  blk_point [iblk, V, idx t]

theorem place_at (t : Fin cfg0.N) (F : S8704x2048.Idx → EReal) (r : Fin 1088) (k : Fin 2048) (i : Fin 8704) (hi : i.val = 1088 * t.val + r.val) :
    F (((cfg0.win 2).blk t).view.emb (ix2 r k)) = F (ix2 i k) := by
  blk_point [idx t]

theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2]
  have ht : t.val < 8 := t.isLt
  have l0 : (y 0).val < 1088 := (y 0).isLt
  have e : y = (ix2 (y 0) (y 1) : S1088x2048.Idx) := by
    funext a; apply Fin.ext; fin_cases a <;> rfl
  have eo : out0_2 (iblk m c 0 t) (iblk m c 1 t) = k0_pay1 (iblk m c 0 t) (iblk m c 1 t) := by
    frame_out
  rw [e, eo]
  refine (pay _ _ _ _).trans (Eq.trans ?_ (place_at t _ (y 0) (y 1) ⟨1088 * t.val + (y 0).val, by omega⟩ rfl).symm)
  have hx := funext fun j => row_at m c t (y 0) j ⟨1088 * t.val + (y 0).val, by omega⟩ rfl
  have hg := funext fun j => gain_at m c t j
  exact (congrArg (fun v => normed v _ (y 1)) hx).trans (congrArg (fun g => normed _ g (y 1)) hg)

open Cert.Reference6Ideal Cert.Reference6Ideal.Gen in
/-- The reference's result as its lines compose it. -/
def REF (x : FVec Ideal Cert.Reference6Ideal.S8704x2048 .f32) (g : FVec Ideal Cert.Reference6Ideal.S2048 .f32) : FVec Ideal Cert.Reference6Ideal.S4x2048x2048 .f32 :=
  let h := extractStridedSlice Cert.Reference6Ideal.S4x2064x2048 ![0, 0, 0] (shapeCast Cert.Reference6Ideal.S4x2176x2048 x Cert.Reference6Ideal.Gen.shapeCasts_S8704x2048_S4x2176x2048) slices_S4x2176x2048_S4x2064x2048_0_0_0
  extractStridedSlice Cert.Reference6Ideal.S4x2048x2048 ![0, 16, 0] (mulf (mulf h
    (broadcastInDim S4x2064x2048 ![0, 1, 2] bcast_S4x2064x1_S4x2064x2048_0_1_2 (Host.rsqrt (addf (Host.divf
      (broadcastInDim S4x2064x1 ![0, 1] bcast_S4x2064_S4x2064x1_0_1 (Host.reduceAdd (mulf h h) (constant Cert.Reference6Ideal.S_ .f32 0x00000000#32) reducesTo_S4x2064x2048_S4x2064_d2 Cert.Reference6Ideal.Gen.h_S_))
      (broadcastInDim S4x2064x1 ![] bcast_S_S4x2064x1 (constant Cert.Reference6Ideal.S_ .f32 0x45000000#32)))
      (broadcastInDim S4x2064x1 ![] bcast_S_S4x2064x1 (constant Cert.Reference6Ideal.S_ .f32 0x358637BD#32))))))
    (broadcastInDim S4x2064x2048 ![0, 1, 2] bcast_S1x1x2048_S4x2064x2048_0_1_2 (broadcastInDim S1x1x2048 ![2] bcast_S2048_S1x1x2048_2 g)))
    Cert.Reference6Ideal.Gen.slices_S4x2064x2048_S4x2048x2048_0_16_0

/-- The rows the caller keeps, of an array of rows: the padding rows and the meta tokens' dropped. -/
def kept (z : FVec Ideal S8704x2048 .f32) : FVec Ideal S4x2048x2048 .f32 :=
  extractStridedSlice S4x2048x2048 ![0, 16, 0] (shapeCast S4x2176x2048 z shapeCasts_S8704x2048_S4x2176x2048) slices_S4x2176x2048_S4x2048x2048_0_16_0

theorem kept_apply (z : FVec Ideal S8704x2048 .f32) (a : Fin 4) (r k : Fin 2048) :
    kept z (ix3 a r k) = z (ix2 ⟨a.val * 2176 + (16 + r.val), by omega⟩ k) := by
  pointwise [kept]

theorem REF_apply (x : FVec Ideal S8704x2048 .f32) (g : FVec Ideal S2048 .f32) (a : Fin 4) (r k : Fin 2048) :
    (REF x g (ix3 a r k) : EReal) = normed (fun j => x (ix2 ⟨a.val * 2176 + (16 + r.val), by omega⟩ j)) (fun j => g (ix1 j)) k := by
  pointwise [REF]
  rfl

theorem REF_eq (x : FVec Ideal S8704x2048 .f32) (g : FVec Ideal S2048 .f32) : REF x g = kept (G x g) := by
  funext y
  have e : y = (ix3 (y 0) (y 1) (y 2) : S4x2048x2048.Idx) := by
    funext a; apply Fin.ext; fin_cases a <;> rfl
  rw [e]
  exact (REF_apply x g (y 0) (y 1) (y 2)).trans (kept_apply (G x g) (y 0) (y 1) (y 2)).symm

/-- The program's result, read through the lines after the call. -/
theorem tail (c : Dev nD) : Pipeline.afterTail₀ cfgs (dats m) 0 (V0 m) [hostOps1] c main_v3
    = kept (G (m ((c : Thread nD τ).loc main_arg0)) (m ((c : Thread nD τ).loc main_arg1))) := by
  have h : Pipeline.withArrays (cfgs 0).spec c (V0 m c) (fun w => (dats m 0 c).arrAt w (cfgs 0).N) (Proc.tc.devRef main_v1) = (dats m 0 c).arrAt 2 (cfgs 0).N :=
    Pipeline.withArrays_arr (cfgs 0).spec (by decide) c (V0 m c) (fun w => (dats m 0 c).arrAt w (cfgs 0).N) 2
  rw [← final m c, ← h]
  unfold Pipeline.afterTail₀
  after_reads_at
  generalize Pipeline.withArrays (cfgs 0).spec c (V0 m c) (fun w => (dats m 0 c).arrAt w (cfgs 0).N) (Proc.tc.devRef main_v1) = z
  funext y
  pointwise [kept]

/-- The final norm of the prompt: kernel and reference end with the same array over the reals. -/
theorem algebraicNorm : Cert.algebraic_Kernel6Ideal_Reference6Ideal := by
  pair_intro
  · run_from Cert.Kernel6Ideal.Gen.run_main m g
    exact W_main_arg1 m _ c
  · run_from Cert.Reference6Ideal.Value.run m' g'
    rw [tail m c]
    exact REF_eq _ _

end Cert.Kernel6Ideal.Norm

end
-- ==== Proof.NormSample.lean ====
module

public import proofs.«01_k».proof.Proof.Gen.Kernel7Ideal.Frame
public import proofs.«01_k».proof.Proof.Gen.Reference7Ideal.Run
public import proofs.«01_k».proof.Proof.NormValue

@[expose] public section

set_option maxRecDepth 16384

noncomputable section

namespace Cert.Kernel7Ideal.Norm

open Cert.Kernel7Ideal Cert.Kernel7Ideal.Gen Idealize.ShloMosaic Idealize.ShloMosaic.TcCoe Idealize.SL.Sem
open Idealize.ShloMosaic.Pipeline (Dat)
open Cert.Kernel6Ideal.Norm (normed)

theorem pay (X : Vec Ideal S16x2048 .f32) (g : Vec Ideal S1x2048 .f32) (r : Fin 16) (k : Fin 2048) :
    (k0_pay1 (F := Ideal) X g (ix2 r k) : EReal) = normed (fun j => X (ix2 r j)) (fun j => g (ix2 0 j)) k := by
  pointwise [k0_pay1]
  rfl

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

/-- What the call leaves in its result: every row normalised. -/
def G (x : FVec Ideal S16x2048 .f32) (g : FVec Ideal S2048 .f32) : FVec Ideal S16x2048 .f32 :=
  fun y => normed (fun j => x (ix2 (y 0) j)) (fun j => g (ix1 j)) (y 1)

theorem gain_at (c : Dev nD) (t : Fin cfg0.N) (k : Fin 2048) :
    (iblk m c 1 t (ix2 0 k) : EReal) = m ((c : Thread nD τ).loc main_arg1) (ix1 k) := by
  blk_simp [iblk]
  unfold V
  after_reads_at
  blk_ext [idx t]

theorem row_at (c : Dev nD) (t : Fin cfg0.N) (r : Fin 16) (k : Fin 2048) :
    (iblk m c 0 t (ix2 r k) : EReal) = m ((c : Thread nD τ).loc main_arg0) (ix2 r k) := by
  blk_point [iblk, V, idx t]

theorem place_at (t : Fin cfg0.N) (F : S16x2048.Idx → EReal) (r : Fin 16) (k : Fin 2048) :
    F (((cfg0.win 2).blk t).view.emb (ix2 r k)) = F (ix2 r k) := by
  blk_point [idx t]

theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2]
  have e : y = (ix2 (y 0) (y 1) : S16x2048.Idx) := by
    funext a; apply Fin.ext; fin_cases a <;> rfl
  have eo : out0_2 (iblk m c 0 t) (iblk m c 1 t) = k0_pay1 (iblk m c 0 t) (iblk m c 1 t) := by
    frame_out
  rw [e, eo]
  refine (pay _ _ _ _).trans (Eq.trans ?_ (place_at t _ (y 0) (y 1)).symm)
  have hx := funext fun j => row_at m c t (y 0) j
  have hg := funext fun j => gain_at m c t j
  exact (congrArg (fun v => normed v _ (y 1)) hx).trans (congrArg (fun g => normed _ g (y 1)) hg)

open Cert.Reference7Ideal Cert.Reference7Ideal.Gen in
/-- The reference's result as its lines compose it. -/
def REF (x : FVec Ideal Cert.Reference7Ideal.S16x2048 .f32) (g : FVec Ideal Cert.Reference7Ideal.S2048 .f32) : FVec Ideal Cert.Reference7Ideal.S8x1x2048 .f32 :=
  let h := shapeCast Cert.Reference7Ideal.S8x1x2048 (extractStridedSlice Cert.Reference7Ideal.S8x2048 ![0, 0] x Cert.Reference7Ideal.Gen.slices_S16x2048_S8x2048_0_0) Cert.Reference7Ideal.Gen.shapeCasts_S8x2048_S8x1x2048
  mulf (mulf h
    (broadcastInDim Cert.Reference7Ideal.S8x1x2048 ![0, 1, 2] bcast_S8x1x1_S8x1x2048_0_1_2 (Host.rsqrt (addf (Host.divf
      (broadcastInDim S8x1x1 ![0, 1] bcast_S8x1_S8x1x1_0_1 (Host.reduceAdd (mulf h h) (constant Cert.Reference7Ideal.S_ .f32 0x00000000#32) reducesTo_S8x1x2048_S8x1_d2 Cert.Reference7Ideal.Gen.h_S_))
      (broadcastInDim S8x1x1 ![] bcast_S_S8x1x1 (constant Cert.Reference7Ideal.S_ .f32 0x45000000#32)))
      (broadcastInDim S8x1x1 ![] bcast_S_S8x1x1 (constant Cert.Reference7Ideal.S_ .f32 0x358637BD#32))))))
    (broadcastInDim Cert.Reference7Ideal.S8x1x2048 ![0, 1, 2] bcast_S1x1x2048_S8x1x2048_0_1_2 (broadcastInDim S1x1x2048 ![2] bcast_S2048_S1x1x2048_2 g))

/-- The rows the caller keeps, of an array of rows: the padding rows dropped. -/
def kept (z : FVec Ideal S16x2048 .f32) : FVec Ideal S8x1x2048 .f32 :=
  shapeCast S8x1x2048 (extractStridedSlice S8x2048 ![0, 0] z slices_S16x2048_S8x2048_0_0) shapeCasts_S8x2048_S8x1x2048

theorem kept_apply (z : FVec Ideal S16x2048 .f32) (a : Fin 8) (r : Fin 1) (k : Fin 2048) :
    kept z (ix3 a r k) = z (ix2 ⟨a.val, by omega⟩ k) := by
  pointwise [kept]

theorem REF_apply (x : FVec Ideal S16x2048 .f32) (g : FVec Ideal S2048 .f32) (a : Fin 8) (r : Fin 1) (k : Fin 2048) :
    (REF x g (ix3 a r k) : EReal) = normed (fun j => x (ix2 ⟨a.val, by omega⟩ j)) (fun j => g (ix1 j)) k := by
  pointwise [REF]
  rfl

theorem REF_eq (x : FVec Ideal S16x2048 .f32) (g : FVec Ideal S2048 .f32) : REF x g = kept (G x g) := by
  funext y
  have e : y = (ix3 (y 0) (y 1) (y 2) : S8x1x2048.Idx) := by
    funext a; apply Fin.ext; fin_cases a <;> rfl
  rw [e]
  exact (REF_apply x g (y 0) (y 1) (y 2)).trans (kept_apply (G x g) (y 0) (y 1) (y 2)).symm

/-- The program's result, read through the lines after the call. -/
theorem tail (c : Dev nD) : Pipeline.afterTail₀ cfgs (dats m) 0 (V0 m) [hostOps1] c main_v3
    = kept (G (m ((c : Thread nD τ).loc main_arg0)) (m ((c : Thread nD τ).loc main_arg1))) := by
  have h : Pipeline.withArrays (cfgs 0).spec c (V0 m c) (fun w => (dats m 0 c).arrAt w (cfgs 0).N) (Proc.tc.devRef main_v1) = (dats m 0 c).arrAt 2 (cfgs 0).N :=
    Pipeline.withArrays_arr (cfgs 0).spec (by decide) c (V0 m c) (fun w => (dats m 0 c).arrAt w (cfgs 0).N) 2
  rw [← final m c, ← h]
  unfold Pipeline.afterTail₀
  after_reads_at
  generalize Pipeline.withArrays (cfgs 0).spec c (V0 m c) (fun w => (dats m 0 c).arrAt w (cfgs 0).N) (Proc.tc.devRef main_v1) = z
  funext y
  pointwise [kept]

/-- The final norm of the sample batch: kernel and reference end with the same array over the reals. -/
theorem algebraicNorm : Cert.algebraic_Kernel7Ideal_Reference7Ideal := by
  pair_intro
  · run_from Cert.Kernel7Ideal.Gen.run_main m g
    exact W_main_arg1 m _ c
  · run_from Cert.Reference7Ideal.Value.run m' g'
    rw [tail m c]
    exact REF_eq _ _

end Cert.Kernel7Ideal.Norm

end
-- ==== Proof.lean ====
module

public import proofs.«01_k».proof.Defs
public import proofs.«01_k».proof.Proof.K.RunFrame
public import proofs.«01_k».proof.Proof.AttnClaim
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.OutClaim
public import proofs.«01_k».proof.Proof.InClaim
public import proofs.«01_k».proof.Proof.AClaims
public import proofs.«01_k».proof.Proof.NormSample
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import Idealize.ShloMosaic.Lib.Claim

@[expose] public section

set_option maxRecDepth 16384

noncomputable section

namespace Cert.Proof

open Idealize.ShloMosaic Idealize.ShloMosaic.TcCoe Idealize.SL.Sem

theorem frame_ref2 : Cert.quiescent_Reference2Ideal := by
  intro m g _
  exact (θ_run Cert.Reference2Ideal.defs _ _).mono (fun r h => ⟨fun c => (h c).2, sem_eq_zero_of_no_sems (by decide) r.2⟩)
    (Cert.Reference2Ideal.Value.run m g)

theorem frame_ref3 : Cert.quiescent_Reference3Ideal := by
  intro m g _
  exact (θ_run Cert.Reference3Ideal.defs _ _).mono (fun r h => ⟨fun c => (h c).2.2.2, sem_eq_zero_of_no_sems (by decide) r.2⟩)
    (Cert.Reference3Ideal.Value.run m g)

theorem frame_ref4 : Cert.quiescent_Reference4Ideal := by
  intro m g _
  exact (θ_run Cert.Reference4Ideal.defs _ _).mono (fun r h => ⟨fun c => (h c).2.2.2.2, sem_eq_zero_of_no_sems (by decide) r.2⟩)
    (Cert.Reference4Ideal.Value.run m g)

theorem frame_ref5 : Cert.quiescent_Reference5Ideal := by
  intro m g _
  exact (θ_run Cert.Reference5Ideal.defs _ _).mono (fun r h => ⟨fun c => (h c).2, sem_eq_zero_of_no_sems (by decide) r.2⟩)
    (Cert.Reference5Ideal.Value.run m g)

theorem frame_ref6 : Cert.quiescent_Reference6Ideal := by
  intro m g _
  exact (θ_run Cert.Reference6Ideal.defs _ _).mono (fun r h => ⟨fun c => (h c).2, sem_eq_zero_of_no_sems (by decide) r.2⟩)
    (Cert.Reference6Ideal.Value.run m g)

theorem frame_ref7 : Cert.quiescent_Reference7Ideal := by
  intro m g _
  exact (θ_run Cert.Reference7Ideal.defs _ _).mono (fun r h => ⟨fun c => (h c).2, sem_eq_zero_of_no_sems (by decide) r.2⟩)
    (Cert.Reference7Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, finiteFacts,
  fun m ρ _ => Cert.Kernel.Body.frame m ρ, fun m ρ _ => Cert.KernelIdeal.Body.frame m ρ, fun m ρ _ => Cert.KernelIdeal.Body.frame m ρ,
  frame_ref, fun m ρ _ => frame_ref m ρ trivial,
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, frame_ref4,
  fun m ρ _ => Cert.Kernel5.Gen.frame m ρ, fun m ρ _ => Cert.Kernel5Ideal.Gen.frame m ρ, frame_ref5,
  fun m ρ _ => Cert.Kernel6.Gen.frame m ρ, fun m ρ _ => Cert.Kernel6Ideal.Gen.frame m ρ, frame_ref6,
  fun m ρ _ => Cert.Kernel7.Gen.frame m ρ, fun m ρ _ => Cert.Kernel7Ideal.Gen.frame m ρ, frame_ref7,
  preservesAttn, algebraicAttn, trivial, algebraicOut, trivial, algebraicIn, trivial, algebraicInA, trivial, algebraicOutA,
  trivial, Cert.Kernel6Ideal.Norm.algebraicNorm, trivial, Cert.Kernel7Ideal.Norm.algebraicNorm⟩

end Cert.Proof

end
